-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WO (m : (ℓ : Loc Cert.WO.nD Cert.WO.τ Cert.WO.sig) → Buf (Elt Bits) ℓ) : Prop :=
  True

def Pre_WOIdeal (m : (ℓ : Loc Cert.WOIdeal.nD Cert.WOIdeal.τ Cert.WOIdeal.sig) → Buf (Elt Ideal) ℓ) : Prop :=
  True

def Pre_WORefIdeal (m : (ℓ : Loc Cert.WORefIdeal.nD Cert.WORefIdeal.τ Cert.WORefIdeal.sig) → Buf (Elt Ideal) ℓ) : Prop :=
  True

def Pre_DQ (m : (ℓ : Loc Cert.DQ.nD Cert.DQ.τ Cert.DQ.sig) → Buf (Elt Bits) ℓ) : Prop :=
  True

def Pre_DQIdeal (m : (ℓ : Loc Cert.DQIdeal.nD Cert.DQIdeal.τ Cert.DQIdeal.sig) → Buf (Elt Ideal) ℓ) : Prop :=
  True

def Pre_DQRefIdeal (m : (ℓ : Loc Cert.DQRefIdeal.nD Cert.DQRefIdeal.τ Cert.DQRefIdeal.sig) → Buf (Elt Ideal) ℓ) : Prop :=
  True

def Pre_UQ (m : (ℓ : Loc Cert.UQ.nD Cert.UQ.τ Cert.UQ.sig) → Buf (Elt Bits) ℓ) : Prop :=
  True

def Pre_UQIdeal (m : (ℓ : Loc Cert.UQIdeal.nD Cert.UQIdeal.τ Cert.UQIdeal.sig) → Buf (Elt Ideal) ℓ) : Prop :=
  True

def Pre_UQRefIdeal (m : (ℓ : Loc Cert.UQRefIdeal.nD Cert.UQRefIdeal.τ Cert.UQRefIdeal.sig) → Buf (Elt Ideal) ℓ) : Prop :=
  True

def Pre_DKV (m : (ℓ : Loc Cert.DKV.nD Cert.DKV.τ Cert.DKV.sig) → Buf (Elt Bits) ℓ) : Prop :=
  True

def Pre_DKVIdeal (m : (ℓ : Loc Cert.DKVIdeal.nD Cert.DKVIdeal.τ Cert.DKVIdeal.sig) → Buf (Elt Ideal) ℓ) : Prop :=
  True

def Pre_DKVRefIdeal (m : (ℓ : Loc Cert.DKVRefIdeal.nD Cert.DKVRefIdeal.τ Cert.DKVRefIdeal.sig) → Buf (Elt Ideal) ℓ) : Prop :=
  True

def Pre_KVPost (m : (ℓ : Loc Cert.KVPost.nD Cert.KVPost.τ Cert.KVPost.sig) → Buf (Elt Bits) ℓ) : Prop :=
  True

def Pre_KVPostIdeal (m : (ℓ : Loc Cert.KVPostIdeal.nD Cert.KVPostIdeal.τ Cert.KVPostIdeal.sig) → Buf (Elt Ideal) ℓ) : Prop :=
  True

def Pre_KVPostRefIdeal (m : (ℓ : Loc Cert.KVPostRefIdeal.nD Cert.KVPostRefIdeal.τ Cert.KVPostRefIdeal.sig) → Buf (Elt Ideal) ℓ) : Prop :=
  True

def Pre_KS (m : (ℓ : Loc Cert.KS.nD Cert.KS.τ Cert.KS.sig) → Buf (Elt Bits) ℓ) : Prop :=
  True

def Pre_KSIdeal (m : (ℓ : Loc Cert.KSIdeal.nD Cert.KSIdeal.τ Cert.KSIdeal.sig) → Buf (Elt Ideal) ℓ) : Prop :=
  True

def Pre_KSRefIdeal (m : (ℓ : Loc Cert.KSRefIdeal.nD Cert.KSRefIdeal.τ Cert.KSRefIdeal.sig) → Buf (Elt Ideal) ℓ) : Prop :=
  True

def Pre_VS (m : (ℓ : Loc Cert.VS.nD Cert.VS.τ Cert.VS.sig) → Buf (Elt Bits) ℓ) : Prop :=
  True

def Pre_VSIdeal (m : (ℓ : Loc Cert.VSIdeal.nD Cert.VSIdeal.τ Cert.VSIdeal.sig) → Buf (Elt Ideal) ℓ) : Prop :=
  True

def Pre_VSRefIdeal (m : (ℓ : Loc Cert.VSRefIdeal.nD Cert.VSRefIdeal.τ Cert.VSRefIdeal.sig) → Buf (Elt Ideal) ℓ) : Prop :=
  True

def Pre_KP (m : (ℓ : Loc Cert.KP.nD Cert.KP.τ Cert.KP.sig) → Buf (Elt Bits) ℓ) : Prop :=
  True

def Pre_KPIdeal (m : (ℓ : Loc Cert.KPIdeal.nD Cert.KPIdeal.τ Cert.KPIdeal.sig) → Buf (Elt Ideal) ℓ) : Prop :=
  True

def Pre_KPRefIdeal (m : (ℓ : Loc Cert.KPRefIdeal.nD Cert.KPRefIdeal.τ Cert.KPRefIdeal.sig) → Buf (Elt Ideal) ℓ) : Prop :=
  True

def Pre_VP (m : (ℓ : Loc Cert.VP.nD Cert.VP.τ Cert.VP.sig) → Buf (Elt Bits) ℓ) : Prop :=
  True

def Pre_VPIdeal (m : (ℓ : Loc Cert.VPIdeal.nD Cert.VPIdeal.τ Cert.VPIdeal.sig) → Buf (Elt Ideal) ℓ) : Prop :=
  True

def Pre_VPRefIdeal (m : (ℓ : Loc Cert.VPRefIdeal.nD Cert.VPRefIdeal.τ Cert.VPRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_WO [hWO : Cert.WO.Facts] : Prop :=
  ∀ (m : (ℓ : Loc Cert.WO.nD Cert.WO.τ Cert.WO.sig) → Buf (Elt Bits) ℓ) (g : Dev Cert.WO.nD → PrngReg), Pre_WO m →
    θ_run (Cert.WO.defs (F := Bits)) (onTc (τ := Cert.WO.τ) (Cert.WO.main (F := Bits))) ⟨m, fun _ => 0, g⟩ (fun r => (∀ c : Dev Cert.WO.nD,
      r.2.mem ((c.tc : Thread Cert.WO.nD Cert.WO.τ).loc Cert.WO.main_arg0) = m ((c.tc : Thread Cert.WO.nD Cert.WO.τ).loc Cert.WO.main_arg0)
      ∧ r.2.mem ((c.tc : Thread Cert.WO.nD Cert.WO.τ).loc Cert.WO.main_arg1) = m ((c.tc : Thread Cert.WO.nD Cert.WO.τ).loc Cert.WO.main_arg1))
      ∧ r.2.sem = fun _ => 0)

def quiescent_WOIdeal [hWOIdeal : Cert.WOIdeal.Facts] : Prop :=
  ∀ (m : (ℓ : Loc Cert.WOIdeal.nD Cert.WOIdeal.τ Cert.WOIdeal.sig) → Buf (Elt Ideal) ℓ) (g : Dev Cert.WOIdeal.nD → PrngReg), Pre_WOIdeal m →
    θ_run (Cert.WOIdeal.defs (F := Ideal)) (onTc (τ := Cert.WOIdeal.τ) (Cert.WOIdeal.main (F := Ideal))) ⟨m, fun _ => 0, g⟩ (fun r => (∀ c : Dev Cert.WOIdeal.nD,
      r.2.mem ((c.tc : Thread Cert.WOIdeal.nD Cert.WOIdeal.τ).loc Cert.WOIdeal.main_arg0) = m ((c.tc : Thread Cert.WOIdeal.nD Cert.WOIdeal.τ).loc Cert.WOIdeal.main_arg0)
      ∧ r.2.mem ((c.tc : Thread Cert.WOIdeal.nD Cert.WOIdeal.τ).loc Cert.WOIdeal.main_arg1) = m ((c.tc : Thread Cert.WOIdeal.nD Cert.WOIdeal.τ).loc Cert.WOIdeal.main_arg1))
      ∧ r.2.sem = fun _ => 0)

def quiescent_WORefIdeal [hWORefIdeal : Cert.WORefIdeal.Facts] : Prop :=
  ∀ (m : (ℓ : Loc Cert.WORefIdeal.nD Cert.WORefIdeal.τ Cert.WORefIdeal.sig) → Buf (Elt Ideal) ℓ) (g : Dev Cert.WORefIdeal.nD → PrngReg), Pre_WORefIdeal m →
    θ_run (Cert.WORefIdeal.defs (F := Ideal)) (onTc (τ := Cert.WORefIdeal.τ) (Cert.WORefIdeal.main (F := Ideal))) ⟨m, fun _ => 0, g⟩ (fun r => (∀ c : Dev Cert.WORefIdeal.nD,
      r.2.mem ((c.tc : Thread Cert.WORefIdeal.nD Cert.WORefIdeal.τ).loc Cert.WORefIdeal.main_arg0) = m ((c.tc : Thread Cert.WORefIdeal.nD Cert.WORefIdeal.τ).loc Cert.WORefIdeal.main_arg0)
      ∧ r.2.mem ((c.tc : Thread Cert.WORefIdeal.nD Cert.WORefIdeal.τ).loc Cert.WORefIdeal.main_arg1) = m ((c.tc : Thread Cert.WORefIdeal.nD Cert.WORefIdeal.τ).loc Cert.WORefIdeal.main_arg1))
      ∧ r.2.sem = fun _ => 0)

def quiescent_DQ [hDQ : Cert.DQ.Facts] : Prop :=
  ∀ (m : (ℓ : Loc Cert.DQ.nD Cert.DQ.τ Cert.DQ.sig) → Buf (Elt Bits) ℓ) (g : Dev Cert.DQ.nD → PrngReg), Pre_DQ m →
    θ_run (Cert.DQ.defs (F := Bits)) (onTc (τ := Cert.DQ.τ) (Cert.DQ.main (F := Bits))) ⟨m, fun _ => 0, g⟩ (fun r => (∀ c : Dev Cert.DQ.nD,
      r.2.mem ((c.tc : Thread Cert.DQ.nD Cert.DQ.τ).loc Cert.DQ.main_arg0) = m ((c.tc : Thread Cert.DQ.nD Cert.DQ.τ).loc Cert.DQ.main_arg0)
      ∧ r.2.mem ((c.tc : Thread Cert.DQ.nD Cert.DQ.τ).loc Cert.DQ.main_arg1) = m ((c.tc : Thread Cert.DQ.nD Cert.DQ.τ).loc Cert.DQ.main_arg1)
      ∧ r.2.mem ((c.tc : Thread Cert.DQ.nD Cert.DQ.τ).loc Cert.DQ.main_arg2) = m ((c.tc : Thread Cert.DQ.nD Cert.DQ.τ).loc Cert.DQ.main_arg2))
      ∧ r.2.sem = fun _ => 0)

def quiescent_DQIdeal [hDQIdeal : Cert.DQIdeal.Facts] : Prop :=
  ∀ (m : (ℓ : Loc Cert.DQIdeal.nD Cert.DQIdeal.τ Cert.DQIdeal.sig) → Buf (Elt Ideal) ℓ) (g : Dev Cert.DQIdeal.nD → PrngReg), Pre_DQIdeal m →
    θ_run (Cert.DQIdeal.defs (F := Ideal)) (onTc (τ := Cert.DQIdeal.τ) (Cert.DQIdeal.main (F := Ideal))) ⟨m, fun _ => 0, g⟩ (fun r => (∀ c : Dev Cert.DQIdeal.nD,
      r.2.mem ((c.tc : Thread Cert.DQIdeal.nD Cert.DQIdeal.τ).loc Cert.DQIdeal.main_arg0) = m ((c.tc : Thread Cert.DQIdeal.nD Cert.DQIdeal.τ).loc Cert.DQIdeal.main_arg0)
      ∧ r.2.mem ((c.tc : Thread Cert.DQIdeal.nD Cert.DQIdeal.τ).loc Cert.DQIdeal.main_arg1) = m ((c.tc : Thread Cert.DQIdeal.nD Cert.DQIdeal.τ).loc Cert.DQIdeal.main_arg1)
      ∧ r.2.mem ((c.tc : Thread Cert.DQIdeal.nD Cert.DQIdeal.τ).loc Cert.DQIdeal.main_arg2) = m ((c.tc : Thread Cert.DQIdeal.nD Cert.DQIdeal.τ).loc Cert.DQIdeal.main_arg2))
      ∧ r.2.sem = fun _ => 0)

def quiescent_DQRefIdeal [hDQRefIdeal : Cert.DQRefIdeal.Facts] : Prop :=
  ∀ (m : (ℓ : Loc Cert.DQRefIdeal.nD Cert.DQRefIdeal.τ Cert.DQRefIdeal.sig) → Buf (Elt Ideal) ℓ) (g : Dev Cert.DQRefIdeal.nD → PrngReg), Pre_DQRefIdeal m →
    θ_run (Cert.DQRefIdeal.defs (F := Ideal)) (onTc (τ := Cert.DQRefIdeal.τ) (Cert.DQRefIdeal.main (F := Ideal))) ⟨m, fun _ => 0, g⟩ (fun r => (∀ c : Dev Cert.DQRefIdeal.nD,
      r.2.mem ((c.tc : Thread Cert.DQRefIdeal.nD Cert.DQRefIdeal.τ).loc Cert.DQRefIdeal.main_arg0) = m ((c.tc : Thread Cert.DQRefIdeal.nD Cert.DQRefIdeal.τ).loc Cert.DQRefIdeal.main_arg0)
      ∧ r.2.mem ((c.tc : Thread Cert.DQRefIdeal.nD Cert.DQRefIdeal.τ).loc Cert.DQRefIdeal.main_arg1) = m ((c.tc : Thread Cert.DQRefIdeal.nD Cert.DQRefIdeal.τ).loc Cert.DQRefIdeal.main_arg1)
      ∧ r.2.mem ((c.tc : Thread Cert.DQRefIdeal.nD Cert.DQRefIdeal.τ).loc Cert.DQRefIdeal.main_arg2) = m ((c.tc : Thread Cert.DQRefIdeal.nD Cert.DQRefIdeal.τ).loc Cert.DQRefIdeal.main_arg2))
      ∧ r.2.sem = fun _ => 0)

def quiescent_UQ [hUQ : Cert.UQ.Facts] : Prop :=
  ∀ (m : (ℓ : Loc Cert.UQ.nD Cert.UQ.τ Cert.UQ.sig) → Buf (Elt Bits) ℓ) (g : Dev Cert.UQ.nD → PrngReg), Pre_UQ m →
    θ_run (Cert.UQ.defs (F := Bits)) (onTc (τ := Cert.UQ.τ) (Cert.UQ.main (F := Bits))) ⟨m, fun _ => 0, g⟩ (fun r => (∀ c : Dev Cert.UQ.nD,
      r.2.mem ((c.tc : Thread Cert.UQ.nD Cert.UQ.τ).loc Cert.UQ.main_arg0) = m ((c.tc : Thread Cert.UQ.nD Cert.UQ.τ).loc Cert.UQ.main_arg0)
      ∧ r.2.mem ((c.tc : Thread Cert.UQ.nD Cert.UQ.τ).loc Cert.UQ.main_arg1) = m ((c.tc : Thread Cert.UQ.nD Cert.UQ.τ).loc Cert.UQ.main_arg1)
      ∧ r.2.mem ((c.tc : Thread Cert.UQ.nD Cert.UQ.τ).loc Cert.UQ.main_arg2) = m ((c.tc : Thread Cert.UQ.nD Cert.UQ.τ).loc Cert.UQ.main_arg2))
      ∧ r.2.sem = fun _ => 0)

def quiescent_UQIdeal [hUQIdeal : Cert.UQIdeal.Facts] : Prop :=
  ∀ (m : (ℓ : Loc Cert.UQIdeal.nD Cert.UQIdeal.τ Cert.UQIdeal.sig) → Buf (Elt Ideal) ℓ) (g : Dev Cert.UQIdeal.nD → PrngReg), Pre_UQIdeal m →
    θ_run (Cert.UQIdeal.defs (F := Ideal)) (onTc (τ := Cert.UQIdeal.τ) (Cert.UQIdeal.main (F := Ideal))) ⟨m, fun _ => 0, g⟩ (fun r => (∀ c : Dev Cert.UQIdeal.nD,
      r.2.mem ((c.tc : Thread Cert.UQIdeal.nD Cert.UQIdeal.τ).loc Cert.UQIdeal.main_arg0) = m ((c.tc : Thread Cert.UQIdeal.nD Cert.UQIdeal.τ).loc Cert.UQIdeal.main_arg0)
      ∧ r.2.mem ((c.tc : Thread Cert.UQIdeal.nD Cert.UQIdeal.τ).loc Cert.UQIdeal.main_arg1) = m ((c.tc : Thread Cert.UQIdeal.nD Cert.UQIdeal.τ).loc Cert.UQIdeal.main_arg1)
      ∧ r.2.mem ((c.tc : Thread Cert.UQIdeal.nD Cert.UQIdeal.τ).loc Cert.UQIdeal.main_arg2) = m ((c.tc : Thread Cert.UQIdeal.nD Cert.UQIdeal.τ).loc Cert.UQIdeal.main_arg2))
      ∧ r.2.sem = fun _ => 0)

def quiescent_UQRefIdeal [hUQRefIdeal : Cert.UQRefIdeal.Facts] : Prop :=
  ∀ (m : (ℓ : Loc Cert.UQRefIdeal.nD Cert.UQRefIdeal.τ Cert.UQRefIdeal.sig) → Buf (Elt Ideal) ℓ) (g : Dev Cert.UQRefIdeal.nD → PrngReg), Pre_UQRefIdeal m →
    θ_run (Cert.UQRefIdeal.defs (F := Ideal)) (onTc (τ := Cert.UQRefIdeal.τ) (Cert.UQRefIdeal.main (F := Ideal))) ⟨m, fun _ => 0, g⟩ (fun r => (∀ c : Dev Cert.UQRefIdeal.nD,
      r.2.mem ((c.tc : Thread Cert.UQRefIdeal.nD Cert.UQRefIdeal.τ).loc Cert.UQRefIdeal.main_arg0) = m ((c.tc : Thread Cert.UQRefIdeal.nD Cert.UQRefIdeal.τ).loc Cert.UQRefIdeal.main_arg0)
      ∧ r.2.mem ((c.tc : Thread Cert.UQRefIdeal.nD Cert.UQRefIdeal.τ).loc Cert.UQRefIdeal.main_arg1) = m ((c.tc : Thread Cert.UQRefIdeal.nD Cert.UQRefIdeal.τ).loc Cert.UQRefIdeal.main_arg1)
      ∧ r.2.mem ((c.tc : Thread Cert.UQRefIdeal.nD Cert.UQRefIdeal.τ).loc Cert.UQRefIdeal.main_arg2) = m ((c.tc : Thread Cert.UQRefIdeal.nD Cert.UQRefIdeal.τ).loc Cert.UQRefIdeal.main_arg2))
      ∧ r.2.sem = fun _ => 0)

def quiescent_DKV [hDKV : Cert.DKV.Facts] : Prop :=
  ∀ (m : (ℓ : Loc Cert.DKV.nD Cert.DKV.τ Cert.DKV.sig) → Buf (Elt Bits) ℓ) (g : Dev Cert.DKV.nD → PrngReg), Pre_DKV m →
    θ_run (Cert.DKV.defs (F := Bits)) (onTc (τ := Cert.DKV.τ) (Cert.DKV.main (F := Bits))) ⟨m, fun _ => 0, g⟩ (fun r => (∀ c : Dev Cert.DKV.nD,
      r.2.mem ((c.tc : Thread Cert.DKV.nD Cert.DKV.τ).loc Cert.DKV.main_arg0) = m ((c.tc : Thread Cert.DKV.nD Cert.DKV.τ).loc Cert.DKV.main_arg0)
      ∧ r.2.mem ((c.tc : Thread Cert.DKV.nD Cert.DKV.τ).loc Cert.DKV.main_arg1) = m ((c.tc : Thread Cert.DKV.nD Cert.DKV.τ).loc Cert.DKV.main_arg1))
      ∧ r.2.sem = fun _ => 0)

def quiescent_DKVIdeal [hDKVIdeal : Cert.DKVIdeal.Facts] : Prop :=
  ∀ (m : (ℓ : Loc Cert.DKVIdeal.nD Cert.DKVIdeal.τ Cert.DKVIdeal.sig) → Buf (Elt Ideal) ℓ) (g : Dev Cert.DKVIdeal.nD → PrngReg), Pre_DKVIdeal m →
    θ_run (Cert.DKVIdeal.defs (F := Ideal)) (onTc (τ := Cert.DKVIdeal.τ) (Cert.DKVIdeal.main (F := Ideal))) ⟨m, fun _ => 0, g⟩ (fun r => (∀ c : Dev Cert.DKVIdeal.nD,
      r.2.mem ((c.tc : Thread Cert.DKVIdeal.nD Cert.DKVIdeal.τ).loc Cert.DKVIdeal.main_arg0) = m ((c.tc : Thread Cert.DKVIdeal.nD Cert.DKVIdeal.τ).loc Cert.DKVIdeal.main_arg0)
      ∧ r.2.mem ((c.tc : Thread Cert.DKVIdeal.nD Cert.DKVIdeal.τ).loc Cert.DKVIdeal.main_arg1) = m ((c.tc : Thread Cert.DKVIdeal.nD Cert.DKVIdeal.τ).loc Cert.DKVIdeal.main_arg1))
      ∧ r.2.sem = fun _ => 0)

def quiescent_DKVRefIdeal [hDKVRefIdeal : Cert.DKVRefIdeal.Facts] : Prop :=
  ∀ (m : (ℓ : Loc Cert.DKVRefIdeal.nD Cert.DKVRefIdeal.τ Cert.DKVRefIdeal.sig) → Buf (Elt Ideal) ℓ) (g : Dev Cert.DKVRefIdeal.nD → PrngReg), Pre_DKVRefIdeal m →
    θ_run (Cert.DKVRefIdeal.defs (F := Ideal)) (onTc (τ := Cert.DKVRefIdeal.τ) (Cert.DKVRefIdeal.main (F := Ideal))) ⟨m, fun _ => 0, g⟩ (fun r => (∀ c : Dev Cert.DKVRefIdeal.nD,
      r.2.mem ((c.tc : Thread Cert.DKVRefIdeal.nD Cert.DKVRefIdeal.τ).loc Cert.DKVRefIdeal.main_arg0) = m ((c.tc : Thread Cert.DKVRefIdeal.nD Cert.DKVRefIdeal.τ).loc Cert.DKVRefIdeal.main_arg0)
      ∧ r.2.mem ((c.tc : Thread Cert.DKVRefIdeal.nD Cert.DKVRefIdeal.τ).loc Cert.DKVRefIdeal.main_arg1) = m ((c.tc : Thread Cert.DKVRefIdeal.nD Cert.DKVRefIdeal.τ).loc Cert.DKVRefIdeal.main_arg1))
      ∧ r.2.sem = fun _ => 0)

def quiescent_KVPost [hKVPost : Cert.KVPost.Facts] : Prop :=
  ∀ (m : (ℓ : Loc Cert.KVPost.nD Cert.KVPost.τ Cert.KVPost.sig) → Buf (Elt Bits) ℓ) (g : Dev Cert.KVPost.nD → PrngReg), Pre_KVPost m →
    θ_run (Cert.KVPost.defs (F := Bits)) (onTc (τ := Cert.KVPost.τ) (Cert.KVPost.main (F := Bits))) ⟨m, fun _ => 0, g⟩ (fun r => (∀ c : Dev Cert.KVPost.nD,
      r.2.mem ((c.tc : Thread Cert.KVPost.nD Cert.KVPost.τ).loc Cert.KVPost.main_arg0) = m ((c.tc : Thread Cert.KVPost.nD Cert.KVPost.τ).loc Cert.KVPost.main_arg0)
      ∧ r.2.mem ((c.tc : Thread Cert.KVPost.nD Cert.KVPost.τ).loc Cert.KVPost.main_arg1) = m ((c.tc : Thread Cert.KVPost.nD Cert.KVPost.τ).loc Cert.KVPost.main_arg1)
      ∧ r.2.mem ((c.tc : Thread Cert.KVPost.nD Cert.KVPost.τ).loc Cert.KVPost.main_arg2) = m ((c.tc : Thread Cert.KVPost.nD Cert.KVPost.τ).loc Cert.KVPost.main_arg2))
      ∧ r.2.sem = fun _ => 0)

def quiescent_KVPostIdeal [hKVPostIdeal : Cert.KVPostIdeal.Facts] : Prop :=
  ∀ (m : (ℓ : Loc Cert.KVPostIdeal.nD Cert.KVPostIdeal.τ Cert.KVPostIdeal.sig) → Buf (Elt Ideal) ℓ) (g : Dev Cert.KVPostIdeal.nD → PrngReg), Pre_KVPostIdeal m →
    θ_run (Cert.KVPostIdeal.defs (F := Ideal)) (onTc (τ := Cert.KVPostIdeal.τ) (Cert.KVPostIdeal.main (F := Ideal))) ⟨m, fun _ => 0, g⟩ (fun r => (∀ c : Dev Cert.KVPostIdeal.nD,
      r.2.mem ((c.tc : Thread Cert.KVPostIdeal.nD Cert.KVPostIdeal.τ).loc Cert.KVPostIdeal.main_arg0) = m ((c.tc : Thread Cert.KVPostIdeal.nD Cert.KVPostIdeal.τ).loc Cert.KVPostIdeal.main_arg0)
      ∧ r.2.mem ((c.tc : Thread Cert.KVPostIdeal.nD Cert.KVPostIdeal.τ).loc Cert.KVPostIdeal.main_arg1) = m ((c.tc : Thread Cert.KVPostIdeal.nD Cert.KVPostIdeal.τ).loc Cert.KVPostIdeal.main_arg1)
      ∧ r.2.mem ((c.tc : Thread Cert.KVPostIdeal.nD Cert.KVPostIdeal.τ).loc Cert.KVPostIdeal.main_arg2) = m ((c.tc : Thread Cert.KVPostIdeal.nD Cert.KVPostIdeal.τ).loc Cert.KVPostIdeal.main_arg2))
      ∧ r.2.sem = fun _ => 0)

def quiescent_KVPostRefIdeal [hKVPostRefIdeal : Cert.KVPostRefIdeal.Facts] : Prop :=
  ∀ (m : (ℓ : Loc Cert.KVPostRefIdeal.nD Cert.KVPostRefIdeal.τ Cert.KVPostRefIdeal.sig) → Buf (Elt Ideal) ℓ) (g : Dev Cert.KVPostRefIdeal.nD → PrngReg), Pre_KVPostRefIdeal m →
    θ_run (Cert.KVPostRefIdeal.defs (F := Ideal)) (onTc (τ := Cert.KVPostRefIdeal.τ) (Cert.KVPostRefIdeal.main (F := Ideal))) ⟨m, fun _ => 0, g⟩ (fun r => (∀ c : Dev Cert.KVPostRefIdeal.nD,
      r.2.mem ((c.tc : Thread Cert.KVPostRefIdeal.nD Cert.KVPostRefIdeal.τ).loc Cert.KVPostRefIdeal.main_arg0) = m ((c.tc : Thread Cert.KVPostRefIdeal.nD Cert.KVPostRefIdeal.τ).loc Cert.KVPostRefIdeal.main_arg0)
      ∧ r.2.mem ((c.tc : Thread Cert.KVPostRefIdeal.nD Cert.KVPostRefIdeal.τ).loc Cert.KVPostRefIdeal.main_arg1) = m ((c.tc : Thread Cert.KVPostRefIdeal.nD Cert.KVPostRefIdeal.τ).loc Cert.KVPostRefIdeal.main_arg1)
      ∧ r.2.mem ((c.tc : Thread Cert.KVPostRefIdeal.nD Cert.KVPostRefIdeal.τ).loc Cert.KVPostRefIdeal.main_arg2) = m ((c.tc : Thread Cert.KVPostRefIdeal.nD Cert.KVPostRefIdeal.τ).loc Cert.KVPostRefIdeal.main_arg2))
      ∧ r.2.sem = fun _ => 0)

def quiescent_KS [hKS : Cert.KS.Facts] : Prop :=
  ∀ (m : (ℓ : Loc Cert.KS.nD Cert.KS.τ Cert.KS.sig) → Buf (Elt Bits) ℓ) (g : Dev Cert.KS.nD → PrngReg), Pre_KS m →
    θ_run (Cert.KS.defs (F := Bits)) (onTc (τ := Cert.KS.τ) (Cert.KS.main (F := Bits))) ⟨m, fun _ => 0, g⟩ (fun r => (∀ c : Dev Cert.KS.nD,
      r.2.mem ((c.tc : Thread Cert.KS.nD Cert.KS.τ).loc Cert.KS.main_arg0) = m ((c.tc : Thread Cert.KS.nD Cert.KS.τ).loc Cert.KS.main_arg0)
      ∧ r.2.mem ((c.tc : Thread Cert.KS.nD Cert.KS.τ).loc Cert.KS.main_arg1) = m ((c.tc : Thread Cert.KS.nD Cert.KS.τ).loc Cert.KS.main_arg1))
      ∧ r.2.sem = fun _ => 0)

def quiescent_KSIdeal [hKSIdeal : Cert.KSIdeal.Facts] : Prop :=
  ∀ (m : (ℓ : Loc Cert.KSIdeal.nD Cert.KSIdeal.τ Cert.KSIdeal.sig) → Buf (Elt Ideal) ℓ) (g : Dev Cert.KSIdeal.nD → PrngReg), Pre_KSIdeal m →
    θ_run (Cert.KSIdeal.defs (F := Ideal)) (onTc (τ := Cert.KSIdeal.τ) (Cert.KSIdeal.main (F := Ideal))) ⟨m, fun _ => 0, g⟩ (fun r => (∀ c : Dev Cert.KSIdeal.nD,
      r.2.mem ((c.tc : Thread Cert.KSIdeal.nD Cert.KSIdeal.τ).loc Cert.KSIdeal.main_arg0) = m ((c.tc : Thread Cert.KSIdeal.nD Cert.KSIdeal.τ).loc Cert.KSIdeal.main_arg0)
      ∧ r.2.mem ((c.tc : Thread Cert.KSIdeal.nD Cert.KSIdeal.τ).loc Cert.KSIdeal.main_arg1) = m ((c.tc : Thread Cert.KSIdeal.nD Cert.KSIdeal.τ).loc Cert.KSIdeal.main_arg1))
      ∧ r.2.sem = fun _ => 0)

def quiescent_KSRefIdeal [hKSRefIdeal : Cert.KSRefIdeal.Facts] : Prop :=
  ∀ (m : (ℓ : Loc Cert.KSRefIdeal.nD Cert.KSRefIdeal.τ Cert.KSRefIdeal.sig) → Buf (Elt Ideal) ℓ) (g : Dev Cert.KSRefIdeal.nD → PrngReg), Pre_KSRefIdeal m →
    θ_run (Cert.KSRefIdeal.defs (F := Ideal)) (onTc (τ := Cert.KSRefIdeal.τ) (Cert.KSRefIdeal.main (F := Ideal))) ⟨m, fun _ => 0, g⟩ (fun r => (∀ c : Dev Cert.KSRefIdeal.nD,
      r.2.mem ((c.tc : Thread Cert.KSRefIdeal.nD Cert.KSRefIdeal.τ).loc Cert.KSRefIdeal.main_arg0) = m ((c.tc : Thread Cert.KSRefIdeal.nD Cert.KSRefIdeal.τ).loc Cert.KSRefIdeal.main_arg0)
      ∧ r.2.mem ((c.tc : Thread Cert.KSRefIdeal.nD Cert.KSRefIdeal.τ).loc Cert.KSRefIdeal.main_arg1) = m ((c.tc : Thread Cert.KSRefIdeal.nD Cert.KSRefIdeal.τ).loc Cert.KSRefIdeal.main_arg1))
      ∧ r.2.sem = fun _ => 0)

def quiescent_VS [hVS : Cert.VS.Facts] : Prop :=
  ∀ (m : (ℓ : Loc Cert.VS.nD Cert.VS.τ Cert.VS.sig) → Buf (Elt Bits) ℓ) (g : Dev Cert.VS.nD → PrngReg), Pre_VS m →
    θ_run (Cert.VS.defs (F := Bits)) (onTc (τ := Cert.VS.τ) (Cert.VS.main (F := Bits))) ⟨m, fun _ => 0, g⟩ (fun r => (∀ c : Dev Cert.VS.nD,
      r.2.mem ((c.tc : Thread Cert.VS.nD Cert.VS.τ).loc Cert.VS.main_arg0) = m ((c.tc : Thread Cert.VS.nD Cert.VS.τ).loc Cert.VS.main_arg0)
      ∧ r.2.mem ((c.tc : Thread Cert.VS.nD Cert.VS.τ).loc Cert.VS.main_arg1) = m ((c.tc : Thread Cert.VS.nD Cert.VS.τ).loc Cert.VS.main_arg1))
      ∧ r.2.sem = fun _ => 0)

def quiescent_VSIdeal [hVSIdeal : Cert.VSIdeal.Facts] : Prop :=
  ∀ (m : (ℓ : Loc Cert.VSIdeal.nD Cert.VSIdeal.τ Cert.VSIdeal.sig) → Buf (Elt Ideal) ℓ) (g : Dev Cert.VSIdeal.nD → PrngReg), Pre_VSIdeal m →
    θ_run (Cert.VSIdeal.defs (F := Ideal)) (onTc (τ := Cert.VSIdeal.τ) (Cert.VSIdeal.main (F := Ideal))) ⟨m, fun _ => 0, g⟩ (fun r => (∀ c : Dev Cert.VSIdeal.nD,
      r.2.mem ((c.tc : Thread Cert.VSIdeal.nD Cert.VSIdeal.τ).loc Cert.VSIdeal.main_arg0) = m ((c.tc : Thread Cert.VSIdeal.nD Cert.VSIdeal.τ).loc Cert.VSIdeal.main_arg0)
      ∧ r.2.mem ((c.tc : Thread Cert.VSIdeal.nD Cert.VSIdeal.τ).loc Cert.VSIdeal.main_arg1) = m ((c.tc : Thread Cert.VSIdeal.nD Cert.VSIdeal.τ).loc Cert.VSIdeal.main_arg1))
      ∧ r.2.sem = fun _ => 0)

def quiescent_VSRefIdeal [hVSRefIdeal : Cert.VSRefIdeal.Facts] : Prop :=
  ∀ (m : (ℓ : Loc Cert.VSRefIdeal.nD Cert.VSRefIdeal.τ Cert.VSRefIdeal.sig) → Buf (Elt Ideal) ℓ) (g : Dev Cert.VSRefIdeal.nD → PrngReg), Pre_VSRefIdeal m →
    θ_run (Cert.VSRefIdeal.defs (F := Ideal)) (onTc (τ := Cert.VSRefIdeal.τ) (Cert.VSRefIdeal.main (F := Ideal))) ⟨m, fun _ => 0, g⟩ (fun r => (∀ c : Dev Cert.VSRefIdeal.nD,
      r.2.mem ((c.tc : Thread Cert.VSRefIdeal.nD Cert.VSRefIdeal.τ).loc Cert.VSRefIdeal.main_arg0) = m ((c.tc : Thread Cert.VSRefIdeal.nD Cert.VSRefIdeal.τ).loc Cert.VSRefIdeal.main_arg0)
      ∧ r.2.mem ((c.tc : Thread Cert.VSRefIdeal.nD Cert.VSRefIdeal.τ).loc Cert.VSRefIdeal.main_arg1) = m ((c.tc : Thread Cert.VSRefIdeal.nD Cert.VSRefIdeal.τ).loc Cert.VSRefIdeal.main_arg1))
      ∧ r.2.sem = fun _ => 0)

def quiescent_KP [hKP : Cert.KP.Facts] : Prop :=
  ∀ (m : (ℓ : Loc Cert.KP.nD Cert.KP.τ Cert.KP.sig) → Buf (Elt Bits) ℓ) (g : Dev Cert.KP.nD → PrngReg), Pre_KP m →
    θ_run (Cert.KP.defs (F := Bits)) (onTc (τ := Cert.KP.τ) (Cert.KP.main (F := Bits))) ⟨m, fun _ => 0, g⟩ (fun r => (∀ c : Dev Cert.KP.nD,
      r.2.mem ((c.tc : Thread Cert.KP.nD Cert.KP.τ).loc Cert.KP.main_arg0) = m ((c.tc : Thread Cert.KP.nD Cert.KP.τ).loc Cert.KP.main_arg0)
      ∧ r.2.mem ((c.tc : Thread Cert.KP.nD Cert.KP.τ).loc Cert.KP.main_arg1) = m ((c.tc : Thread Cert.KP.nD Cert.KP.τ).loc Cert.KP.main_arg1))
      ∧ r.2.sem = fun _ => 0)

def quiescent_KPIdeal [hKPIdeal : Cert.KPIdeal.Facts] : Prop :=
  ∀ (m : (ℓ : Loc Cert.KPIdeal.nD Cert.KPIdeal.τ Cert.KPIdeal.sig) → Buf (Elt Ideal) ℓ) (g : Dev Cert.KPIdeal.nD → PrngReg), Pre_KPIdeal m →
    θ_run (Cert.KPIdeal.defs (F := Ideal)) (onTc (τ := Cert.KPIdeal.τ) (Cert.KPIdeal.main (F := Ideal))) ⟨m, fun _ => 0, g⟩ (fun r => (∀ c : Dev Cert.KPIdeal.nD,
      r.2.mem ((c.tc : Thread Cert.KPIdeal.nD Cert.KPIdeal.τ).loc Cert.KPIdeal.main_arg0) = m ((c.tc : Thread Cert.KPIdeal.nD Cert.KPIdeal.τ).loc Cert.KPIdeal.main_arg0)
      ∧ r.2.mem ((c.tc : Thread Cert.KPIdeal.nD Cert.KPIdeal.τ).loc Cert.KPIdeal.main_arg1) = m ((c.tc : Thread Cert.KPIdeal.nD Cert.KPIdeal.τ).loc Cert.KPIdeal.main_arg1))
      ∧ r.2.sem = fun _ => 0)

def quiescent_KPRefIdeal [hKPRefIdeal : Cert.KPRefIdeal.Facts] : Prop :=
  ∀ (m : (ℓ : Loc Cert.KPRefIdeal.nD Cert.KPRefIdeal.τ Cert.KPRefIdeal.sig) → Buf (Elt Ideal) ℓ) (g : Dev Cert.KPRefIdeal.nD → PrngReg), Pre_KPRefIdeal m →
    θ_run (Cert.KPRefIdeal.defs (F := Ideal)) (onTc (τ := Cert.KPRefIdeal.τ) (Cert.KPRefIdeal.main (F := Ideal))) ⟨m, fun _ => 0, g⟩ (fun r => (∀ c : Dev Cert.KPRefIdeal.nD,
      r.2.mem ((c.tc : Thread Cert.KPRefIdeal.nD Cert.KPRefIdeal.τ).loc Cert.KPRefIdeal.main_arg0) = m ((c.tc : Thread Cert.KPRefIdeal.nD Cert.KPRefIdeal.τ).loc Cert.KPRefIdeal.main_arg0)
      ∧ r.2.mem ((c.tc : Thread Cert.KPRefIdeal.nD Cert.KPRefIdeal.τ).loc Cert.KPRefIdeal.main_arg1) = m ((c.tc : Thread Cert.KPRefIdeal.nD Cert.KPRefIdeal.τ).loc Cert.KPRefIdeal.main_arg1))
      ∧ r.2.sem = fun _ => 0)

def quiescent_VP [hVP : Cert.VP.Facts] : Prop :=
  ∀ (m : (ℓ : Loc Cert.VP.nD Cert.VP.τ Cert.VP.sig) → Buf (Elt Bits) ℓ) (g : Dev Cert.VP.nD → PrngReg), Pre_VP m →
    θ_run (Cert.VP.defs (F := Bits)) (onTc (τ := Cert.VP.τ) (Cert.VP.main (F := Bits))) ⟨m, fun _ => 0, g⟩ (fun r => (∀ c : Dev Cert.VP.nD,
      r.2.mem ((c.tc : Thread Cert.VP.nD Cert.VP.τ).loc Cert.VP.main_arg0) = m ((c.tc : Thread Cert.VP.nD Cert.VP.τ).loc Cert.VP.main_arg0)
      ∧ r.2.mem ((c.tc : Thread Cert.VP.nD Cert.VP.τ).loc Cert.VP.main_arg1) = m ((c.tc : Thread Cert.VP.nD Cert.VP.τ).loc Cert.VP.main_arg1))
      ∧ r.2.sem = fun _ => 0)

def quiescent_VPIdeal [hVPIdeal : Cert.VPIdeal.Facts] : Prop :=
  ∀ (m : (ℓ : Loc Cert.VPIdeal.nD Cert.VPIdeal.τ Cert.VPIdeal.sig) → Buf (Elt Ideal) ℓ) (g : Dev Cert.VPIdeal.nD → PrngReg), Pre_VPIdeal m →
    θ_run (Cert.VPIdeal.defs (F := Ideal)) (onTc (τ := Cert.VPIdeal.τ) (Cert.VPIdeal.main (F := Ideal))) ⟨m, fun _ => 0, g⟩ (fun r => (∀ c : Dev Cert.VPIdeal.nD,
      r.2.mem ((c.tc : Thread Cert.VPIdeal.nD Cert.VPIdeal.τ).loc Cert.VPIdeal.main_arg0) = m ((c.tc : Thread Cert.VPIdeal.nD Cert.VPIdeal.τ).loc Cert.VPIdeal.main_arg0)
      ∧ r.2.mem ((c.tc : Thread Cert.VPIdeal.nD Cert.VPIdeal.τ).loc Cert.VPIdeal.main_arg1) = m ((c.tc : Thread Cert.VPIdeal.nD Cert.VPIdeal.τ).loc Cert.VPIdeal.main_arg1))
      ∧ r.2.sem = fun _ => 0)

def quiescent_VPRefIdeal [hVPRefIdeal : Cert.VPRefIdeal.Facts] : Prop :=
  ∀ (m : (ℓ : Loc Cert.VPRefIdeal.nD Cert.VPRefIdeal.τ Cert.VPRefIdeal.sig) → Buf (Elt Ideal) ℓ) (g : Dev Cert.VPRefIdeal.nD → PrngReg), Pre_VPRefIdeal m →
    θ_run (Cert.VPRefIdeal.defs (F := Ideal)) (onTc (τ := Cert.VPRefIdeal.τ) (Cert.VPRefIdeal.main (F := Ideal))) ⟨m, fun _ => 0, g⟩ (fun r => (∀ c : Dev Cert.VPRefIdeal.nD,
      r.2.mem ((c.tc : Thread Cert.VPRefIdeal.nD Cert.VPRefIdeal.τ).loc Cert.VPRefIdeal.main_arg0) = m ((c.tc : Thread Cert.VPRefIdeal.nD Cert.VPRefIdeal.τ).loc Cert.VPRefIdeal.main_arg0)
      ∧ r.2.mem ((c.tc : Thread Cert.VPRefIdeal.nD Cert.VPRefIdeal.τ).loc Cert.VPRefIdeal.main_arg1) = m ((c.tc : Thread Cert.VPRefIdeal.nD Cert.VPRefIdeal.τ).loc Cert.VPRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v1)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v1) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v4) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_WO_WOIdeal : Prop :=
  True

def algebraic_WOIdeal_WORefIdeal [hWOIdeal : Cert.WOIdeal.Facts] [hWORefIdeal : Cert.WORefIdeal.Facts] : Prop :=
  ∀ (m : (ℓ : Loc Cert.WOIdeal.nD Cert.WOIdeal.τ Cert.WOIdeal.sig) → Buf (Elt Ideal) ℓ) (g : Dev Cert.WOIdeal.nD → PrngReg)
    (m' : (ℓ : Loc Cert.WORefIdeal.nD Cert.WORefIdeal.τ Cert.WORefIdeal.sig) → Buf (Elt Ideal) ℓ) (g' : Dev Cert.WORefIdeal.nD → PrngReg), Pre_WOIdeal m →
    (∀ c : Dev Cert.WOIdeal.nD,
      m' ((c.tc : Thread Cert.WORefIdeal.nD Cert.WORefIdeal.τ).loc Cert.WORefIdeal.main_arg0) = m ((c.tc : Thread Cert.WOIdeal.nD Cert.WOIdeal.τ).loc Cert.WOIdeal.main_arg0)
      ∧ m' ((c.tc : Thread Cert.WORefIdeal.nD Cert.WORefIdeal.τ).loc Cert.WORefIdeal.main_arg1) = m ((c.tc : Thread Cert.WOIdeal.nD Cert.WOIdeal.τ).loc Cert.WOIdeal.main_arg1)) →
    ∃ (v0 : (c : Dev Cert.WOIdeal.nD) → Buf (Elt Ideal) ((c.tc : Thread Cert.WOIdeal.nD Cert.WOIdeal.τ).loc Cert.WOIdeal.main_v0)),
      θ_run (Cert.WOIdeal.defs (F := Ideal)) (onTc (τ := Cert.WOIdeal.τ) (Cert.WOIdeal.main (F := Ideal))) ⟨m, fun _ => 0, g⟩ (fun r => ∀ c : Dev Cert.WOIdeal.nD,
          r.2.mem ((c.tc : Thread Cert.WOIdeal.nD Cert.WOIdeal.τ).loc Cert.WOIdeal.main_v0) = v0 c
          ∧ r.2.mem ((c.tc : Thread Cert.WOIdeal.nD Cert.WOIdeal.τ).loc Cert.WOIdeal.main_arg0) = m ((c.tc : Thread Cert.WOIdeal.nD Cert.WOIdeal.τ).loc Cert.WOIdeal.main_arg0)
          ∧ r.2.mem ((c.tc : Thread Cert.WOIdeal.nD Cert.WOIdeal.τ).loc Cert.WOIdeal.main_arg1) = m ((c.tc : Thread Cert.WOIdeal.nD Cert.WOIdeal.τ).loc Cert.WOIdeal.main_arg1))
      ∧ θ_run (Cert.WORefIdeal.defs (F := Ideal)) (onTc (τ := Cert.WORefIdeal.τ) (Cert.WORefIdeal.main (F := Ideal))) ⟨m', fun _ => 0, g'⟩ (fun r => ∀ c : Dev Cert.WORefIdeal.nD,
          r.2.mem ((c.tc : Thread Cert.WORefIdeal.nD Cert.WORefIdeal.τ).loc Cert.WORefIdeal.main_v4) = v0 c
          ∧ r.2.mem ((c.tc : Thread Cert.WORefIdeal.nD Cert.WORefIdeal.τ).loc Cert.WORefIdeal.main_arg0) = m' ((c.tc : Thread Cert.WORefIdeal.nD Cert.WORefIdeal.τ).loc Cert.WORefIdeal.main_arg0)
          ∧ r.2.mem ((c.tc : Thread Cert.WORefIdeal.nD Cert.WORefIdeal.τ).loc Cert.WORefIdeal.main_arg1) = m' ((c.tc : Thread Cert.WORefIdeal.nD Cert.WORefIdeal.τ).loc Cert.WORefIdeal.main_arg1))

def preserves_DQ_DQIdeal : Prop :=
  True

def algebraic_DQIdeal_DQRefIdeal [hDQIdeal : Cert.DQIdeal.Facts] [hDQRefIdeal : Cert.DQRefIdeal.Facts] : Prop :=
  ∀ (m : (ℓ : Loc Cert.DQIdeal.nD Cert.DQIdeal.τ Cert.DQIdeal.sig) → Buf (Elt Ideal) ℓ) (g : Dev Cert.DQIdeal.nD → PrngReg)
    (m' : (ℓ : Loc Cert.DQRefIdeal.nD Cert.DQRefIdeal.τ Cert.DQRefIdeal.sig) → Buf (Elt Ideal) ℓ) (g' : Dev Cert.DQRefIdeal.nD → PrngReg), Pre_DQIdeal m →
    (∀ c : Dev Cert.DQIdeal.nD,
      m' ((c.tc : Thread Cert.DQRefIdeal.nD Cert.DQRefIdeal.τ).loc Cert.DQRefIdeal.main_arg0) = m ((c.tc : Thread Cert.DQIdeal.nD Cert.DQIdeal.τ).loc Cert.DQIdeal.main_arg0)
      ∧ m' ((c.tc : Thread Cert.DQRefIdeal.nD Cert.DQRefIdeal.τ).loc Cert.DQRefIdeal.main_arg1) = m ((c.tc : Thread Cert.DQIdeal.nD Cert.DQIdeal.τ).loc Cert.DQIdeal.main_arg1)
      ∧ m' ((c.tc : Thread Cert.DQRefIdeal.nD Cert.DQRefIdeal.τ).loc Cert.DQRefIdeal.main_arg2) = m ((c.tc : Thread Cert.DQIdeal.nD Cert.DQIdeal.τ).loc Cert.DQIdeal.main_arg2)) →
    ∃ (v0 : (c : Dev Cert.DQIdeal.nD) → Buf (Elt Ideal) ((c.tc : Thread Cert.DQIdeal.nD Cert.DQIdeal.τ).loc Cert.DQIdeal.main_v6)),
      θ_run (Cert.DQIdeal.defs (F := Ideal)) (onTc (τ := Cert.DQIdeal.τ) (Cert.DQIdeal.main (F := Ideal))) ⟨m, fun _ => 0, g⟩ (fun r => ∀ c : Dev Cert.DQIdeal.nD,
          r.2.mem ((c.tc : Thread Cert.DQIdeal.nD Cert.DQIdeal.τ).loc Cert.DQIdeal.main_v6) = v0 c
          ∧ r.2.mem ((c.tc : Thread Cert.DQIdeal.nD Cert.DQIdeal.τ).loc Cert.DQIdeal.main_arg0) = m ((c.tc : Thread Cert.DQIdeal.nD Cert.DQIdeal.τ).loc Cert.DQIdeal.main_arg0)
          ∧ r.2.mem ((c.tc : Thread Cert.DQIdeal.nD Cert.DQIdeal.τ).loc Cert.DQIdeal.main_arg1) = m ((c.tc : Thread Cert.DQIdeal.nD Cert.DQIdeal.τ).loc Cert.DQIdeal.main_arg1)
          ∧ r.2.mem ((c.tc : Thread Cert.DQIdeal.nD Cert.DQIdeal.τ).loc Cert.DQIdeal.main_arg2) = m ((c.tc : Thread Cert.DQIdeal.nD Cert.DQIdeal.τ).loc Cert.DQIdeal.main_arg2))
      ∧ θ_run (Cert.DQRefIdeal.defs (F := Ideal)) (onTc (τ := Cert.DQRefIdeal.τ) (Cert.DQRefIdeal.main (F := Ideal))) ⟨m', fun _ => 0, g'⟩ (fun r => ∀ c : Dev Cert.DQRefIdeal.nD,
          r.2.mem ((c.tc : Thread Cert.DQRefIdeal.nD Cert.DQRefIdeal.τ).loc Cert.DQRefIdeal.main_v19) = v0 c
          ∧ r.2.mem ((c.tc : Thread Cert.DQRefIdeal.nD Cert.DQRefIdeal.τ).loc Cert.DQRefIdeal.main_arg0) = m' ((c.tc : Thread Cert.DQRefIdeal.nD Cert.DQRefIdeal.τ).loc Cert.DQRefIdeal.main_arg0)
          ∧ r.2.mem ((c.tc : Thread Cert.DQRefIdeal.nD Cert.DQRefIdeal.τ).loc Cert.DQRefIdeal.main_arg1) = m' ((c.tc : Thread Cert.DQRefIdeal.nD Cert.DQRefIdeal.τ).loc Cert.DQRefIdeal.main_arg1)
          ∧ r.2.mem ((c.tc : Thread Cert.DQRefIdeal.nD Cert.DQRefIdeal.τ).loc Cert.DQRefIdeal.main_arg2) = m' ((c.tc : Thread Cert.DQRefIdeal.nD Cert.DQRefIdeal.τ).loc Cert.DQRefIdeal.main_arg2))

def preserves_UQ_UQIdeal : Prop :=
  True

def algebraic_UQIdeal_UQRefIdeal [hUQIdeal : Cert.UQIdeal.Facts] [hUQRefIdeal : Cert.UQRefIdeal.Facts] : Prop :=
  ∀ (m : (ℓ : Loc Cert.UQIdeal.nD Cert.UQIdeal.τ Cert.UQIdeal.sig) → Buf (Elt Ideal) ℓ) (g : Dev Cert.UQIdeal.nD → PrngReg)
    (m' : (ℓ : Loc Cert.UQRefIdeal.nD Cert.UQRefIdeal.τ Cert.UQRefIdeal.sig) → Buf (Elt Ideal) ℓ) (g' : Dev Cert.UQRefIdeal.nD → PrngReg), Pre_UQIdeal m →
    (∀ c : Dev Cert.UQIdeal.nD,
      m' ((c.tc : Thread Cert.UQRefIdeal.nD Cert.UQRefIdeal.τ).loc Cert.UQRefIdeal.main_arg0) = m ((c.tc : Thread Cert.UQIdeal.nD Cert.UQIdeal.τ).loc Cert.UQIdeal.main_arg0)
      ∧ m' ((c.tc : Thread Cert.UQRefIdeal.nD Cert.UQRefIdeal.τ).loc Cert.UQRefIdeal.main_arg1) = m ((c.tc : Thread Cert.UQIdeal.nD Cert.UQIdeal.τ).loc Cert.UQIdeal.main_arg1)
      ∧ m' ((c.tc : Thread Cert.UQRefIdeal.nD Cert.UQRefIdeal.τ).loc Cert.UQRefIdeal.main_arg2) = m ((c.tc : Thread Cert.UQIdeal.nD Cert.UQIdeal.τ).loc Cert.UQIdeal.main_arg2)) →
    ∃ (v0 : (c : Dev Cert.UQIdeal.nD) → Buf (Elt Ideal) ((c.tc : Thread Cert.UQIdeal.nD Cert.UQIdeal.τ).loc Cert.UQIdeal.main_v40)),
      θ_run (Cert.UQIdeal.defs (F := Ideal)) (onTc (τ := Cert.UQIdeal.τ) (Cert.UQIdeal.main (F := Ideal))) ⟨m, fun _ => 0, g⟩ (fun r => ∀ c : Dev Cert.UQIdeal.nD,
          r.2.mem ((c.tc : Thread Cert.UQIdeal.nD Cert.UQIdeal.τ).loc Cert.UQIdeal.main_v40) = v0 c
          ∧ r.2.mem ((c.tc : Thread Cert.UQIdeal.nD Cert.UQIdeal.τ).loc Cert.UQIdeal.main_arg0) = m ((c.tc : Thread Cert.UQIdeal.nD Cert.UQIdeal.τ).loc Cert.UQIdeal.main_arg0)
          ∧ r.2.mem ((c.tc : Thread Cert.UQIdeal.nD Cert.UQIdeal.τ).loc Cert.UQIdeal.main_arg1) = m ((c.tc : Thread Cert.UQIdeal.nD Cert.UQIdeal.τ).loc Cert.UQIdeal.main_arg1)
          ∧ r.2.mem ((c.tc : Thread Cert.UQIdeal.nD Cert.UQIdeal.τ).loc Cert.UQIdeal.main_arg2) = m ((c.tc : Thread Cert.UQIdeal.nD Cert.UQIdeal.τ).loc Cert.UQIdeal.main_arg2))
      ∧ θ_run (Cert.UQRefIdeal.defs (F := Ideal)) (onTc (τ := Cert.UQRefIdeal.τ) (Cert.UQRefIdeal.main (F := Ideal))) ⟨m', fun _ => 0, g'⟩ (fun r => ∀ c : Dev Cert.UQRefIdeal.nD,
          r.2.mem ((c.tc : Thread Cert.UQRefIdeal.nD Cert.UQRefIdeal.τ).loc Cert.UQRefIdeal.main_v40) = v0 c
          ∧ r.2.mem ((c.tc : Thread Cert.UQRefIdeal.nD Cert.UQRefIdeal.τ).loc Cert.UQRefIdeal.main_arg0) = m' ((c.tc : Thread Cert.UQRefIdeal.nD Cert.UQRefIdeal.τ).loc Cert.UQRefIdeal.main_arg0)
          ∧ r.2.mem ((c.tc : Thread Cert.UQRefIdeal.nD Cert.UQRefIdeal.τ).loc Cert.UQRefIdeal.main_arg1) = m' ((c.tc : Thread Cert.UQRefIdeal.nD Cert.UQRefIdeal.τ).loc Cert.UQRefIdeal.main_arg1)
          ∧ r.2.mem ((c.tc : Thread Cert.UQRefIdeal.nD Cert.UQRefIdeal.τ).loc Cert.UQRefIdeal.main_arg2) = m' ((c.tc : Thread Cert.UQRefIdeal.nD Cert.UQRefIdeal.τ).loc Cert.UQRefIdeal.main_arg2))

def preserves_DKV_DKVIdeal : Prop :=
  True

def algebraic_DKVIdeal_DKVRefIdeal [hDKVIdeal : Cert.DKVIdeal.Facts] [hDKVRefIdeal : Cert.DKVRefIdeal.Facts] : Prop :=
  ∀ (m : (ℓ : Loc Cert.DKVIdeal.nD Cert.DKVIdeal.τ Cert.DKVIdeal.sig) → Buf (Elt Ideal) ℓ) (g : Dev Cert.DKVIdeal.nD → PrngReg)
    (m' : (ℓ : Loc Cert.DKVRefIdeal.nD Cert.DKVRefIdeal.τ Cert.DKVRefIdeal.sig) → Buf (Elt Ideal) ℓ) (g' : Dev Cert.DKVRefIdeal.nD → PrngReg), Pre_DKVIdeal m →
    (∀ c : Dev Cert.DKVIdeal.nD,
      m' ((c.tc : Thread Cert.DKVRefIdeal.nD Cert.DKVRefIdeal.τ).loc Cert.DKVRefIdeal.main_arg0) = m ((c.tc : Thread Cert.DKVIdeal.nD Cert.DKVIdeal.τ).loc Cert.DKVIdeal.main_arg0)
      ∧ m' ((c.tc : Thread Cert.DKVRefIdeal.nD Cert.DKVRefIdeal.τ).loc Cert.DKVRefIdeal.main_arg1) = m ((c.tc : Thread Cert.DKVIdeal.nD Cert.DKVIdeal.τ).loc Cert.DKVIdeal.main_arg1)) →
    ∃ (v0 : (c : Dev Cert.DKVIdeal.nD) → Buf (Elt Ideal) ((c.tc : Thread Cert.DKVIdeal.nD Cert.DKVIdeal.τ).loc Cert.DKVIdeal.main_v9)),
      θ_run (Cert.DKVIdeal.defs (F := Ideal)) (onTc (τ := Cert.DKVIdeal.τ) (Cert.DKVIdeal.main (F := Ideal))) ⟨m, fun _ => 0, g⟩ (fun r => ∀ c : Dev Cert.DKVIdeal.nD,
          r.2.mem ((c.tc : Thread Cert.DKVIdeal.nD Cert.DKVIdeal.τ).loc Cert.DKVIdeal.main_v9) = v0 c
          ∧ r.2.mem ((c.tc : Thread Cert.DKVIdeal.nD Cert.DKVIdeal.τ).loc Cert.DKVIdeal.main_arg0) = m ((c.tc : Thread Cert.DKVIdeal.nD Cert.DKVIdeal.τ).loc Cert.DKVIdeal.main_arg0)
          ∧ r.2.mem ((c.tc : Thread Cert.DKVIdeal.nD Cert.DKVIdeal.τ).loc Cert.DKVIdeal.main_arg1) = m ((c.tc : Thread Cert.DKVIdeal.nD Cert.DKVIdeal.τ).loc Cert.DKVIdeal.main_arg1))
      ∧ θ_run (Cert.DKVRefIdeal.defs (F := Ideal)) (onTc (τ := Cert.DKVRefIdeal.τ) (Cert.DKVRefIdeal.main (F := Ideal))) ⟨m', fun _ => 0, g'⟩ (fun r => ∀ c : Dev Cert.DKVRefIdeal.nD,
          r.2.mem ((c.tc : Thread Cert.DKVRefIdeal.nD Cert.DKVRefIdeal.τ).loc Cert.DKVRefIdeal.main_v5) = v0 c
          ∧ r.2.mem ((c.tc : Thread Cert.DKVRefIdeal.nD Cert.DKVRefIdeal.τ).loc Cert.DKVRefIdeal.main_arg0) = m' ((c.tc : Thread Cert.DKVRefIdeal.nD Cert.DKVRefIdeal.τ).loc Cert.DKVRefIdeal.main_arg0)
          ∧ r.2.mem ((c.tc : Thread Cert.DKVRefIdeal.nD Cert.DKVRefIdeal.τ).loc Cert.DKVRefIdeal.main_arg1) = m' ((c.tc : Thread Cert.DKVRefIdeal.nD Cert.DKVRefIdeal.τ).loc Cert.DKVRefIdeal.main_arg1))

def preserves_KVPost_KVPostIdeal : Prop :=
  True

def algebraic_KVPostIdeal_KVPostRefIdeal [hKVPostIdeal : Cert.KVPostIdeal.Facts] [hKVPostRefIdeal : Cert.KVPostRefIdeal.Facts] : Prop :=
  ∀ (m : (ℓ : Loc Cert.KVPostIdeal.nD Cert.KVPostIdeal.τ Cert.KVPostIdeal.sig) → Buf (Elt Ideal) ℓ) (g : Dev Cert.KVPostIdeal.nD → PrngReg)
    (m' : (ℓ : Loc Cert.KVPostRefIdeal.nD Cert.KVPostRefIdeal.τ Cert.KVPostRefIdeal.sig) → Buf (Elt Ideal) ℓ) (g' : Dev Cert.KVPostRefIdeal.nD → PrngReg), Pre_KVPostIdeal m →
    (∀ c : Dev Cert.KVPostIdeal.nD,
      m' ((c.tc : Thread Cert.KVPostRefIdeal.nD Cert.KVPostRefIdeal.τ).loc Cert.KVPostRefIdeal.main_arg0) = m ((c.tc : Thread Cert.KVPostIdeal.nD Cert.KVPostIdeal.τ).loc Cert.KVPostIdeal.main_arg0)
      ∧ m' ((c.tc : Thread Cert.KVPostRefIdeal.nD Cert.KVPostRefIdeal.τ).loc Cert.KVPostRefIdeal.main_arg1) = m ((c.tc : Thread Cert.KVPostIdeal.nD Cert.KVPostIdeal.τ).loc Cert.KVPostIdeal.main_arg1)
      ∧ m' ((c.tc : Thread Cert.KVPostRefIdeal.nD Cert.KVPostRefIdeal.τ).loc Cert.KVPostRefIdeal.main_arg2) = m ((c.tc : Thread Cert.KVPostIdeal.nD Cert.KVPostIdeal.τ).loc Cert.KVPostIdeal.main_arg2)) →
    ∃ (v0 : (c : Dev Cert.KVPostIdeal.nD) → Buf (Elt Ideal) ((c.tc : Thread Cert.KVPostIdeal.nD Cert.KVPostIdeal.τ).loc Cert.KVPostIdeal.main_v28)),
      θ_run (Cert.KVPostIdeal.defs (F := Ideal)) (onTc (τ := Cert.KVPostIdeal.τ) (Cert.KVPostIdeal.main (F := Ideal))) ⟨m, fun _ => 0, g⟩ (fun r => ∀ c : Dev Cert.KVPostIdeal.nD,
          r.2.mem ((c.tc : Thread Cert.KVPostIdeal.nD Cert.KVPostIdeal.τ).loc Cert.KVPostIdeal.main_v28) = v0 c
          ∧ r.2.mem ((c.tc : Thread Cert.KVPostIdeal.nD Cert.KVPostIdeal.τ).loc Cert.KVPostIdeal.main_arg0) = m ((c.tc : Thread Cert.KVPostIdeal.nD Cert.KVPostIdeal.τ).loc Cert.KVPostIdeal.main_arg0)
          ∧ r.2.mem ((c.tc : Thread Cert.KVPostIdeal.nD Cert.KVPostIdeal.τ).loc Cert.KVPostIdeal.main_arg1) = m ((c.tc : Thread Cert.KVPostIdeal.nD Cert.KVPostIdeal.τ).loc Cert.KVPostIdeal.main_arg1)
          ∧ r.2.mem ((c.tc : Thread Cert.KVPostIdeal.nD Cert.KVPostIdeal.τ).loc Cert.KVPostIdeal.main_arg2) = m ((c.tc : Thread Cert.KVPostIdeal.nD Cert.KVPostIdeal.τ).loc Cert.KVPostIdeal.main_arg2))
      ∧ θ_run (Cert.KVPostRefIdeal.defs (F := Ideal)) (onTc (τ := Cert.KVPostRefIdeal.τ) (Cert.KVPostRefIdeal.main (F := Ideal))) ⟨m', fun _ => 0, g'⟩ (fun r => ∀ c : Dev Cert.KVPostRefIdeal.nD,
          r.2.mem ((c.tc : Thread Cert.KVPostRefIdeal.nD Cert.KVPostRefIdeal.τ).loc Cert.KVPostRefIdeal.main_v45) = v0 c
          ∧ r.2.mem ((c.tc : Thread Cert.KVPostRefIdeal.nD Cert.KVPostRefIdeal.τ).loc Cert.KVPostRefIdeal.main_arg0) = m' ((c.tc : Thread Cert.KVPostRefIdeal.nD Cert.KVPostRefIdeal.τ).loc Cert.KVPostRefIdeal.main_arg0)
          ∧ r.2.mem ((c.tc : Thread Cert.KVPostRefIdeal.nD Cert.KVPostRefIdeal.τ).loc Cert.KVPostRefIdeal.main_arg1) = m' ((c.tc : Thread Cert.KVPostRefIdeal.nD Cert.KVPostRefIdeal.τ).loc Cert.KVPostRefIdeal.main_arg1)
          ∧ r.2.mem ((c.tc : Thread Cert.KVPostRefIdeal.nD Cert.KVPostRefIdeal.τ).loc Cert.KVPostRefIdeal.main_arg2) = m' ((c.tc : Thread Cert.KVPostRefIdeal.nD Cert.KVPostRefIdeal.τ).loc Cert.KVPostRefIdeal.main_arg2))

def preserves_KS_KSIdeal : Prop :=
  True

def algebraic_KSIdeal_KSRefIdeal [hKSIdeal : Cert.KSIdeal.Facts] [hKSRefIdeal : Cert.KSRefIdeal.Facts] : Prop :=
  ∀ (m : (ℓ : Loc Cert.KSIdeal.nD Cert.KSIdeal.τ Cert.KSIdeal.sig) → Buf (Elt Ideal) ℓ) (g : Dev Cert.KSIdeal.nD → PrngReg)
    (m' : (ℓ : Loc Cert.KSRefIdeal.nD Cert.KSRefIdeal.τ Cert.KSRefIdeal.sig) → Buf (Elt Ideal) ℓ) (g' : Dev Cert.KSRefIdeal.nD → PrngReg), Pre_KSIdeal m →
    (∀ c : Dev Cert.KSIdeal.nD,
      m' ((c.tc : Thread Cert.KSRefIdeal.nD Cert.KSRefIdeal.τ).loc Cert.KSRefIdeal.main_arg0) = m ((c.tc : Thread Cert.KSIdeal.nD Cert.KSIdeal.τ).loc Cert.KSIdeal.main_arg0)
      ∧ m' ((c.tc : Thread Cert.KSRefIdeal.nD Cert.KSRefIdeal.τ).loc Cert.KSRefIdeal.main_arg1) = m ((c.tc : Thread Cert.KSIdeal.nD Cert.KSIdeal.τ).loc Cert.KSIdeal.main_arg1)) →
    ∃ (v0 : (c : Dev Cert.KSIdeal.nD) → Buf (Elt Ideal) ((c.tc : Thread Cert.KSIdeal.nD Cert.KSIdeal.τ).loc Cert.KSIdeal.main_v4)),
      θ_run (Cert.KSIdeal.defs (F := Ideal)) (onTc (τ := Cert.KSIdeal.τ) (Cert.KSIdeal.main (F := Ideal))) ⟨m, fun _ => 0, g⟩ (fun r => ∀ c : Dev Cert.KSIdeal.nD,
          r.2.mem ((c.tc : Thread Cert.KSIdeal.nD Cert.KSIdeal.τ).loc Cert.KSIdeal.main_v4) = v0 c
          ∧ r.2.mem ((c.tc : Thread Cert.KSIdeal.nD Cert.KSIdeal.τ).loc Cert.KSIdeal.main_arg0) = m ((c.tc : Thread Cert.KSIdeal.nD Cert.KSIdeal.τ).loc Cert.KSIdeal.main_arg0)
          ∧ r.2.mem ((c.tc : Thread Cert.KSIdeal.nD Cert.KSIdeal.τ).loc Cert.KSIdeal.main_arg1) = m ((c.tc : Thread Cert.KSIdeal.nD Cert.KSIdeal.τ).loc Cert.KSIdeal.main_arg1))
      ∧ θ_run (Cert.KSRefIdeal.defs (F := Ideal)) (onTc (τ := Cert.KSRefIdeal.τ) (Cert.KSRefIdeal.main (F := Ideal))) ⟨m', fun _ => 0, g'⟩ (fun r => ∀ c : Dev Cert.KSRefIdeal.nD,
          r.2.mem ((c.tc : Thread Cert.KSRefIdeal.nD Cert.KSRefIdeal.τ).loc Cert.KSRefIdeal.main_v4) = v0 c
          ∧ r.2.mem ((c.tc : Thread Cert.KSRefIdeal.nD Cert.KSRefIdeal.τ).loc Cert.KSRefIdeal.main_arg0) = m' ((c.tc : Thread Cert.KSRefIdeal.nD Cert.KSRefIdeal.τ).loc Cert.KSRefIdeal.main_arg0)
          ∧ r.2.mem ((c.tc : Thread Cert.KSRefIdeal.nD Cert.KSRefIdeal.τ).loc Cert.KSRefIdeal.main_arg1) = m' ((c.tc : Thread Cert.KSRefIdeal.nD Cert.KSRefIdeal.τ).loc Cert.KSRefIdeal.main_arg1))

def preserves_VS_VSIdeal : Prop :=
  True

def algebraic_VSIdeal_VSRefIdeal [hVSIdeal : Cert.VSIdeal.Facts] [hVSRefIdeal : Cert.VSRefIdeal.Facts] : Prop :=
  ∀ (m : (ℓ : Loc Cert.VSIdeal.nD Cert.VSIdeal.τ Cert.VSIdeal.sig) → Buf (Elt Ideal) ℓ) (g : Dev Cert.VSIdeal.nD → PrngReg)
    (m' : (ℓ : Loc Cert.VSRefIdeal.nD Cert.VSRefIdeal.τ Cert.VSRefIdeal.sig) → Buf (Elt Ideal) ℓ) (g' : Dev Cert.VSRefIdeal.nD → PrngReg), Pre_VSIdeal m →
    (∀ c : Dev Cert.VSIdeal.nD,
      m' ((c.tc : Thread Cert.VSRefIdeal.nD Cert.VSRefIdeal.τ).loc Cert.VSRefIdeal.main_arg0) = m ((c.tc : Thread Cert.VSIdeal.nD Cert.VSIdeal.τ).loc Cert.VSIdeal.main_arg0)
      ∧ m' ((c.tc : Thread Cert.VSRefIdeal.nD Cert.VSRefIdeal.τ).loc Cert.VSRefIdeal.main_arg1) = m ((c.tc : Thread Cert.VSIdeal.nD Cert.VSIdeal.τ).loc Cert.VSIdeal.main_arg1)) →
    ∃ (v0 : (c : Dev Cert.VSIdeal.nD) → Buf (Elt Ideal) ((c.tc : Thread Cert.VSIdeal.nD Cert.VSIdeal.τ).loc Cert.VSIdeal.main_v2)),
      θ_run (Cert.VSIdeal.defs (F := Ideal)) (onTc (τ := Cert.VSIdeal.τ) (Cert.VSIdeal.main (F := Ideal))) ⟨m, fun _ => 0, g⟩ (fun r => ∀ c : Dev Cert.VSIdeal.nD,
          r.2.mem ((c.tc : Thread Cert.VSIdeal.nD Cert.VSIdeal.τ).loc Cert.VSIdeal.main_v2) = v0 c
          ∧ r.2.mem ((c.tc : Thread Cert.VSIdeal.nD Cert.VSIdeal.τ).loc Cert.VSIdeal.main_arg0) = m ((c.tc : Thread Cert.VSIdeal.nD Cert.VSIdeal.τ).loc Cert.VSIdeal.main_arg0)
          ∧ r.2.mem ((c.tc : Thread Cert.VSIdeal.nD Cert.VSIdeal.τ).loc Cert.VSIdeal.main_arg1) = m ((c.tc : Thread Cert.VSIdeal.nD Cert.VSIdeal.τ).loc Cert.VSIdeal.main_arg1))
      ∧ θ_run (Cert.VSRefIdeal.defs (F := Ideal)) (onTc (τ := Cert.VSRefIdeal.τ) (Cert.VSRefIdeal.main (F := Ideal))) ⟨m', fun _ => 0, g'⟩ (fun r => ∀ c : Dev Cert.VSRefIdeal.nD,
          r.2.mem ((c.tc : Thread Cert.VSRefIdeal.nD Cert.VSRefIdeal.τ).loc Cert.VSRefIdeal.main_v4) = v0 c
          ∧ r.2.mem ((c.tc : Thread Cert.VSRefIdeal.nD Cert.VSRefIdeal.τ).loc Cert.VSRefIdeal.main_arg0) = m' ((c.tc : Thread Cert.VSRefIdeal.nD Cert.VSRefIdeal.τ).loc Cert.VSRefIdeal.main_arg0)
          ∧ r.2.mem ((c.tc : Thread Cert.VSRefIdeal.nD Cert.VSRefIdeal.τ).loc Cert.VSRefIdeal.main_arg1) = m' ((c.tc : Thread Cert.VSRefIdeal.nD Cert.VSRefIdeal.τ).loc Cert.VSRefIdeal.main_arg1))

def preserves_KP_KPIdeal : Prop :=
  True

def algebraic_KPIdeal_KPRefIdeal [hKPIdeal : Cert.KPIdeal.Facts] [hKPRefIdeal : Cert.KPRefIdeal.Facts] : Prop :=
  ∀ (m : (ℓ : Loc Cert.KPIdeal.nD Cert.KPIdeal.τ Cert.KPIdeal.sig) → Buf (Elt Ideal) ℓ) (g : Dev Cert.KPIdeal.nD → PrngReg)
    (m' : (ℓ : Loc Cert.KPRefIdeal.nD Cert.KPRefIdeal.τ Cert.KPRefIdeal.sig) → Buf (Elt Ideal) ℓ) (g' : Dev Cert.KPRefIdeal.nD → PrngReg), Pre_KPIdeal m →
    (∀ c : Dev Cert.KPIdeal.nD,
      m' ((c.tc : Thread Cert.KPRefIdeal.nD Cert.KPRefIdeal.τ).loc Cert.KPRefIdeal.main_arg0) = m ((c.tc : Thread Cert.KPIdeal.nD Cert.KPIdeal.τ).loc Cert.KPIdeal.main_arg0)
      ∧ m' ((c.tc : Thread Cert.KPRefIdeal.nD Cert.KPRefIdeal.τ).loc Cert.KPRefIdeal.main_arg1) = m ((c.tc : Thread Cert.KPIdeal.nD Cert.KPIdeal.τ).loc Cert.KPIdeal.main_arg1)) →
    ∃ (v0 : (c : Dev Cert.KPIdeal.nD) → Buf (Elt Ideal) ((c.tc : Thread Cert.KPIdeal.nD Cert.KPIdeal.τ).loc Cert.KPIdeal.main_v24)),
      θ_run (Cert.KPIdeal.defs (F := Ideal)) (onTc (τ := Cert.KPIdeal.τ) (Cert.KPIdeal.main (F := Ideal))) ⟨m, fun _ => 0, g⟩ (fun r => ∀ c : Dev Cert.KPIdeal.nD,
          r.2.mem ((c.tc : Thread Cert.KPIdeal.nD Cert.KPIdeal.τ).loc Cert.KPIdeal.main_v24) = v0 c
          ∧ r.2.mem ((c.tc : Thread Cert.KPIdeal.nD Cert.KPIdeal.τ).loc Cert.KPIdeal.main_arg0) = m ((c.tc : Thread Cert.KPIdeal.nD Cert.KPIdeal.τ).loc Cert.KPIdeal.main_arg0)
          ∧ r.2.mem ((c.tc : Thread Cert.KPIdeal.nD Cert.KPIdeal.τ).loc Cert.KPIdeal.main_arg1) = m ((c.tc : Thread Cert.KPIdeal.nD Cert.KPIdeal.τ).loc Cert.KPIdeal.main_arg1))
      ∧ θ_run (Cert.KPRefIdeal.defs (F := Ideal)) (onTc (τ := Cert.KPRefIdeal.τ) (Cert.KPRefIdeal.main (F := Ideal))) ⟨m', fun _ => 0, g'⟩ (fun r => ∀ c : Dev Cert.KPRefIdeal.nD,
          r.2.mem ((c.tc : Thread Cert.KPRefIdeal.nD Cert.KPRefIdeal.τ).loc Cert.KPRefIdeal.main_v14) = v0 c
          ∧ r.2.mem ((c.tc : Thread Cert.KPRefIdeal.nD Cert.KPRefIdeal.τ).loc Cert.KPRefIdeal.main_arg0) = m' ((c.tc : Thread Cert.KPRefIdeal.nD Cert.KPRefIdeal.τ).loc Cert.KPRefIdeal.main_arg0)
          ∧ r.2.mem ((c.tc : Thread Cert.KPRefIdeal.nD Cert.KPRefIdeal.τ).loc Cert.KPRefIdeal.main_arg1) = m' ((c.tc : Thread Cert.KPRefIdeal.nD Cert.KPRefIdeal.τ).loc Cert.KPRefIdeal.main_arg1))

def preserves_VP_VPIdeal : Prop :=
  True

def algebraic_VPIdeal_VPRefIdeal [hVPIdeal : Cert.VPIdeal.Facts] [hVPRefIdeal : Cert.VPRefIdeal.Facts] : Prop :=
  ∀ (m : (ℓ : Loc Cert.VPIdeal.nD Cert.VPIdeal.τ Cert.VPIdeal.sig) → Buf (Elt Ideal) ℓ) (g : Dev Cert.VPIdeal.nD → PrngReg)
    (m' : (ℓ : Loc Cert.VPRefIdeal.nD Cert.VPRefIdeal.τ Cert.VPRefIdeal.sig) → Buf (Elt Ideal) ℓ) (g' : Dev Cert.VPRefIdeal.nD → PrngReg), Pre_VPIdeal m →
    (∀ c : Dev Cert.VPIdeal.nD,
      m' ((c.tc : Thread Cert.VPRefIdeal.nD Cert.VPRefIdeal.τ).loc Cert.VPRefIdeal.main_arg0) = m ((c.tc : Thread Cert.VPIdeal.nD Cert.VPIdeal.τ).loc Cert.VPIdeal.main_arg0)
      ∧ m' ((c.tc : Thread Cert.VPRefIdeal.nD Cert.VPRefIdeal.τ).loc Cert.VPRefIdeal.main_arg1) = m ((c.tc : Thread Cert.VPIdeal.nD Cert.VPIdeal.τ).loc Cert.VPIdeal.main_arg1)) →
    ∃ (v0 : (c : Dev Cert.VPIdeal.nD) → Buf (Elt Ideal) ((c.tc : Thread Cert.VPIdeal.nD Cert.VPIdeal.τ).loc Cert.VPIdeal.main_v21)),
      θ_run (Cert.VPIdeal.defs (F := Ideal)) (onTc (τ := Cert.VPIdeal.τ) (Cert.VPIdeal.main (F := Ideal))) ⟨m, fun _ => 0, g⟩ (fun r => ∀ c : Dev Cert.VPIdeal.nD,
          r.2.mem ((c.tc : Thread Cert.VPIdeal.nD Cert.VPIdeal.τ).loc Cert.VPIdeal.main_v21) = v0 c
          ∧ r.2.mem ((c.tc : Thread Cert.VPIdeal.nD Cert.VPIdeal.τ).loc Cert.VPIdeal.main_arg0) = m ((c.tc : Thread Cert.VPIdeal.nD Cert.VPIdeal.τ).loc Cert.VPIdeal.main_arg0)
          ∧ r.2.mem ((c.tc : Thread Cert.VPIdeal.nD Cert.VPIdeal.τ).loc Cert.VPIdeal.main_arg1) = m ((c.tc : Thread Cert.VPIdeal.nD Cert.VPIdeal.τ).loc Cert.VPIdeal.main_arg1))
      ∧ θ_run (Cert.VPRefIdeal.defs (F := Ideal)) (onTc (τ := Cert.VPRefIdeal.τ) (Cert.VPRefIdeal.main (F := Ideal))) ⟨m', fun _ => 0, g'⟩ (fun r => ∀ c : Dev Cert.VPRefIdeal.nD,
          r.2.mem ((c.tc : Thread Cert.VPRefIdeal.nD Cert.VPRefIdeal.τ).loc Cert.VPRefIdeal.main_v11) = v0 c
          ∧ r.2.mem ((c.tc : Thread Cert.VPRefIdeal.nD Cert.VPRefIdeal.τ).loc Cert.VPRefIdeal.main_arg0) = m' ((c.tc : Thread Cert.VPRefIdeal.nD Cert.VPRefIdeal.τ).loc Cert.VPRefIdeal.main_arg0)
          ∧ r.2.mem ((c.tc : Thread Cert.VPRefIdeal.nD Cert.VPRefIdeal.τ).loc Cert.VPRefIdeal.main_arg1) = m' ((c.tc : Thread Cert.VPRefIdeal.nD Cert.VPRefIdeal.τ).loc Cert.VPRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v10)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v10) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v6) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v27) = v0 c
          ∧ r.2.mem ((c.tc : Thread Cert.NormRefIdeal.nD Cert.NormRefIdeal.τ).loc Cert.NormRefIdeal.main_v28) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hWIn : Cert.WIn.Facts) (hWInIdeal : Cert.WInIdeal.Facts) (hWInRefIdeal : Cert.WInRefIdeal.Facts) (hWO : Cert.WO.Facts) (hWOIdeal : Cert.WOIdeal.Facts) (hWORefIdeal : Cert.WORefIdeal.Facts) (hDQ : Cert.DQ.Facts) (hDQIdeal : Cert.DQIdeal.Facts) (hDQRefIdeal : Cert.DQRefIdeal.Facts) (hUQ : Cert.UQ.Facts) (hUQIdeal : Cert.UQIdeal.Facts) (hUQRefIdeal : Cert.UQRefIdeal.Facts) (hDKV : Cert.DKV.Facts) (hDKVIdeal : Cert.DKVIdeal.Facts) (hDKVRefIdeal : Cert.DKVRefIdeal.Facts) (hKVPost : Cert.KVPost.Facts) (hKVPostIdeal : Cert.KVPostIdeal.Facts) (hKVPostRefIdeal : Cert.KVPostRefIdeal.Facts) (hKS : Cert.KS.Facts) (hKSIdeal : Cert.KSIdeal.Facts) (hKSRefIdeal : Cert.KSRefIdeal.Facts) (hVS : Cert.VS.Facts) (hVSIdeal : Cert.VSIdeal.Facts) (hVSRefIdeal : Cert.VSRefIdeal.Facts) (hKP : Cert.KP.Facts) (hKPIdeal : Cert.KPIdeal.Facts) (hKPRefIdeal : Cert.KPRefIdeal.Facts) (hVP : Cert.VP.Facts) (hVPIdeal : Cert.VPIdeal.Facts) (hVPRefIdeal : Cert.VPRefIdeal.Facts) (hGates : Cert.Gates.Facts) (hGatesIdeal : Cert.GatesIdeal.Facts) (hGatesRefIdeal : Cert.GatesRefIdeal.Facts) (hNorm : Cert.Norm.Facts) (hNormIdeal : Cert.NormIdeal.Facts) (hNormRefIdeal : Cert.NormRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_WIn (hWIn := hWIn)
    ∧ quiescent_WInIdeal (hWInIdeal := hWInIdeal)
    ∧ quiescent_WInRefIdeal (hWInRefIdeal := hWInRefIdeal)
    ∧ quiescent_WO (hWO := hWO)
    ∧ quiescent_WOIdeal (hWOIdeal := hWOIdeal)
    ∧ quiescent_WORefIdeal (hWORefIdeal := hWORefIdeal)
    ∧ quiescent_DQ (hDQ := hDQ)
    ∧ quiescent_DQIdeal (hDQIdeal := hDQIdeal)
    ∧ quiescent_DQRefIdeal (hDQRefIdeal := hDQRefIdeal)
    ∧ quiescent_UQ (hUQ := hUQ)
    ∧ quiescent_UQIdeal (hUQIdeal := hUQIdeal)
    ∧ quiescent_UQRefIdeal (hUQRefIdeal := hUQRefIdeal)
    ∧ quiescent_DKV (hDKV := hDKV)
    ∧ quiescent_DKVIdeal (hDKVIdeal := hDKVIdeal)
    ∧ quiescent_DKVRefIdeal (hDKVRefIdeal := hDKVRefIdeal)
    ∧ quiescent_KVPost (hKVPost := hKVPost)
    ∧ quiescent_KVPostIdeal (hKVPostIdeal := hKVPostIdeal)
    ∧ quiescent_KVPostRefIdeal (hKVPostRefIdeal := hKVPostRefIdeal)
    ∧ quiescent_KS (hKS := hKS)
    ∧ quiescent_KSIdeal (hKSIdeal := hKSIdeal)
    ∧ quiescent_KSRefIdeal (hKSRefIdeal := hKSRefIdeal)
    ∧ quiescent_VS (hVS := hVS)
    ∧ quiescent_VSIdeal (hVSIdeal := hVSIdeal)
    ∧ quiescent_VSRefIdeal (hVSRefIdeal := hVSRefIdeal)
    ∧ quiescent_KP (hKP := hKP)
    ∧ quiescent_KPIdeal (hKPIdeal := hKPIdeal)
    ∧ quiescent_KPRefIdeal (hKPRefIdeal := hKPRefIdeal)
    ∧ quiescent_VP (hVP := hVP)
    ∧ quiescent_VPIdeal (hVPIdeal := hVPIdeal)
    ∧ quiescent_VPRefIdeal (hVPRefIdeal := hVPRefIdeal)
    ∧ quiescent_Gates (hGates := hGates)
    ∧ quiescent_GatesIdeal (hGatesIdeal := hGatesIdeal)
    ∧ quiescent_GatesRefIdeal (hGatesRefIdeal := hGatesRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_WIn_WInIdeal
    ∧ algebraic_WInIdeal_WInRefIdeal (hWInIdeal := hWInIdeal) (hWInRefIdeal := hWInRefIdeal)
    ∧ preserves_WO_WOIdeal
    ∧ algebraic_WOIdeal_WORefIdeal (hWOIdeal := hWOIdeal) (hWORefIdeal := hWORefIdeal)
    ∧ preserves_DQ_DQIdeal
    ∧ algebraic_DQIdeal_DQRefIdeal (hDQIdeal := hDQIdeal) (hDQRefIdeal := hDQRefIdeal)
    ∧ preserves_UQ_UQIdeal
    ∧ algebraic_UQIdeal_UQRefIdeal (hUQIdeal := hUQIdeal) (hUQRefIdeal := hUQRefIdeal)
    ∧ preserves_DKV_DKVIdeal
    ∧ algebraic_DKVIdeal_DKVRefIdeal (hDKVIdeal := hDKVIdeal) (hDKVRefIdeal := hDKVRefIdeal)
    ∧ preserves_KVPost_KVPostIdeal
    ∧ algebraic_KVPostIdeal_KVPostRefIdeal (hKVPostIdeal := hKVPostIdeal) (hKVPostRefIdeal := hKVPostRefIdeal)
    ∧ preserves_KS_KSIdeal
    ∧ algebraic_KSIdeal_KSRefIdeal (hKSIdeal := hKSIdeal) (hKSRefIdeal := hKSRefIdeal)
    ∧ preserves_VS_VSIdeal
    ∧ algebraic_VSIdeal_VSRefIdeal (hVSIdeal := hVSIdeal) (hVSRefIdeal := hVSRefIdeal)
    ∧ preserves_KP_KPIdeal
    ∧ algebraic_KPIdeal_KPRefIdeal (hKPIdeal := hKPIdeal) (hKPRefIdeal := hKPRefIdeal)
    ∧ preserves_VP_VPIdeal
    ∧ algebraic_VPIdeal_VPRefIdeal (hVPIdeal := hVPIdeal) (hVPRefIdeal := hVPRefIdeal)
    ∧ preserves_Gates_GatesIdeal
    ∧ algebraic_GatesIdeal_GatesRefIdeal (hGatesIdeal := hGatesIdeal) (hGatesRefIdeal := hGatesRefIdeal)
    ∧ preserves_Norm_NormIdeal
    ∧ algebraic_NormIdeal_NormRefIdeal (hNormIdeal := hNormIdeal) (hNormRefIdeal := hNormRefIdeal)
-- ==== Pre_finite.lean ====
abbrev S10496x8192 : Shape := ⟨2, ![10496, 8192]⟩
abbrev S4096x36864 : Shape := ⟨2, ![4096, 36864]⟩
abbrev S640x36864 : Shape := ⟨2, ![640, 36864]⟩
abbrev S36864x4096 : Shape := ⟨2, ![36864, 4096]⟩
abbrev S10496x4096 : Shape := ⟨2, ![10496, 4096]⟩
abbrev S_ : Shape := ⟨0, ![]⟩

class Facts : Prop where
  bitsLt_bf16_f32 : FTy.bits .bf16 < FTy.bits .f32
  bcast_S_S10496x8192 : S_.BroadcastsInDim S10496x8192 (![] : Fin 0 → Fin S10496x8192.rank)
  reducesTo_S10496x8192_S_d0_1 : S10496x8192.ReducesTo [0, 1] S_
  h_S_ : 0 < S_.numel
  bcast_S_S4096x36864 : S_.BroadcastsInDim S4096x36864 (![] : Fin 0 → Fin S4096x36864.rank)
  reducesTo_S4096x36864_S_d0_1 : S4096x36864.ReducesTo [0, 1] S_
  bcast_S_S640x36864 : S_.BroadcastsInDim S640x36864 (![] : Fin 0 → Fin S640x36864.rank)
  reducesTo_S640x36864_S_d0_1 : S640x36864.ReducesTo [0, 1] S_

variable [Facts]

def fn {F : FTy → Type} [FloatOps F] (main_arg0 : FVec F S10496x8192 .bf16) (main_arg1 : FVec F S4096x36864 .bf16) (main_arg2 : FVec F S640x36864 .bf16) (main_arg3 : FVec F S36864x4096 .bf16) (main_arg4 : FVec F S10496x4096 .bf16) : IVec S_ 1 :=
  let main_v0 : FVec F S10496x8192 .f32 := (extf .f32 · bitsLt_bf16_f32) main_arg0
  let main_v1 : FVec F S10496x8192 .f32 := Host.absf main_v0
  let main_cst : FVec F S_ .f32 := constant S_ .f32 0x7F800000#32
  let main_v2 : FVec F S10496x8192 .f32 := broadcastInDim S10496x8192 ![] bcast_S_S10496x8192 main_cst
  let main_v3 : IVec S10496x8192 1 := cmpf .olt main_v1 main_v2
  let main_c : IVec S_ 1 := constantI S_ 1 1#1
  let main_v4 : IVec S_ 1 := (fun x v => Host.reduce IntOp.andi x v reducesTo_S10496x8192_S_d0_1 h_S_) main_v3 main_c
  let main_v5 : FVec F S4096x36864 .f32 := (extf .f32 · bitsLt_bf16_f32) main_arg1
  let main_v6 : FVec F S4096x36864 .f32 := Host.absf main_v5
  let main_cst_0 : FVec F S_ .f32 := constant S_ .f32 0x7F800000#32
  let main_v7 : FVec F S4096x36864 .f32 := broadcastInDim S4096x36864 ![] bcast_S_S4096x36864 main_cst_0
  let main_v8 : IVec S4096x36864 1 := cmpf .olt main_v6 main_v7
  let main_c_1 : IVec S_ 1 := constantI S_ 1 1#1
  let main_v9 : IVec S_ 1 := (fun x v => Host.reduce IntOp.andi x v reducesTo_S4096x36864_S_d0_1 h_S_) main_v8 main_c_1
  let main_v10 : IVec S_ 1 := andi main_v4 main_v9
  let main_v11 : FVec F S640x36864 .f32 := (extf .f32 · bitsLt_bf16_f32) main_arg2
  let main_v12 : FVec F S640x36864 .f32 := Host.absf main_v11
  let main_cst_2 : FVec F S_ .f32 := constant S_ .f32 0x7F800000#32
  let main_v13 : FVec F S640x36864 .f32 := broadcastInDim S640x36864 ![] bcast_S_S640x36864 main_cst_2
  let main_v14 : IVec S640x36864 1 := cmpf .olt main_v12 main_v13
  let main_c_3 : IVec S_ 1 := constantI S_ 1 1#1
  let main_v15 : IVec S_ 1 := (fun x v => Host.reduce IntOp.andi x v reducesTo_S640x36864_S_d0_1 h_S_) main_v14 main_c_3
  let main_v16 : IVec S_ 1 := andi main_v10 main_v15
  main_v16
-- ==== Kernel.lean ====
abbrev S10496x8192 : Shape := ⟨2, ![10496, 8192]⟩
abbrev S4096x36864 : Shape := ⟨2, ![4096, 36864]⟩
abbrev S640x36864 : Shape := ⟨2, ![640, 36864]⟩
abbrev S36864x4096 : Shape := ⟨2, ![36864, 4096]⟩
abbrev S10496x4096 : Shape := ⟨2, ![10496, 4096]⟩
abbrev S64x2048 : Shape := ⟨2, ![64, 2048]⟩
abbrev S1024x1152 : Shape := ⟨2, ![1024, 1152]⟩
abbrev S128x1152 : Shape := ⟨2, ![128, 1152]⟩
abbrev S1152x1024 : Shape := ⟨2, ![1152, 1024]⟩
abbrev S64x1024 : Shape := ⟨2, ![64, 1024]⟩
abbrev S1x1152 : Shape := ⟨2, ![1, 1152]⟩
abbrev S64x256 : Shape := ⟨2, ![64, 256]⟩
abbrev S64x128 : Shape := ⟨2, ![64, 128]⟩
abbrev S512x128 : Shape := ⟨2, ![512, 128]⟩
abbrev S512x1152 : Shape := ⟨2, ![512, 1152]⟩
abbrev S64x1152 : Shape := ⟨2, ![64, 1152]⟩
abbrev S64 : Shape := ⟨1, ![64]⟩
abbrev S64x1 : Shape := ⟨2, ![64, 1]⟩
abbrev S1152x128 : Shape := ⟨2, ![1152, 128]⟩

abbrev nBuf : Space → Nat
  | .hbm => 6
  | .vmem => 10
  | .smem => 0
  | _ => 0

abbrev bufTy : (tb : Table) → Fin (tcTables nBuf tb) → BufTy
  | .hbm, ⟨0, _⟩ => ⟨S10496x8192, .bf16⟩
  | .hbm, ⟨1, _⟩ => ⟨S4096x36864, .bf16⟩
  | .hbm, ⟨2, _⟩ => ⟨S640x36864, .bf16⟩
  | .hbm, ⟨3, _⟩ => ⟨S36864x4096, .bf16⟩
  | .hbm, ⟨4, _⟩ => ⟨S10496x4096, .bf16⟩
  | .hbm, ⟨5, _⟩ => ⟨S10496x4096, .bf16⟩
  | .local _ .vmem, ⟨0, _⟩ => ⟨S64x2048, .bf16⟩
  | .local _ .vmem, ⟨1, _⟩ => ⟨S64x2048, .bf16⟩
  | .local _ .vmem, ⟨2, _⟩ => ⟨S1024x1152, .bf16⟩
  | .local _ .vmem, ⟨3, _⟩ => ⟨S1024x1152, .bf16⟩
  | .local _ .vmem, ⟨4, _⟩ => ⟨S128x1152, .bf16⟩
  | .local _ .vmem, ⟨5, _⟩ => ⟨S128x1152, .bf16⟩
  | .local _ .vmem, ⟨6, _⟩ => ⟨S1152x1024, .bf16⟩
  | .local _ .vmem, ⟨7, _⟩ => ⟨S1152x1024, .bf16⟩
  | .local _ .vmem, ⟨8, _⟩ => ⟨S64x1024, .bf16⟩
  | .local _ .vmem, ⟨9, _⟩ => ⟨S64x1024, .bf16⟩
  | _, _ => ⟨S10496x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.addi c132_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.addi c132_i32 arg0
  let c0_i32 : BitVec 32 := 0#32
  ![v0.toNat, arg1.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S10496x8192 : Shape := ⟨2, ![10496, 8192]⟩
abbrev S4096x36864 : Shape := ⟨2, ![4096, 36864]⟩
abbrev S640x36864 : Shape := ⟨2, ![640, 36864]⟩
abbrev S36864x4096 : Shape := ⟨2, ![36864, 4096]⟩
abbrev S10496x4096 : Shape := ⟨2, ![10496, 4096]⟩
abbrev S2048x8192 : Shape := ⟨2, ![2048, 8192]⟩
abbrev S32x64x32x256 : Shape := ⟨4, ![32, 64, 32, 256]⟩
abbrev S32x128x32x1152 : Shape := ⟨4, ![32, 128, 32, 1152]⟩
abbrev S32x128x32x1088 : Shape := ⟨4, ![32, 128, 32, 1088]⟩
abbrev S128x36864 : Shape := ⟨2, ![128, 36864]⟩
abbrev S128x32x1152 : Shape := ⟨3, ![128, 32, 1152]⟩
abbrev S128x32x1088 : Shape := ⟨3, ![128, 32, 1088]⟩
abbrev S32x1152x32x128 : Shape := ⟨4, ![32, 1152, 32, 128]⟩
abbrev S32x1088x32x128 : Shape := ⟨4, ![32, 1088, 32, 128]⟩
abbrev S32x64x32x128 : Shape := ⟨4, ![32, 64, 32, 128]⟩
abbrev S32x32x64x1088 : Shape := ⟨4, ![32, 32, 64, 1088]⟩
abbrev S32x1088x64x32 : Shape := ⟨4, ![32, 1088, 64, 32]⟩
abbrev S_ : Shape := ⟨0, ![]⟩
abbrev S32x32x64 : Shape := ⟨3, ![32, 32, 64]⟩
abbrev S32x32x64x1 : Shape := ⟨4, ![32, 32, 64, 1]⟩
abbrev S32x32x128x64 : Shape := ⟨4, ![32, 32, 128, 64]⟩
abbrev S8448x4096 : Shape := ⟨2, ![8448, 4096]⟩
abbrev S2048x4096 : Shape := ⟨2, ![2048, 4096]⟩

abbrev nBuf : Space → Nat
  | .hbm => 49
  | .vmem => 0
  | .smem => 0
  | _ => 0

abbrev bufTy : (tb : Table) → Fin (tcTables nBuf tb) → BufTy
  | .hbm, ⟨0, _⟩ => ⟨S10496x8192, .bf16⟩
  | .hbm, ⟨1, _⟩ => ⟨S4096x36864, .bf16⟩
  | .hbm, ⟨2, _⟩ => ⟨S640x36864, .bf16⟩
  | .hbm, ⟨3, _⟩ => ⟨S36864x4096, .bf16⟩
  | .hbm, ⟨4, _⟩ => ⟨S10496x4096, .bf16⟩
  | .hbm, ⟨5, _⟩ => ⟨S2048x8192, .bf16⟩
  | .hbm, ⟨6, _⟩ => ⟨S2048x8192, .f32⟩
  | .hbm, ⟨7, _⟩ => ⟨S32x64x32x256, .f32⟩
  | .hbm, ⟨8, _⟩ => ⟨S4096x36864, .f32⟩
  | .hbm, ⟨9, _⟩ => ⟨S32x128x32x1152, .f32⟩
  | .hbm, ⟨10, _⟩ => ⟨S32x128x32x1088, .f32⟩
  | .hbm, ⟨11, _⟩ => ⟨S128x36864, .bf16⟩
  | .hbm, ⟨12, _⟩ => ⟨S128x36864, .f32⟩
  | .hbm, ⟨13, _⟩ => ⟨S128x32x1152, .f32⟩
  | .hbm, ⟨14, _⟩ => ⟨S128x32x1088, .f32⟩
  | .hbm, ⟨15, _⟩ => ⟨S36864x4096, .f32⟩
  | .hbm, ⟨16, _⟩ => ⟨S32x1152x32x128, .f32⟩
  | .hbm, ⟨17, _⟩ => ⟨S32x1088x32x128, .f32⟩
  | .hbm, ⟨18, _⟩ => ⟨S32x64x32x128, .f32⟩
  | .hbm, ⟨19, _⟩ => ⟨S32x32x64x1088, .f32⟩
  | .hbm, ⟨20, _⟩ => ⟨S32x64x32x128, .f32⟩
  | .hbm, ⟨21, _⟩ => ⟨S32x1088x64x32, .f32⟩
  | .hbm, ⟨22, _⟩ => ⟨S32x32x64x1088, .f32⟩
  | .hbm, ⟨23, _⟩ => ⟨S32x32x64x1088, .f32⟩
  | .hbm, ⟨24, _⟩ => ⟨S_, .f32⟩
  | .hbm, ⟨25, _⟩ => ⟨S_, .f32⟩
  | .hbm, ⟨26, _⟩ => ⟨S32x32x64x1088, .f32⟩
  | .hbm, ⟨27, _⟩ => ⟨S32x32x64x1088, .f32⟩
  | .hbm, ⟨28, _⟩ => ⟨S_, .f32⟩
  | .hbm, ⟨29, _⟩ => ⟨S32x32x64, .f32⟩
  | .hbm, ⟨30, _⟩ => ⟨S_, .f32⟩
  | .hbm, ⟨31, _⟩ => ⟨S32x32x64, .f32⟩
  | .hbm, ⟨32, _⟩ => ⟨S32x32x64, .f32⟩
  | .hbm, ⟨33, _⟩ => ⟨S32x32x64x1, .f32⟩
  | .hbm, ⟨34, _⟩ => ⟨S32x32x64x1088, .f32⟩
  | .hbm, ⟨35, _⟩ => ⟨S32x32x64x1088, .f32⟩
  | .hbm, ⟨36, _⟩ => ⟨S32x32x64x1088, .f32⟩
  | .hbm, ⟨37, _⟩ => ⟨S_, .f32⟩
  | .hbm, ⟨38, _⟩ => ⟨S32x32x64, .f32⟩
  | .hbm, ⟨39, _⟩ => ⟨S32x32x64x1, .f32⟩
  | .hbm, ⟨40, _⟩ => ⟨S32x32x64x1088, .f32⟩
  | .hbm, ⟨41, _⟩ => ⟨S32x32x64x1088, .f32⟩
  | .hbm, ⟨42, _⟩ => ⟨S32x32x128x64, .f32⟩
  | .hbm, ⟨43, _⟩ => ⟨S32x64x32x128, .f32⟩
  | .hbm, ⟨44, _⟩ => ⟨S8448x4096, .bf16⟩
  | .hbm, ⟨45, _⟩ => ⟨S8448x4096, .f32⟩
  | .hbm, ⟨46, _⟩ => ⟨S2048x4096, .f32⟩
  | .hbm, ⟨47, _⟩ => ⟨S10496x4096, .f32⟩
  | .hbm, ⟨48, _⟩ => ⟨S10496x4096, .bf16⟩
  | _, _ => ⟨S10496x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Up.lean ====
abbrev S10496x4096 : Shape := ⟨2, ![10496, 4096]⟩
abbrev S4x4096x16384 : Shape := ⟨3, ![4, 4096, 16384]⟩
abbrev S10496x16384 : Shape := ⟨2, ![10496, 16384]⟩
abbrev S1312x4096 : Shape := ⟨2, ![1312, 4096]⟩
abbrev S1x4096x512 : Shape := ⟨3, ![1, 4096, 512]⟩
abbrev S1312x512 : Shape := ⟨2, ![1312, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S10496x4096, .bf16⟩
  | .hbm, ⟨1, _⟩ => ⟨S4x4096x16384, .f32⟩
  | .hbm, ⟨2, _⟩ => ⟨S10496x16384, .bf16⟩
  | .local _ .vmem, ⟨0, _⟩ => ⟨S1312x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1312x512, .bf16⟩
  | .local _ .vmem, ⟨4, _⟩ => ⟨S1312x512, .bf16⟩
  | _, _ => ⟨S10496x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1312x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1312x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S10496x4096 : Shape := ⟨2, ![10496, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S10496x16384 : Shape := ⟨2, ![10496, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10496x4096, .bf16⟩
  | .hbm, ⟨1, _⟩ => ⟨S4x4096x16384, .f32⟩
  | .hbm, ⟨2, _⟩ => ⟨S10496x4096, .f32⟩
  | .hbm, ⟨3, _⟩ => ⟨S1x4096x16384, .f32⟩
  | .hbm, ⟨4, _⟩ => ⟨S4096x16384, .f32⟩
  | .hbm, ⟨5, _⟩ => ⟨S10496x16384, .f32⟩
  | .hbm, ⟨6, _⟩ => ⟨S_, .f32⟩
  | .hbm, ⟨7, _⟩ => ⟨S10496x16384, .f32⟩
  | .hbm, ⟨8, _⟩ => ⟨S10496x16384, .f32⟩
  | .hbm, ⟨9, _⟩ => ⟨S10496x16384, .f32⟩
  | .hbm, ⟨10, _⟩ => ⟨S10496x16384, .bf16⟩
  | _, _ => ⟨S10496x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S10496x16384 : Shape := ⟨2, ![10496, 16384]⟩
abbrev S4x16384x4096 : Shape := ⟨3, ![4, 16384, 4096]⟩
abbrev S10496x4096 : Shape := ⟨2, ![10496, 4096]⟩
abbrev S1312x2048 : Shape := ⟨2, ![1312, 2048]⟩
abbrev S1x2048x1024 : Shape := ⟨3, ![1, 2048, 1024]⟩
abbrev S1312x1024 : Shape := ⟨2, ![1312, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S10496x16384, .bf16⟩
  | .hbm, ⟨1, _⟩ => ⟨S4x16384x4096, .f32⟩
  | .hbm, ⟨2, _⟩ => ⟨S10496x4096, .bf16⟩
  | .local _ .vmem, ⟨0, _⟩ => ⟨S1312x2048, .bf16⟩
  | .local _ .vmem, ⟨1, _⟩ => ⟨S1312x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1312x1024, .bf16⟩
  | .local _ .vmem, ⟨5, _⟩ => ⟨S1312x1024, .bf16⟩
  | .local _ .vmem, ⟨6, _⟩ => ⟨S1312x1024, .f32⟩
  | _, _ => ⟨S10496x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1312x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1312x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S10496x16384 : Shape := ⟨2, ![10496, 16384]⟩
abbrev S4x16384x4096 : Shape := ⟨3, ![4, 16384, 4096]⟩
abbrev S1x16384x4096 : Shape := ⟨3, ![1, 16384, 4096]⟩
abbrev S16384x4096 : Shape := ⟨2, ![16384, 4096]⟩
abbrev S10496x4096 : Shape := ⟨2, ![10496, 4096]⟩

abbrev nBuf : Space → Nat
  | .hbm => 7
  | .vmem => 0
  | .smem => 0
  | _ => 0

abbrev bufTy : (tb : Table) → Fin (tcTables nBuf tb) → BufTy
  | .hbm, ⟨0, _⟩ => ⟨S10496x16384, .bf16⟩
  | .hbm, ⟨1, _⟩ => ⟨S4x16384x4096, .f32⟩
  | .hbm, ⟨2, _⟩ => ⟨S10496x16384, .f32⟩
  | .hbm, ⟨3, _⟩ => ⟨S1x16384x4096, .f32⟩
  | .hbm, ⟨4, _⟩ => ⟨S16384x4096, .f32⟩
  | .hbm, ⟨5, _⟩ => ⟨S10496x4096, .f32⟩
  | .hbm, ⟨6, _⟩ => ⟨S10496x4096, .bf16⟩
  | _, _ => ⟨S10496x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== WIn.lean ====
abbrev S10496x4096 : Shape := ⟨2, ![10496, 4096]⟩
abbrev S2x4096x16448 : Shape := ⟨3, ![2, 4096, 16448]⟩
abbrev S2x16448x4096 : Shape := ⟨3, ![2, 16448, 4096]⟩
abbrev S10496x16384 : Shape := ⟨2, ![10496, 16384]⟩
abbrev S1312x4096 : Shape := ⟨2, ![1312, 4096]⟩
abbrev S1x512x4096 : Shape := ⟨3, ![1, 512, 4096]⟩
abbrev S1312x512 : Shape := ⟨2, ![1312, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S10496x4096, .bf16⟩
  | .hbm, ⟨1, _⟩ => ⟨S2x4096x16448, .f32⟩
  | .hbm, ⟨2, _⟩ => ⟨S2x16448x4096, .f32⟩
  | .hbm, ⟨3, _⟩ => ⟨S10496x16384, .f32⟩
  | .local _ .vmem, ⟨0, _⟩ => ⟨S1312x4096, .bf16⟩
  | .local _ .vmem, ⟨1, _⟩ => ⟨S1x512x4096, .f32⟩
  | .local _ .vmem, ⟨2, _⟩ => ⟨S1x512x4096, .f32⟩
  | .local _ .vmem, ⟨3, _⟩ => ⟨S1312x512, .f32⟩
  | .local _ .vmem, ⟨4, _⟩ => ⟨S1312x512, .f32⟩
  | _, _ => ⟨S10496x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1312x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1312x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S10496x4096 : Shape := ⟨2, ![10496, 4096]⟩
abbrev S2x4096x16448 : Shape := ⟨3, ![2, 4096, 16448]⟩
abbrev S1x4096x16448 : Shape := ⟨3, ![1, 4096, 16448]⟩
abbrev S4096x16448 : Shape := ⟨2, ![4096, 16448]⟩
abbrev S10496x16448 : Shape := ⟨2, ![10496, 16448]⟩
abbrev S10496x16384 : Shape := ⟨2, ![10496, 16384]⟩

abbrev nBuf : Space → Nat
  | .hbm => 7
  | .vmem => 0
  | .smem => 0
  | _ => 0

abbrev bufTy : (tb : Table) → Fin (tcTables nBuf tb) → BufTy
  | .hbm, ⟨0, _⟩ => ⟨S10496x4096, .bf16⟩
  | .hbm, ⟨1, _⟩ => ⟨S2x4096x16448, .f32⟩
  | .hbm, ⟨2, _⟩ => ⟨S10496x4096, .f32⟩
  | .hbm, ⟨3, _⟩ => ⟨S1x4096x16448, .f32⟩
  | .hbm, ⟨4, _⟩ => ⟨S4096x16448, .f32⟩
  | .hbm, ⟨5, _⟩ => ⟨S10496x16448, .f32⟩
  | .hbm, ⟨6, _⟩ => ⟨S10496x16384, .f32⟩
  | _, _ => ⟨S10496x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== WO.lean ====
abbrev S10496x4096 : Shape := ⟨2, ![10496, 4096]⟩
abbrev S2x4096x4096 : Shape := ⟨3, ![2, 4096, 4096]⟩
abbrev S1312x4096 : Shape := ⟨2, ![1312, 4096]⟩
abbrev S1x4096x512 : Shape := ⟨3, ![1, 4096, 512]⟩
abbrev S1312x512 : Shape := ⟨2, ![1312, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S10496x4096, .bf16⟩
  | .hbm, ⟨1, _⟩ => ⟨S2x4096x4096, .f32⟩
  | .hbm, ⟨2, _⟩ => ⟨S10496x4096, .bf16⟩
  | .local _ .vmem, ⟨0, _⟩ => ⟨S1312x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1312x512, .bf16⟩
  | .local _ .vmem, ⟨4, _⟩ => ⟨S1312x512, .bf16⟩
  | _, _ => ⟨S10496x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1312x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1312x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WORefIdeal.lean ====
abbrev S10496x4096 : Shape := ⟨2, ![10496, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S10496x4096, .bf16⟩
  | .hbm, ⟨1, _⟩ => ⟨S2x4096x4096, .f32⟩
  | .hbm, ⟨2, _⟩ => ⟨S10496x4096, .f32⟩
  | .hbm, ⟨3, _⟩ => ⟨S1x4096x4096, .f32⟩
  | .hbm, ⟨4, _⟩ => ⟨S4096x4096, .f32⟩
  | .hbm, ⟨5, _⟩ => ⟨S10496x4096, .f32⟩
  | .hbm, ⟨6, _⟩ => ⟨S10496x4096, .bf16⟩
  | _, _ => ⟨S10496x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DQ.lean ====
abbrev S10496x4096 : Shape := ⟨2, ![10496, 4096]⟩
abbrev S2x4096x1024 : Shape := ⟨3, ![2, 4096, 1024]⟩
abbrev S2x1024 : Shape := ⟨2, ![2, 1024]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S10496x1024 : Shape := ⟨2, ![10496, 1024]⟩
abbrev S1312x4096 : Shape := ⟨2, ![1312, 4096]⟩
abbrev S1312x1024 : Shape := ⟨2, ![1312, 1024]⟩
abbrev S1312 : Shape := ⟨1, ![1312]⟩
abbrev S1312x1 : Shape := ⟨2, ![1312, 1]⟩

abbrev nBuf : Space → Nat
  | .hbm => 10
  | .vmem => 6
  | .smem => 0
  | _ => 0

abbrev bufTy : (tb : Table) → Fin (tcTables nBuf tb) → BufTy
  | .hbm, ⟨0, _⟩ => ⟨S10496x4096, .bf16⟩
  | .hbm, ⟨1, _⟩ => ⟨S2x4096x1024, .f32⟩
  | .hbm, ⟨2, _⟩ => ⟨S2x1024, .f32⟩
  | .hbm, ⟨3, _⟩ => ⟨S1x4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S10496x1024, .bf16⟩
  | .local _ .vmem, ⟨0, _⟩ => ⟨S1312x4096, .bf16⟩
  | .local _ .vmem, ⟨1, _⟩ => ⟨S1312x4096, .bf16⟩
  | .local _ .vmem, ⟨2, _⟩ => ⟨S4096x1024, .bf16⟩
  | .local _ .vmem, ⟨3, _⟩ => ⟨S1x1024, .f32⟩
  | .local _ .vmem, ⟨4, _⟩ => ⟨S1312x1024, .bf16⟩
  | .local _ .vmem, ⟨5, _⟩ => ⟨S1312x1024, .bf16⟩
  | _, _ => ⟨S10496x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1312x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1312x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DQRefIdeal.lean ====
abbrev S10496x4096 : Shape := ⟨2, ![10496, 4096]⟩
abbrev S2x4096x1024 : Shape := ⟨3, ![2, 4096, 1024]⟩
abbrev S2x1024 : Shape := ⟨2, ![2, 1024]⟩
abbrev S1x4096x1024 : Shape := ⟨3, ![1, 4096, 1024]⟩
abbrev S4096x1024 : Shape := ⟨2, ![4096, 1024]⟩
abbrev S10496x1024 : Shape := ⟨2, ![10496, 1024]⟩
abbrev S_ : Shape := ⟨0, ![]⟩
abbrev S10496 : Shape := ⟨1, ![10496]⟩
abbrev S10496x1 : Shape := ⟨2, ![10496, 1]⟩
abbrev S1x1024 : Shape := ⟨2, ![1, 1024]⟩
abbrev S1024 : Shape := ⟨1, ![1024]⟩

abbrev nBuf : Space → Nat
  | .hbm => 26
  | .vmem => 0
  | .smem => 0
  | _ => 0

abbrev bufTy : (tb : Table) → Fin (tcTables nBuf tb) → BufTy
  | .hbm, ⟨0, _⟩ => ⟨S10496x4096, .bf16⟩
  | .hbm, ⟨1, _⟩ => ⟨S2x4096x1024, .f32⟩
  | .hbm, ⟨2, _⟩ => ⟨S2x1024, .f32⟩
  | .hbm, ⟨3, _⟩ => ⟨S10496x4096, .f32⟩
  | .hbm, ⟨4, _⟩ => ⟨S1x4096x1024, .f32⟩
  | .hbm, ⟨5, _⟩ => ⟨S4096x1024, .f32⟩
  | .hbm, ⟨6, _⟩ => ⟨S10496x1024, .f32⟩
  | .hbm, ⟨7, _⟩ => ⟨S10496x1024, .f32⟩
  | .hbm, ⟨8, _⟩ => ⟨S_, .f32⟩
  | .hbm, ⟨9, _⟩ => ⟨S10496, .f32⟩
  | .hbm, ⟨10, _⟩ => ⟨S10496x1, .f32⟩
  | .hbm, ⟨11, _⟩ => ⟨S_, .f32⟩
  | .hbm, ⟨12, _⟩ => ⟨S10496x1, .f32⟩
  | .hbm, ⟨13, _⟩ => ⟨S10496x1, .f32⟩
  | .hbm, ⟨14, _⟩ => ⟨S_, .f32⟩
  | .hbm, ⟨15, _⟩ => ⟨S10496x1, .f32⟩
  | .hbm, ⟨16, _⟩ => ⟨S10496x1, .f32⟩
  | .hbm, ⟨17, _⟩ => ⟨S10496x1, .f32⟩
  | .hbm, ⟨18, _⟩ => ⟨S10496x1024, .f32⟩
  | .hbm, ⟨19, _⟩ => ⟨S10496x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S10496x1024, .f32⟩
  | .hbm, ⟨24, _⟩ => ⟨S10496x1024, .f32⟩
  | .hbm, ⟨25, _⟩ => ⟨S10496x1024, .bf16⟩
  | _, _ => ⟨S10496x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== UQ.lean ====
abbrev S10496x1024 : Shape := ⟨2, ![10496, 1024]⟩
abbrev S2x1024x6144 : Shape := ⟨3, ![2, 1024, 6144]⟩
abbrev S10496 : Shape := ⟨1, ![10496]⟩
abbrev S32 : Shape := ⟨1, ![32]⟩
abbrev S_ : Shape := ⟨0, ![]⟩
abbrev S10496x1 : Shape := ⟨2, ![10496, 1]⟩
abbrev S1x32 : Shape := ⟨2, ![1, 32]⟩
abbrev S10496x32 : Shape := ⟨2, ![10496, 32]⟩
abbrev S10496x64 : Shape := ⟨2, ![10496, 64]⟩
abbrev S10496x128 : Shape := ⟨2, ![10496, 128]⟩
abbrev S1x1024x6144 : Shape := ⟨3, ![1, 1024, 6144]⟩
abbrev S1024x6144 : Shape := ⟨2, ![1024, 6144]⟩
abbrev S1024x32x192 : Shape := ⟨3, ![1024, 32, 192]⟩
abbrev S1024x32x128 : Shape := ⟨3, ![1024, 32, 128]⟩
abbrev S1024x32x64 : Shape := ⟨3, ![1024, 32, 64]⟩
abbrev S1024x32x32 : Shape := ⟨3, ![1024, 32, 32]⟩
abbrev S1024x32x256 : Shape := ⟨3, ![1024, 32, 256]⟩
abbrev S1024x8192 : Shape := ⟨2, ![1024, 8192]⟩
abbrev S10496x8192 : Shape := ⟨2, ![10496, 8192]⟩
abbrev S1312x1024 : Shape := ⟨2, ![1312, 1024]⟩
abbrev S1024x2048 : Shape := ⟨2, ![1024, 2048]⟩
abbrev S1312x128 : Shape := ⟨2, ![1312, 128]⟩
abbrev S1312x2048 : Shape := ⟨2, ![1312, 2048]⟩

abbrev nBuf : Space → Nat
  | .hbm => 59
  | .vmem => 9
  | .smem => 0
  | _ => 0

abbrev bufTy : (tb : Table) → Fin (tcTables nBuf tb) → BufTy
  | .hbm, ⟨0, _⟩ => ⟨S10496x1024, .bf16⟩
  | .hbm, ⟨1, _⟩ => ⟨S2x1024x6144, .f32⟩
  | .hbm, ⟨2, _⟩ => ⟨S10496, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S10496x1, .f32⟩
  | .hbm, ⟨14, _⟩ => ⟨S1x32, .f32⟩
  | .hbm, ⟨15, _⟩ => ⟨S10496x32, .f32⟩
  | .hbm, ⟨16, _⟩ => ⟨S10496x32, .f32⟩
  | .hbm, ⟨17, _⟩ => ⟨S10496x32, .f32⟩
  | .hbm, ⟨18, _⟩ => ⟨S10496x32, .f32⟩
  | .hbm, ⟨19, _⟩ => ⟨S10496x32, .f32⟩
  | .hbm, ⟨20, _⟩ => ⟨S10496x64, .f32⟩
  | .hbm, ⟨21, _⟩ => ⟨S10496x32, .f32⟩
  | .hbm, ⟨22, _⟩ => ⟨S_, .i32⟩
  | .hbm, ⟨23, _⟩ => ⟨S_, .f32⟩
  | .hbm, ⟨24, _⟩ => ⟨S10496x64, .f32⟩
  | .hbm, ⟨25, _⟩ => ⟨S10496x32, .f32⟩
  | .hbm, ⟨26, _⟩ => ⟨S_, .i32⟩
  | .hbm, ⟨27, _⟩ => ⟨S_, .f32⟩
  | .hbm, ⟨28, _⟩ => ⟨S10496x64, .f32⟩
  | .hbm, ⟨29, _⟩ => ⟨S10496x128, .f32⟩
  | .hbm, ⟨30, _⟩ => ⟨S10496x32, .f32⟩
  | .hbm, ⟨31, _⟩ => ⟨S10496x64, .f32⟩
  | .hbm, ⟨32, _⟩ => ⟨S10496x32, .f32⟩
  | .hbm, ⟨33, _⟩ => ⟨S_, .i32⟩
  | .hbm, ⟨34, _⟩ => ⟨S_, .f32⟩
  | .hbm, ⟨35, _⟩ => ⟨S10496x64, .f32⟩
  | .hbm, ⟨36, _⟩ => ⟨S10496x32, .f32⟩
  | .hbm, ⟨37, _⟩ => ⟨S_, .i32⟩
  | .hbm, ⟨38, _⟩ => ⟨S_, .f32⟩
  | .hbm, ⟨39, _⟩ => ⟨S10496x64, .f32⟩
  | .hbm, ⟨40, _⟩ => ⟨S10496x128, .f32⟩
  | .hbm, ⟨41, _⟩ => ⟨S1x1024x6144, .f32⟩
  | .hbm, ⟨42, _⟩ => ⟨S1024x6144, .f32⟩
  | .hbm, ⟨43, _⟩ => ⟨S1024x32x192, .f32⟩
  | .hbm, ⟨44, _⟩ => ⟨S1024x32x128, .f32⟩
  | .hbm, ⟨45, _⟩ => ⟨S1024x32x64, .f32⟩
  | .hbm, ⟨46, _⟩ => ⟨S1024x32x32, .f32⟩
  | .hbm, ⟨47, _⟩ => ⟨S_, .i32⟩
  | .hbm, ⟨48, _⟩ => ⟨S_, .f32⟩
  | .hbm, ⟨49, _⟩ => ⟨S1024x32x64, .f32⟩
  | .hbm, ⟨50, _⟩ => ⟨S1024x32x32, .f32⟩
  | .hbm, ⟨51, _⟩ => ⟨S_, .i32⟩
  | .hbm, ⟨52, _⟩ => ⟨S_, .f32⟩
  | .hbm, ⟨53, _⟩ => ⟨S1024x32x64, .f32⟩
  | .hbm, ⟨54, _⟩ => ⟨S1024x32x128, .f32⟩
  | .hbm, ⟨55, _⟩ => ⟨S1024x32x256, .f32⟩
  | .hbm, ⟨56, _⟩ => ⟨S1024x8192, .f32⟩
  | .hbm, ⟨57, _⟩ => ⟨S1024x8192, .bf16⟩
  | .hbm, ⟨58, _⟩ => ⟨S10496x8192, .bf16⟩
  | .local _ .vmem, ⟨0, _⟩ => ⟨S1312x1024, .bf16⟩
  | .local _ .vmem, ⟨1, _⟩ => ⟨S1024x2048, .bf16⟩
  | .local _ .vmem, ⟨2, _⟩ => ⟨S1024x2048, .bf16⟩
  | .local _ .vmem, ⟨3, _⟩ => ⟨S1312x128, .f32⟩
  | .local _ .vmem, ⟨4, _⟩ => ⟨S1312x128, .f32⟩
  | .local _ .vmem, ⟨5, _⟩ => ⟨S1312x128, .f32⟩
  | .local _ .vmem, ⟨6, _⟩ => ⟨S1312x128, .f32⟩
  | .local _ .vmem, ⟨7, _⟩ => ⟨S1312x2048, .bf16⟩
  | .local _ .vmem, ⟨8, _⟩ => ⟨S1312x2048, .bf16⟩
  | _, _ => ⟨S10496x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_call3_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_call4_v0 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_call5_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1312x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1312x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1312x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1312x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UQRefIdeal.lean ====
abbrev S10496x1024 : Shape := ⟨2, ![10496, 1024]⟩
abbrev S2x1024x6144 : Shape := ⟨3, ![2, 1024, 6144]⟩
abbrev S10496 : Shape := ⟨1, ![10496]⟩
abbrev S1x1024x6144 : Shape := ⟨3, ![1, 1024, 6144]⟩
abbrev S1024x6144 : Shape := ⟨2, ![1024, 6144]⟩
abbrev S10496x6144 : Shape := ⟨2, ![10496, 6144]⟩
abbrev S10496x32x192 : Shape := ⟨3, ![10496, 32, 192]⟩
abbrev S10496x32x64 : Shape := ⟨3, ![10496, 32, 64]⟩
abbrev S32 : Shape := ⟨1, ![32]⟩
abbrev S_ : Shape := ⟨0, ![]⟩
abbrev S10496x1 : Shape := ⟨2, ![10496, 1]⟩
abbrev S1x32 : Shape := ⟨2, ![1, 32]⟩
abbrev S10496x32 : Shape := ⟨2, ![10496, 32]⟩
abbrev S10496x1x32 : Shape := ⟨3, ![10496, 1, 32]⟩
abbrev S10496x32x32 : Shape := ⟨3, ![10496, 32, 32]⟩
abbrev S10496x32x128 : Shape := ⟨3, ![10496, 32, 128]⟩
abbrev S10496x32x256 : Shape := ⟨3, ![10496, 32, 256]⟩
abbrev S10496x8192 : Shape := ⟨2, ![10496, 8192]⟩

abbrev nBuf : Space → Nat
  | .hbm => 49
  | .vmem => 0
  | .smem => 0
  | _ => 0

abbrev bufTy : (tb : Table) → Fin (tcTables nBuf tb) → BufTy
  | .hbm, ⟨0, _⟩ => ⟨S10496x1024, .bf16⟩
  | .hbm, ⟨1, _⟩ => ⟨S2x1024x6144, .f32⟩
  | .hbm, ⟨2, _⟩ => ⟨S10496, .f32⟩
  | .hbm, ⟨3, _⟩ => ⟨S10496x1024, .f32⟩
  | .hbm, ⟨4, _⟩ => ⟨S1x1024x6144, .f32⟩
  | .hbm, ⟨5, _⟩ => ⟨S1024x6144, .f32⟩
  | .hbm, ⟨6, _⟩ => ⟨S10496x6144, .f32⟩
  | .hbm, ⟨7, _⟩ => ⟨S10496x32x192, .f32⟩
  | .hbm, ⟨8, _⟩ => ⟨S10496x32x64, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S10496x1, .f32⟩
  | .hbm, ⟨20, _⟩ => ⟨S1x32, .f32⟩
  | .hbm, ⟨21, _⟩ => ⟨S10496x32, .f32⟩
  | .hbm, ⟨22, _⟩ => ⟨S10496x32, .f32⟩
  | .hbm, ⟨23, _⟩ => ⟨S10496x32, .f32⟩
  | .hbm, ⟨24, _⟩ => ⟨S10496x32, .f32⟩
  | .hbm, ⟨25, _⟩ => ⟨S10496x1x32, .f32⟩
  | .hbm, ⟨26, _⟩ => ⟨S10496x32, .f32⟩
  | .hbm, ⟨27, _⟩ => ⟨S10496x1x32, .f32⟩
  | .hbm, ⟨28, _⟩ => ⟨S10496x32x32, .f32⟩
  | .hbm, ⟨29, _⟩ => ⟨S10496x32x32, .f32⟩
  | .hbm, ⟨30, _⟩ => ⟨S10496x32x32, .f32⟩
  | .hbm, ⟨31, _⟩ => ⟨S10496x32x32, .f32⟩
  | .hbm, ⟨32, _⟩ => ⟨S10496x32x32, .f32⟩
  | .hbm, ⟨33, _⟩ => ⟨S10496x32x32, .f32⟩
  | .hbm, ⟨34, _⟩ => ⟨S10496x32x32, .f32⟩
  | .hbm, ⟨35, _⟩ => ⟨S10496x32x32, .f32⟩
  | .hbm, ⟨36, _⟩ => ⟨S10496x32x32, .f32⟩
  | .hbm, ⟨37, _⟩ => ⟨S10496x32x32, .f32⟩
  | .hbm, ⟨38, _⟩ => ⟨S10496x32x32, .f32⟩
  | .hbm, ⟨39, _⟩ => ⟨S10496x32x32, .f32⟩
  | .hbm, ⟨40, _⟩ => ⟨S_, .f32⟩
  | .hbm, ⟨41, _⟩ => ⟨S10496x32x32, .f32⟩
  | .hbm, ⟨42, _⟩ => ⟨S10496x32x128, .f32⟩
  | .hbm, ⟨43, _⟩ => ⟨S10496x32x256, .f32⟩
  | .hbm, ⟨44, _⟩ => ⟨S10496x8192, .f32⟩
  | .hbm, ⟨45, _⟩ => ⟨S_, .f32⟩
  | .hbm, ⟨46, _⟩ => ⟨S10496x8192, .f32⟩
  | .hbm, ⟨47, _⟩ => ⟨S10496x8192, .f32⟩
  | .hbm, ⟨48, _⟩ => ⟨S10496x8192, .bf16⟩
  | _, _ => ⟨S10496x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== DKV.lean ====
abbrev S10496x4096 : Shape := ⟨2, ![10496, 4096]⟩
abbrev S4096x576 : Shape := ⟨2, ![4096, 576]⟩
abbrev S4096x512 : Shape := ⟨2, ![4096, 512]⟩
abbrev S4096x64 : Shape := ⟨2, ![4096, 64]⟩
abbrev S4096x32 : Shape := ⟨2, ![4096, 32]⟩
abbrev S_ : Shape := ⟨0, ![]⟩
abbrev S4096x128 : Shape := ⟨2, ![4096, 128]⟩
abbrev S4096x640 : Shape := ⟨2, ![4096, 640]⟩
abbrev S10496x640 : Shape := ⟨2, ![10496, 640]⟩
abbrev S256x4096 : Shape := ⟨2, ![256, 4096]⟩
abbrev S256x640 : Shape := ⟨2, ![256, 640]⟩

abbrev nBuf : Space → Nat
  | .hbm => 16
  | .vmem => 5
  | .smem => 0
  | _ => 0

abbrev bufTy : (tb : Table) → Fin (tcTables nBuf tb) → BufTy
  | .hbm, ⟨0, _⟩ => ⟨S10496x4096, .bf16⟩
  | .hbm, ⟨1, _⟩ => ⟨S4096x576, .f32⟩
  | .hbm, ⟨2, _⟩ => ⟨S4096x512, .f32⟩
  | .hbm, ⟨3, _⟩ => ⟨S4096x64, .f32⟩
  | .hbm, ⟨4, _⟩ => ⟨S4096x32, .f32⟩
  | .hbm, ⟨5, _⟩ => ⟨S_, .i32⟩
  | .hbm, ⟨6, _⟩ => ⟨S_, .f32⟩
  | .hbm, ⟨7, _⟩ => ⟨S4096x64, .f32⟩
  | .hbm, ⟨8, _⟩ => ⟨S4096x32, .f32⟩
  | .hbm, ⟨9, _⟩ => ⟨S_, .i32⟩
  | .hbm, ⟨10, _⟩ => ⟨S_, .f32⟩
  | .hbm, ⟨11, _⟩ => ⟨S4096x64, .f32⟩
  | .hbm, ⟨12, _⟩ => ⟨S4096x128, .f32⟩
  | .hbm, ⟨13, _⟩ => ⟨S4096x640, .f32⟩
  | .hbm, ⟨14, _⟩ => ⟨S4096x640, .bf16⟩
  | .hbm, ⟨15, _⟩ => ⟨S10496x640, .f32⟩
  | .local _ .vmem, ⟨0, _⟩ => ⟨S256x4096, .bf16⟩
  | .local _ .vmem, ⟨1, _⟩ => ⟨S256x4096, .bf16⟩
  | .local _ .vmem, ⟨2, _⟩ => ⟨S4096x640, .bf16⟩
  | .local _ .vmem, ⟨3, _⟩ => ⟨S256x640, .f32⟩
  | .local _ .vmem, ⟨4, _⟩ => ⟨S256x640, .f32⟩
  | _, _ => ⟨S10496x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![41, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DKVRefIdeal.lean ====
abbrev S10496x4096 : Shape := ⟨2, ![10496, 4096]⟩
abbrev S4096x576 : Shape := ⟨2, ![4096, 576]⟩
abbrev S10496x576 : Shape := ⟨2, ![10496, 576]⟩
abbrev S_ : Shape := ⟨0, ![]⟩
abbrev S10496x32 : Shape := ⟨2, ![10496, 32]⟩
abbrev S10496x544 : Shape := ⟨2, ![10496, 544]⟩
abbrev S10496x640 : Shape := ⟨2, ![10496, 640]⟩

abbrev nBuf : Space → Nat
  | .hbm => 9
  | .vmem => 0
  | .smem => 0
  | _ => 0

abbrev bufTy : (tb : Table) → Fin (tcTables nBuf tb) → BufTy
  | .hbm, ⟨0, _⟩ => ⟨S10496x4096, .bf16⟩
  | .hbm, ⟨1, _⟩ => ⟨S4096x576, .f32⟩
  | .hbm, ⟨2, _⟩ => ⟨S10496x4096, .f32⟩
  | .hbm, ⟨3, _⟩ => ⟨S10496x576, .f32⟩
  | .hbm, ⟨4, _⟩ => ⟨S_, .f32⟩
  | .hbm, ⟨5, _⟩ => ⟨S10496x32, .f32⟩
  | .hbm, ⟨6, _⟩ => ⟨S10496x544, .f32⟩
  | .hbm, ⟨7, _⟩ => ⟨S10496x32, .f32⟩
  | .hbm, ⟨8, _⟩ => ⟨S10496x640, .f32⟩
  | _, _ => ⟨S10496x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KVPost.lean ====
abbrev S10496x640 : Shape := ⟨2, ![10496, 640]⟩
abbrev S512 : Shape := ⟨1, ![512]⟩
abbrev S10496 : Shape := ⟨1, ![10496]⟩
abbrev S32 : Shape := ⟨1, ![32]⟩
abbrev S_ : Shape := ⟨0, ![]⟩
abbrev S10496x1 : Shape := ⟨2, ![10496, 1]⟩
abbrev S1x32 : Shape := ⟨2, ![1, 32]⟩
abbrev S10496x32 : Shape := ⟨2, ![10496, 32]⟩
abbrev S10496x64 : Shape := ⟨2, ![10496, 64]⟩
abbrev S10496x128 : Shape := ⟨2, ![10496, 128]⟩
abbrev S1x512 : Shape := ⟨2, ![1, 512]⟩
abbrev S256x640 : Shape := ⟨2, ![256, 640]⟩
abbrev S256x128 : Shape := ⟨2, ![256, 128]⟩
abbrev S256x512 : Shape := ⟨2, ![256, 512]⟩
abbrev S256 : Shape := ⟨1, ![256]⟩
abbrev S256x1 : Shape := ⟨2, ![256, 1]⟩

abbrev nBuf : Space → Nat
  | .hbm => 43
  | .vmem => 9
  | .smem => 0
  | _ => 0

abbrev bufTy : (tb : Table) → Fin (tcTables nBuf tb) → BufTy
  | .hbm, ⟨0, _⟩ => ⟨S10496x640, .f32⟩
  | .hbm, ⟨1, _⟩ => ⟨S512, .f32⟩
  | .hbm, ⟨2, _⟩ => ⟨S10496, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S10496x1, .f32⟩
  | .hbm, ⟨14, _⟩ => ⟨S1x32, .f32⟩
  | .hbm, ⟨15, _⟩ => ⟨S10496x32, .f32⟩
  | .hbm, ⟨16, _⟩ => ⟨S10496x32, .f32⟩
  | .hbm, ⟨17, _⟩ => ⟨S10496x32, .f32⟩
  | .hbm, ⟨18, _⟩ => ⟨S10496x32, .f32⟩
  | .hbm, ⟨19, _⟩ => ⟨S10496x32, .f32⟩
  | .hbm, ⟨20, _⟩ => ⟨S10496x64, .f32⟩
  | .hbm, ⟨21, _⟩ => ⟨S10496x32, .f32⟩
  | .hbm, ⟨22, _⟩ => ⟨S_, .i32⟩
  | .hbm, ⟨23, _⟩ => ⟨S_, .f32⟩
  | .hbm, ⟨24, _⟩ => ⟨S10496x64, .f32⟩
  | .hbm, ⟨25, _⟩ => ⟨S10496x32, .f32⟩
  | .hbm, ⟨26, _⟩ => ⟨S_, .i32⟩
  | .hbm, ⟨27, _⟩ => ⟨S_, .f32⟩
  | .hbm, ⟨28, _⟩ => ⟨S10496x64, .f32⟩
  | .hbm, ⟨29, _⟩ => ⟨S10496x128, .f32⟩
  | .hbm, ⟨30, _⟩ => ⟨S10496x32, .f32⟩
  | .hbm, ⟨31, _⟩ => ⟨S10496x64, .f32⟩
  | .hbm, ⟨32, _⟩ => ⟨S10496x32, .f32⟩
  | .hbm, ⟨33, _⟩ => ⟨S_, .i32⟩
  | .hbm, ⟨34, _⟩ => ⟨S_, .f32⟩
  | .hbm, ⟨35, _⟩ => ⟨S10496x64, .f32⟩
  | .hbm, ⟨36, _⟩ => ⟨S10496x32, .f32⟩
  | .hbm, ⟨37, _⟩ => ⟨S_, .i32⟩
  | .hbm, ⟨38, _⟩ => ⟨S_, .f32⟩
  | .hbm, ⟨39, _⟩ => ⟨S10496x64, .f32⟩
  | .hbm, ⟨40, _⟩ => ⟨S10496x128, .f32⟩
  | .hbm, ⟨41, _⟩ => ⟨S1x512, .f32⟩
  | .hbm, ⟨42, _⟩ => ⟨S10496x640, .f32⟩
  | .local _ .vmem, ⟨0, _⟩ => ⟨S256x640, .f32⟩
  | .local _ .vmem, ⟨1, _⟩ => ⟨S256x640, .f32⟩
  | .local _ .vmem, ⟨2, _⟩ => ⟨S1x512, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x640, .f32⟩
  | .local _ .vmem, ⟨8, _⟩ => ⟨S256x640, .f32⟩
  | _, _ => ⟨S10496x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_call3_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KVPostRefIdeal.lean ====
abbrev S10496x640 : Shape := ⟨2, ![10496, 640]⟩
abbrev S512 : Shape := ⟨1, ![512]⟩
abbrev S10496 : Shape := ⟨1, ![10496]⟩
abbrev S10496x512 : Shape := ⟨2, ![10496, 512]⟩
abbrev S_ : Shape := ⟨0, ![]⟩
abbrev S10496x1 : Shape := ⟨2, ![10496, 1]⟩
abbrev S1x512 : Shape := ⟨2, ![1, 512]⟩
abbrev S10496x32 : Shape := ⟨2, ![10496, 32]⟩
abbrev S10496x64 : Shape := ⟨2, ![10496, 64]⟩
abbrev S10496x1x64 : Shape := ⟨3, ![10496, 1, 64]⟩
abbrev S32 : Shape := ⟨1, ![32]⟩
abbrev S1x32 : Shape := ⟨2, ![1, 32]⟩
abbrev S10496x1x32 : Shape := ⟨3, ![10496, 1, 32]⟩

abbrev nBuf : Space → Nat
  | .hbm => 56
  | .vmem => 0
  | .smem => 0
  | _ => 0

abbrev bufTy : (tb : Table) → Fin (tcTables nBuf tb) → BufTy
  | .hbm, ⟨0, _⟩ => ⟨S10496x640, .f32⟩
  | .hbm, ⟨1, _⟩ => ⟨S512, .f32⟩
  | .hbm, ⟨2, _⟩ => ⟨S10496, .f32⟩
  | .hbm, ⟨3, _⟩ => ⟨S10496x512, .f32⟩
  | .hbm, ⟨4, _⟩ => ⟨S10496x512, .f32⟩
  | .hbm, ⟨5, _⟩ => ⟨S_, .f32⟩
  | .hbm, ⟨6, _⟩ => ⟨S10496, .f32⟩
  | .hbm, ⟨7, _⟩ => ⟨S10496x1, .f32⟩
  | .hbm, ⟨8, _⟩ => ⟨S_, .f32⟩
  | .hbm, ⟨9, _⟩ => ⟨S10496x1, .f32⟩
  | .hbm, ⟨10, _⟩ => ⟨S10496x1, .f32⟩
  | .hbm, ⟨11, _⟩ => ⟨S_, .f32⟩
  | .hbm, ⟨12, _⟩ => ⟨S10496x1, .f32⟩
  | .hbm, ⟨13, _⟩ => ⟨S10496x1, .f32⟩
  | .hbm, ⟨14, _⟩ => ⟨S10496x1, .f32⟩
  | .hbm, ⟨15, _⟩ => ⟨S10496x512, .f32⟩
  | .hbm, ⟨16, _⟩ => ⟨S10496x512, .f32⟩
  | .hbm, ⟨17, _⟩ => ⟨S1x512, .f32⟩
  | .hbm, ⟨18, _⟩ => ⟨S10496x512, .f32⟩
  | .hbm, ⟨19, _⟩ => ⟨S10496x512, .f32⟩
  | .hbm, ⟨20, _⟩ => ⟨S10496x32, .f32⟩
  | .hbm, ⟨21, _⟩ => ⟨S10496x32, .f32⟩
  | .hbm, ⟨22, _⟩ => ⟨S10496x64, .f32⟩
  | .hbm, ⟨23, _⟩ => ⟨S10496x1x64, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S10496x1, .f32⟩
  | .hbm, ⟨35, _⟩ => ⟨S1x32, .f32⟩
  | .hbm, ⟨36, _⟩ => ⟨S10496x32, .f32⟩
  | .hbm, ⟨37, _⟩ => ⟨S10496x32, .f32⟩
  | .hbm, ⟨38, _⟩ => ⟨S10496x32, .f32⟩
  | .hbm, ⟨39, _⟩ => ⟨S10496x32, .f32⟩
  | .hbm, ⟨40, _⟩ => ⟨S10496x1x32, .f32⟩
  | .hbm, ⟨41, _⟩ => ⟨S10496x32, .f32⟩
  | .hbm, ⟨42, _⟩ => ⟨S10496x1x32, .f32⟩
  | .hbm, ⟨43, _⟩ => ⟨S10496x1x32, .f32⟩
  | .hbm, ⟨44, _⟩ => ⟨S10496x1x32, .f32⟩
  | .hbm, ⟨45, _⟩ => ⟨S10496x1x32, .f32⟩
  | .hbm, ⟨46, _⟩ => ⟨S10496x1x32, .f32⟩
  | .hbm, ⟨47, _⟩ => ⟨S10496x1x32, .f32⟩
  | .hbm, ⟨48, _⟩ => ⟨S10496x1x32, .f32⟩
  | .hbm, ⟨49, _⟩ => ⟨S10496x1x32, .f32⟩
  | .hbm, ⟨50, _⟩ => ⟨S10496x1x32, .f32⟩
  | .hbm, ⟨51, _⟩ => ⟨S_, .f32⟩
  | .hbm, ⟨52, _⟩ => ⟨S10496x32, .f32⟩
  | .hbm, ⟨53, _⟩ => ⟨S10496x32, .f32⟩
  | .hbm, ⟨54, _⟩ => ⟨S10496x32, .f32⟩
  | .hbm, ⟨55, _⟩ => ⟨S10496x640, .f32⟩
  | _, _ => ⟨S10496x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== KS.lean ====
abbrev S36864x640 : Shape := ⟨2, ![36864, 640]⟩
abbrev S512x32x128 : Shape := ⟨3, ![512, 32, 128]⟩
abbrev S32x128x512 : Shape := ⟨3, ![32, 128, 512]⟩
abbrev S4096x512 : Shape := ⟨2, ![4096, 512]⟩
abbrev S640x36864 : Shape := ⟨2, ![640, 36864]⟩
abbrev S4096x36864 : Shape := ⟨2, ![4096, 36864]⟩
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 7
  | .vmem => 5
  | .smem => 0
  | _ => 0

abbrev bufTy : (tb : Table) → Fin (tcTables nBuf tb) → BufTy
  | .hbm, ⟨0, _⟩ => ⟨S36864x640, .bf16⟩
  | .hbm, ⟨1, _⟩ => ⟨S512x32x128, .f32⟩
  | .hbm, ⟨2, _⟩ => ⟨S32x128x512, .f32⟩
  | .hbm, ⟨3, _⟩ => ⟨S4096x512, .f32⟩
  | .hbm, ⟨4, _⟩ => ⟨S4096x512, .bf16⟩
  | .hbm, ⟨5, _⟩ => ⟨S640x36864, .bf16⟩
  | .hbm, ⟨6, _⟩ => ⟨S4096x36864, .bf16⟩
  | .local _ .vmem, ⟨0, _⟩ => ⟨S2048x512, .bf16⟩
  | .local _ .vmem, ⟨1, _⟩ => ⟨S512x2048, .bf16⟩
  | .local _ .vmem, ⟨2, _⟩ => ⟨S512x2048, .bf16⟩
  | .local _ .vmem, ⟨3, _⟩ => ⟨S2048x2048, .bf16⟩
  | .local _ .vmem, ⟨4, _⟩ => ⟨S2048x2048, .bf16⟩
  | _, _ => ⟨S36864x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KSRefIdeal.lean ====
abbrev S36864x640 : Shape := ⟨2, ![36864, 640]⟩
abbrev S512x32x128 : Shape := ⟨3, ![512, 32, 128]⟩
abbrev S36864x512 : Shape := ⟨2, ![36864, 512]⟩
abbrev S32x128x36864 : Shape := ⟨3, ![32, 128, 36864]⟩
abbrev S4096x36864 : Shape := ⟨2, ![4096, 36864]⟩

abbrev nBuf : Space → Nat
  | .hbm => 7
  | .vmem => 0
  | .smem => 0
  | _ => 0

abbrev bufTy : (tb : Table) → Fin (tcTables nBuf tb) → BufTy
  | .hbm, ⟨0, _⟩ => ⟨S36864x640, .bf16⟩
  | .hbm, ⟨1, _⟩ => ⟨S512x32x128, .f32⟩
  | .hbm, ⟨2, _⟩ => ⟨S36864x512, .bf16⟩
  | .hbm, ⟨3, _⟩ => ⟨S36864x512, .f32⟩
  | .hbm, ⟨4, _⟩ => ⟨S32x128x36864, .f32⟩
  | .hbm, ⟨5, _⟩ => ⟨S4096x36864, .f32⟩
  | .hbm, ⟨6, _⟩ => ⟨S4096x36864, .bf16⟩
  | _, _ => ⟨S36864x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== VS.lean ====
abbrev S36864x640 : Shape := ⟨2, ![36864, 640]⟩
abbrev S512x32x128 : Shape := ⟨3, ![512, 32, 128]⟩
abbrev S512x4096 : Shape := ⟨2, ![512, 4096]⟩
abbrev S36864x4096 : Shape := ⟨2, ![36864, 4096]⟩
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S36864x640, .bf16⟩
  | .hbm, ⟨1, _⟩ => ⟨S512x32x128, .f32⟩
  | .hbm, ⟨2, _⟩ => ⟨S512x4096, .f32⟩
  | .hbm, ⟨3, _⟩ => ⟨S512x4096, .bf16⟩
  | .hbm, ⟨4, _⟩ => ⟨S36864x4096, .bf16⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | _, _ => ⟨S36864x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![18, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== VSRefIdeal.lean ====
abbrev S36864x640 : Shape := ⟨2, ![36864, 640]⟩
abbrev S512x32x128 : Shape := ⟨3, ![512, 32, 128]⟩
abbrev S36864x512 : Shape := ⟨2, ![36864, 512]⟩
abbrev S36864x32x128 : Shape := ⟨3, ![36864, 32, 128]⟩
abbrev S36864x4096 : Shape := ⟨2, ![36864, 4096]⟩

abbrev nBuf : Space → Nat
  | .hbm => 7
  | .vmem => 0
  | .smem => 0
  | _ => 0

abbrev bufTy : (tb : Table) → Fin (tcTables nBuf tb) → BufTy
  | .hbm, ⟨0, _⟩ => ⟨S36864x640, .bf16⟩
  | .hbm, ⟨1, _⟩ => ⟨S512x32x128, .f32⟩
  | .hbm, ⟨2, _⟩ => ⟨S36864x512, .bf16⟩
  | .hbm, ⟨3, _⟩ => ⟨S36864x512, .f32⟩
  | .hbm, ⟨4, _⟩ => ⟨S36864x32x128, .f32⟩
  | .hbm, ⟨5, _⟩ => ⟨S36864x4096, .f32⟩
  | .hbm, ⟨6, _⟩ => ⟨S36864x4096, .bf16⟩
  | _, _ => ⟨S36864x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KP.lean ====
abbrev S9216x640 : Shape := ⟨2, ![9216, 640]⟩
abbrev S512x32x128 : Shape := ⟨3, ![512, 32, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S512x32x256 : Shape := ⟨3, ![512, 32, 256]⟩
abbrev S128x32x128 : Shape := ⟨3, ![128, 32, 128]⟩
abbrev S128x1x128 : Shape := ⟨3, ![128, 1, 128]⟩
abbrev S128x32x256 : Shape := ⟨3, ![128, 32, 256]⟩
abbrev S640x32x256 : Shape := ⟨3, ![640, 32, 256]⟩
abbrev S640x8192 : Shape := ⟨2, ![640, 8192]⟩
abbrev S8192x640 : Shape := ⟨2, ![8192, 640]⟩
abbrev S640x9216 : Shape := ⟨2, ![640, 9216]⟩
abbrev S8192x9216 : Shape := ⟨2, ![8192, 9216]⟩
abbrev S2048x640 : Shape := ⟨2, ![2048, 640]⟩
abbrev S640x1536 : Shape := ⟨2, ![640, 1536]⟩
abbrev S2048x1536 : Shape := ⟨2, ![2048, 1536]⟩

abbrev nBuf : Space → Nat
  | .hbm => 34
  | .vmem => 5
  | .smem => 0
  | _ => 0

abbrev bufTy : (tb : Table) → Fin (tcTables nBuf tb) → BufTy
  | .hbm, ⟨0, _⟩ => ⟨S9216x640, .bf16⟩
  | .hbm, ⟨1, _⟩ => ⟨S512x32x128, .f32⟩
  | .hbm, ⟨2, _⟩ => ⟨S128, .i32⟩
  | .hbm, ⟨3, _⟩ => ⟨S128x1, .i32⟩
  | .hbm, ⟨4, _⟩ => ⟨S1x128, .i32⟩
  | .hbm, ⟨5, _⟩ => ⟨S128x128, .i32⟩
  | .hbm, ⟨6, _⟩ => ⟨S128x128, .i32⟩
  | .hbm, ⟨7, _⟩ => ⟨S128x128, .i1⟩
  | .hbm, ⟨8, _⟩ => ⟨S128x1, .i32⟩
  | .hbm, ⟨9, _⟩ => ⟨S_, .i32⟩
  | .hbm, ⟨10, _⟩ => ⟨S128x1, .i32⟩
  | .hbm, ⟨11, _⟩ => ⟨S128x1, .i1⟩
  | .hbm, ⟨12, _⟩ => ⟨S128x128, .i1⟩
  | .hbm, ⟨13, _⟩ => ⟨S128x128, .i1⟩
  | .hbm, ⟨14, _⟩ => ⟨S_, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S512x32x128, .f32⟩
  | .hbm, ⟨21, _⟩ => ⟨S512x32x256, .f32⟩
  | .hbm, ⟨22, _⟩ => ⟨S_, .f32⟩
  | .hbm, ⟨23, _⟩ => ⟨S128x32x128, .f32⟩
  | .hbm, ⟨24, _⟩ => ⟨S128x1x128, .f32⟩
  | .hbm, ⟨25, _⟩ => ⟨S128x32x128, .f32⟩
  | .hbm, ⟨26, _⟩ => ⟨S128x32x128, .f32⟩
  | .hbm, ⟨27, _⟩ => ⟨S128x32x256, .f32⟩
  | .hbm, ⟨28, _⟩ => ⟨S640x32x256, .f32⟩
  | .hbm, ⟨29, _⟩ => ⟨S640x8192, .f32⟩
  | .hbm, ⟨30, _⟩ => ⟨S640x8192, .bf16⟩
  | .hbm, ⟨31, _⟩ => ⟨S8192x640, .bf16⟩
  | .hbm, ⟨32, _⟩ => ⟨S640x9216, .bf16⟩
  | .hbm, ⟨33, _⟩ => ⟨S8192x9216, .bf16⟩
  | .local _ .vmem, ⟨0, _⟩ => ⟨S2048x640, .bf16⟩
  | .local _ .vmem, ⟨1, _⟩ => ⟨S640x1536, .bf16⟩
  | .local _ .vmem, ⟨2, _⟩ => ⟨S640x1536, .bf16⟩
  | .local _ .vmem, ⟨3, _⟩ => ⟨S2048x1536, .bf16⟩
  | .local _ .vmem, ⟨4, _⟩ => ⟨S2048x1536, .bf16⟩
  | _, _ => ⟨S9216x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S640x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KPRefIdeal.lean ====
abbrev S9216x640 : Shape := ⟨2, ![9216, 640]⟩
abbrev S512x32x128 : Shape := ⟨3, ![512, 32, 128]⟩
abbrev S9216x512 : Shape := ⟨2, ![9216, 512]⟩
abbrev S32x128x9216 : Shape := ⟨3, ![32, 128, 9216]⟩
abbrev S9216x32 : Shape := ⟨2, ![9216, 32]⟩
abbrev S_ : Shape := ⟨0, ![]⟩
abbrev S9216x1 : Shape := ⟨2, ![9216, 1]⟩
abbrev S9216x95 : Shape := ⟨2, ![9216, 95]⟩
abbrev S9216x128 : Shape := ⟨2, ![9216, 128]⟩
abbrev S128x9216 : Shape := ⟨2, ![128, 9216]⟩
abbrev S1x128x9216 : Shape := ⟨3, ![1, 128, 9216]⟩
abbrev S32x256x9216 : Shape := ⟨3, ![32, 256, 9216]⟩
abbrev S8192x9216 : Shape := ⟨2, ![8192, 9216]⟩

abbrev nBuf : Space → Nat
  | .hbm => 18
  | .vmem => 0
  | .smem => 0
  | _ => 0

abbrev bufTy : (tb : Table) → Fin (tcTables nBuf tb) → BufTy
  | .hbm, ⟨0, _⟩ => ⟨S9216x640, .bf16⟩
  | .hbm, ⟨1, _⟩ => ⟨S512x32x128, .f32⟩
  | .hbm, ⟨2, _⟩ => ⟨S9216x512, .bf16⟩
  | .hbm, ⟨3, _⟩ => ⟨S9216x512, .f32⟩
  | .hbm, ⟨4, _⟩ => ⟨S32x128x9216, .f32⟩
  | .hbm, ⟨5, _⟩ => ⟨S9216x32, .bf16⟩
  | .hbm, ⟨6, _⟩ => ⟨S9216x32, .f32⟩
  | .hbm, ⟨7, _⟩ => ⟨S_, .f32⟩
  | .hbm, ⟨8, _⟩ => ⟨S9216x1, .f32⟩
  | .hbm, ⟨9, _⟩ => ⟨S9216x95, .bf16⟩
  | .hbm, ⟨10, _⟩ => ⟨S9216x95, .f32⟩
  | .hbm, ⟨11, _⟩ => ⟨S9216x128, .f32⟩
  | .hbm, ⟨12, _⟩ => ⟨S128x9216, .f32⟩
  | .hbm, ⟨13, _⟩ => ⟨S1x128x9216, .f32⟩
  | .hbm, ⟨14, _⟩ => ⟨S32x128x9216, .f32⟩
  | .hbm, ⟨15, _⟩ => ⟨S32x256x9216, .f32⟩
  | .hbm, ⟨16, _⟩ => ⟨S8192x9216, .f32⟩
  | .hbm, ⟨17, _⟩ => ⟨S8192x9216, .bf16⟩
  | _, _ => ⟨S9216x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== VP.lean ====
abbrev S9216x640 : Shape := ⟨2, ![9216, 640]⟩
abbrev S512x32x128 : Shape := ⟨3, ![512, 32, 128]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S512x32x256 : Shape := ⟨3, ![512, 32, 256]⟩
abbrev S128x32x128 : Shape := ⟨3, ![128, 32, 128]⟩
abbrev S128x1x128 : Shape := ⟨3, ![128, 1, 128]⟩
abbrev S128x32x256 : Shape := ⟨3, ![128, 32, 256]⟩
abbrev S640x32x256 : Shape := ⟨3, ![640, 32, 256]⟩
abbrev S640x8192 : Shape := ⟨2, ![640, 8192]⟩
abbrev S9216x8192 : Shape := ⟨2, ![9216, 8192]⟩
abbrev S1536x640 : Shape := ⟨2, ![1536, 640]⟩
abbrev S640x2048 : Shape := ⟨2, ![640, 2048]⟩
abbrev S1536x2048 : Shape := ⟨2, ![1536, 2048]⟩

abbrev nBuf : Space → Nat
  | .hbm => 32
  | .vmem => 5
  | .smem => 0
  | _ => 0

abbrev bufTy : (tb : Table) → Fin (tcTables nBuf tb) → BufTy
  | .hbm, ⟨0, _⟩ => ⟨S9216x640, .bf16⟩
  | .hbm, ⟨1, _⟩ => ⟨S512x32x128, .f32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i1⟩
  | .hbm, ⟨7, _⟩ => ⟨S1x128, .i32⟩
  | .hbm, ⟨8, _⟩ => ⟨S_, .i32⟩
  | .hbm, ⟨9, _⟩ => ⟨S1x128, .i32⟩
  | .hbm, ⟨10, _⟩ => ⟨S1x128, .i1⟩
  | .hbm, ⟨11, _⟩ => ⟨S128x128, .i1⟩
  | .hbm, ⟨12, _⟩ => ⟨S128x128, .i1⟩
  | .hbm, ⟨13, _⟩ => ⟨S128x128, .i1⟩
  | .hbm, ⟨14, _⟩ => ⟨S_, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S512x32x128, .f32⟩
  | .hbm, ⟨21, _⟩ => ⟨S512x32x256, .f32⟩
  | .hbm, ⟨22, _⟩ => ⟨S_, .f32⟩
  | .hbm, ⟨23, _⟩ => ⟨S128x32x128, .f32⟩
  | .hbm, ⟨24, _⟩ => ⟨S128x1x128, .f32⟩
  | .hbm, ⟨25, _⟩ => ⟨S128x32x128, .f32⟩
  | .hbm, ⟨26, _⟩ => ⟨S128x32x128, .f32⟩
  | .hbm, ⟨27, _⟩ => ⟨S128x32x256, .f32⟩
  | .hbm, ⟨28, _⟩ => ⟨S640x32x256, .f32⟩
  | .hbm, ⟨29, _⟩ => ⟨S640x8192, .f32⟩
  | .hbm, ⟨30, _⟩ => ⟨S640x8192, .bf16⟩
  | .hbm, ⟨31, _⟩ => ⟨S9216x8192, .bf16⟩
  | .local _ .vmem, ⟨0, _⟩ => ⟨S1536x640, .bf16⟩
  | .local _ .vmem, ⟨1, _⟩ => ⟨S640x2048, .bf16⟩
  | .local _ .vmem, ⟨2, _⟩ => ⟨S640x2048, .bf16⟩
  | .local _ .vmem, ⟨3, _⟩ => ⟨S1536x2048, .bf16⟩
  | .local _ .vmem, ⟨4, _⟩ => ⟨S1536x2048, .bf16⟩
  | _, _ => ⟨S9216x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1536x640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== VPRefIdeal.lean ====
abbrev S9216x640 : Shape := ⟨2, ![9216, 640]⟩
abbrev S512x32x128 : Shape := ⟨3, ![512, 32, 128]⟩
abbrev S9216x512 : Shape := ⟨2, ![9216, 512]⟩
abbrev S9216x32x128 : Shape := ⟨3, ![9216, 32, 128]⟩
abbrev S9216x1 : Shape := ⟨2, ![9216, 1]⟩
abbrev S9216 : Shape := ⟨1, ![9216]⟩
abbrev S9216x1x1 : Shape := ⟨3, ![9216, 1, 1]⟩
abbrev S9216x32x1 : Shape := ⟨3, ![9216, 32, 1]⟩
abbrev S_ : Shape := ⟨0, ![]⟩
abbrev S9216x32x127 : Shape := ⟨3, ![9216, 32, 127]⟩
abbrev S9216x32x256 : Shape := ⟨3, ![9216, 32, 256]⟩
abbrev S9216x8192 : Shape := ⟨2, ![9216, 8192]⟩

abbrev nBuf : Space → Nat
  | .hbm => 15
  | .vmem => 0
  | .smem => 0
  | _ => 0

abbrev bufTy : (tb : Table) → Fin (tcTables nBuf tb) → BufTy
  | .hbm, ⟨0, _⟩ => ⟨S9216x640, .bf16⟩
  | .hbm, ⟨1, _⟩ => ⟨S512x32x128, .f32⟩
  | .hbm, ⟨2, _⟩ => ⟨S9216x512, .bf16⟩
  | .hbm, ⟨3, _⟩ => ⟨S9216x512, .f32⟩
  | .hbm, ⟨4, _⟩ => ⟨S9216x32x128, .f32⟩
  | .hbm, ⟨5, _⟩ => ⟨S9216x1, .bf16⟩
  | .hbm, ⟨6, _⟩ => ⟨S9216, .bf16⟩
  | .hbm, ⟨7, _⟩ => ⟨S9216, .f32⟩
  | .hbm, ⟨8, _⟩ => ⟨S9216x1x1, .f32⟩
  | .hbm, ⟨9, _⟩ => ⟨S9216x32x1, .f32⟩
  | .hbm, ⟨10, _⟩ => ⟨S_, .f32⟩
  | .hbm, ⟨11, _⟩ => ⟨S9216x32x127, .f32⟩
  | .hbm, ⟨12, _⟩ => ⟨S9216x32x256, .f32⟩
  | .hbm, ⟨13, _⟩ => ⟨S9216x8192, .f32⟩
  | .hbm, ⟨14, _⟩ => ⟨S9216x8192, .bf16⟩
  | _, _ => ⟨S9216x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Gates.lean ====
abbrev S10496x4096 : Shape := ⟨2, ![10496, 4096]⟩
abbrev S2x4096x16448 : Shape := ⟨3, ![2, 4096, 16448]⟩
abbrev S1x4096x64 : Shape := ⟨3, ![1, 4096, 64]⟩
abbrev S4096x64 : Shape := ⟨2, ![4096, 64]⟩
abbrev S4096x32 : Shape := ⟨2, ![4096, 32]⟩
abbrev S4096x1x32 : Shape := ⟨3, ![4096, 1, 32]⟩
abbrev S_ : Shape := ⟨0, ![]⟩
abbrev S4096x1x64 : Shape := ⟨3, ![4096, 1, 64]⟩
abbrev S4096x1x128 : Shape := ⟨3, ![4096, 1, 128]⟩
abbrev S4096x128 : Shape := ⟨2, ![4096, 128]⟩
abbrev S10496x128 : Shape := ⟨2, ![10496, 128]⟩
abbrev S256x4096 : Shape := ⟨2, ![256, 4096]⟩
abbrev S256x128 : Shape := ⟨2, ![256, 128]⟩

abbrev nBuf : Space → Nat
  | .hbm => 14
  | .vmem => 5
  | .smem => 0
  | _ => 0

abbrev bufTy : (tb : Table) → Fin (tcTables nBuf tb) → BufTy
  | .hbm, ⟨0, _⟩ => ⟨S10496x4096, .bf16⟩
  | .hbm, ⟨1, _⟩ => ⟨S2x4096x16448, .f32⟩
  | .hbm, ⟨2, _⟩ => ⟨S1x4096x64, .f32⟩
  | .hbm, ⟨3, _⟩ => ⟨S4096x64, .f32⟩
  | .hbm, ⟨4, _⟩ => ⟨S4096x32, .f32⟩
  | .hbm, ⟨5, _⟩ => ⟨S4096x1x32, .f32⟩
  | .hbm, ⟨6, _⟩ => ⟨S4096x32, .f32⟩
  | .hbm, ⟨7, _⟩ => ⟨S4096x1x32, .f32⟩
  | .hbm, ⟨8, _⟩ => ⟨S_, .f32⟩
  | .hbm, ⟨9, _⟩ => ⟨S4096x1x64, .f32⟩
  | .hbm, ⟨10, _⟩ => ⟨S4096x1x128, .f32⟩
  | .hbm, ⟨11, _⟩ => ⟨S4096x128, .f32⟩
  | .hbm, ⟨12, _⟩ => ⟨S4096x128, .bf16⟩
  | .hbm, ⟨13, _⟩ => ⟨S10496x128, .f32⟩
  | .local _ .vmem, ⟨0, _⟩ => ⟨S256x4096, .bf16⟩
  | .local _ .vmem, ⟨1, _⟩ => ⟨S256x4096, .bf16⟩
  | .local _ .vmem, ⟨2, _⟩ => ⟨S4096x128, .bf16⟩
  | .local _ .vmem, ⟨3, _⟩ => ⟨S256x128, .f32⟩
  | .local _ .vmem, ⟨4, _⟩ => ⟨S256x128, .f32⟩
  | _, _ => ⟨S10496x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![41, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesRefIdeal.lean ====
abbrev S10496x4096 : Shape := ⟨2, ![10496, 4096]⟩
abbrev S2x4096x16448 : Shape := ⟨3, ![2, 4096, 16448]⟩
abbrev S1x4096x16448 : Shape := ⟨3, ![1, 4096, 16448]⟩
abbrev S4096x16448 : Shape := ⟨2, ![4096, 16448]⟩
abbrev S10496x16448 : Shape := ⟨2, ![10496, 16448]⟩
abbrev S10496x64 : Shape := ⟨2, ![10496, 64]⟩
abbrev S_ : Shape := ⟨0, ![]⟩
abbrev S10496x128 : Shape := ⟨2, ![10496, 128]⟩

abbrev nBuf : Space → Nat
  | .hbm => 10
  | .vmem => 0
  | .smem => 0
  | _ => 0

abbrev bufTy : (tb : Table) → Fin (tcTables nBuf tb) → BufTy
  | .hbm, ⟨0, _⟩ => ⟨S10496x4096, .bf16⟩
  | .hbm, ⟨1, _⟩ => ⟨S2x4096x16448, .f32⟩
  | .hbm, ⟨2, _⟩ => ⟨S10496x4096, .f32⟩
  | .hbm, ⟨3, _⟩ => ⟨S1x4096x16448, .f32⟩
  | .hbm, ⟨4, _⟩ => ⟨S4096x16448, .f32⟩
  | .hbm, ⟨5, _⟩ => ⟨S10496x16448, .f32⟩
  | .hbm, ⟨6, _⟩ => ⟨S10496x64, .f32⟩
  | .hbm, ⟨7, _⟩ => ⟨S_, .f32⟩
  | .hbm, ⟨8, _⟩ => ⟨S10496x64, .f32⟩
  | .hbm, ⟨9, _⟩ => ⟨S10496x128, .f32⟩
  | _, _ => ⟨S10496x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Norm.lean ====
abbrev S10496x4096 : Shape := ⟨2, ![10496, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S10496x4096, .f32⟩
  | .hbm, ⟨1, _⟩ => ⟨S10496x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S10496x4096, .f32⟩
  | .hbm, ⟨7, _⟩ => ⟨S10496x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S10496x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S10496x4096 : Shape := ⟨2, ![10496, 4096]⟩
abbrev S4096 : Shape := ⟨1, ![4096]⟩
abbrev S_ : Shape := ⟨0, ![]⟩
abbrev S10496 : Shape := ⟨1, ![10496]⟩
abbrev S10496x1 : Shape := ⟨2, ![10496, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S10496x4096, .f32⟩
  | .hbm, ⟨1, _⟩ => ⟨S10496x4096, .bf16⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S10496x4096, .f32⟩
  | .hbm, ⟨6, _⟩ => ⟨S10496x4096, .f32⟩
  | .hbm, ⟨7, _⟩ => ⟨S10496x4096, .f32⟩
  | .hbm, ⟨8, _⟩ => ⟨S10496x4096, .f32⟩
  | .hbm, ⟨9, _⟩ => ⟨S_, .f32⟩
  | .hbm, ⟨10, _⟩ => ⟨S10496, .f32⟩
  | .hbm, ⟨11, _⟩ => ⟨S10496x1, .f32⟩
  | .hbm, ⟨12, _⟩ => ⟨S_, .f32⟩
  | .hbm, ⟨13, _⟩ => ⟨S10496x1, .f32⟩
  | .hbm, ⟨14, _⟩ => ⟨S10496x1, .f32⟩
  | .hbm, ⟨15, _⟩ => ⟨S10496x4096, .f32⟩
  | .hbm, ⟨16, _⟩ => ⟨S10496x4096, .f32⟩
  | .hbm, ⟨17, _⟩ => ⟨S10496x4096, .f32⟩
  | .hbm, ⟨18, _⟩ => ⟨S_, .f32⟩
  | .hbm, ⟨19, _⟩ => ⟨S10496, .f32⟩
  | .hbm, ⟨20, _⟩ => ⟨S10496x1, .f32⟩
  | .hbm, ⟨21, _⟩ => ⟨S_, .f32⟩
  | .hbm, ⟨22, _⟩ => ⟨S10496x1, .f32⟩
  | .hbm, ⟨23, _⟩ => ⟨S10496x1, .f32⟩
  | .hbm, ⟨24, _⟩ => ⟨S10496x4096, .f32⟩
  | .hbm, ⟨25, _⟩ => ⟨S10496x4096, .f32⟩
  | .hbm, ⟨26, _⟩ => ⟨S_, .f32⟩
  | .hbm, ⟨27, _⟩ => ⟨S10496x1, .f32⟩
  | .hbm, ⟨28, _⟩ => ⟨S10496x1, .f32⟩
  | .hbm, ⟨29, _⟩ => ⟨S10496x1, .f32⟩
  | .hbm, ⟨30, _⟩ => ⟨S10496x4096, .f32⟩
  | .hbm, ⟨31, _⟩ => ⟨S10496x4096, .f32⟩
  | .hbm, ⟨32, _⟩ => ⟨S1x4096, .f32⟩
  | .hbm, ⟨33, _⟩ => ⟨S10496x4096, .f32⟩
  | .hbm, ⟨34, _⟩ => ⟨S10496x4096, .f32⟩
  | .hbm, ⟨35, _⟩ => ⟨S1x4096, .f32⟩
  | .hbm, ⟨36, _⟩ => ⟨S10496x4096, .f32⟩
  | .hbm, ⟨37, _⟩ => ⟨S10496x4096, .f32⟩
  | .hbm, ⟨38, _⟩ => ⟨S10496x4096, .bf16⟩
  | _, _ => ⟨S10496x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Tiles.lean ====
/-
  The sample attention's kernel body, read entry by entry.

  One grid point has one batch row's 64 queries for a group of 8 heads: the queries with their two halves side by side
  (128 position-free columns, then 128 rotated ones), the 8 heads' position-free keys stacked by rows, the one rotated
  key all heads share, and the 8 heads' values side by side. Keys are padded from 1088 to 1152, and the scores of the
  padding are masked to minus infinity. Every head's tile is the same function of its own slices.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Attn

open Cert.KernelIdeal Cert.KernelIdeal.Gen

/-- Attention of one query over its padded keys, as the kernel computes it: weights are powers of two of the scores
    less their maximum, and the weighted sum of values is divided by the sum of weights at the end. -/
def attend (s v : Fin 1152 → EReal) : EReal :=
  Ideal.div (∑ k, Ideal.exp2 (s k - Finset.univ.fold max ⊥ s) * v k) (∑ k, Ideal.exp2 (s k - Finset.univ.fold max ⊥ s))

theorem exp2_def (x : EReal) : FloatOps.exp2 (F := Ideal) (φ := .f32) x = Ideal.exp2 x := rfl

theorem mask_bot : Named.named (F := Ideal) κ "mask" (φ := .f32) 4048155338#32 = (⊥ : EReal) :=
  IdealRules.named_const.ideal_named_scalar κ "mask" _ _ rfl

theorem negInf : Ideal.ofBits .f32 4286578688#32 = (⊥ : EReal) := by simp [Ideal.ofBits, Ideal.ieee]

theorem key_lt (k : Fin 1152) (a b : EReal) :
    Scalar.select (IntOp.cmpi .slt (BitVec.ofNat 32 k.val) 1088#32) a b = if k.val < 1088 then a else b := by
  have := k.isLt
  word_cmp

/-- What each of the 8 heads stores, of its scores `S` and values `v`. -/
theorem tails (S : FVec Ideal S64x1152 .f32) (v : FVec Ideal S1152x128 .bf16) (r : Fin 64) (c : Fin 128) :
    k0_pay44 (k0_pay20 S) (k0_pay29 (k0_pay20 S)) v (ix2 r c) = attend (fun k => S (ix2 r k)) (fun k => v (ix2 k c))
    ∧ k0_pay45 (k0_pay22 (k0_pay21 S)) (k0_pay30 (k0_pay21 S)) v (ix2 r c) = attend (fun k => S (ix2 r k)) (fun k => v (ix2 k c))
    ∧ k0_pay1 (k0_pay31 S) (k0_pay38 (k0_pay23 S) v) (ix2 r c) = attend (fun k => S (ix2 r k)) (fun k => v (ix2 k c))
    ∧ k0_pay2 (k0_pay32 S) (k0_pay39 (k0_pay24 S) v) (ix2 r c) = attend (fun k => S (ix2 r k)) (fun k => v (ix2 k c))
    ∧ k0_pay3 (k0_pay33 S) (k0_pay40 (k0_pay25 S) v) (ix2 r c) = attend (fun k => S (ix2 r k)) (fun k => v (ix2 k c))
    ∧ k0_pay4 (k0_pay34 S) (k0_pay41 (k0_pay26 S) v) (ix2 r c) = attend (fun k => S (ix2 r k)) (fun k => v (ix2 k c))
    ∧ k0_pay5 (k0_pay35 S) (k0_pay42 (k0_pay27 S) v) (ix2 r c) = attend (fun k => S (ix2 r k)) (fun k => v (ix2 k c))
    ∧ k0_pay6 (k0_pay37 (k0_pay36 S)) (k0_pay43 (k0_pay28 S) v) (ix2 r c) = attend (fun k => S (ix2 r k)) (fun k => v (ix2 k c)) := by
  refine ⟨?_, ?_, ?_, ?_, ?_, ?_, ?_, ?_⟩ <;>
  pointwise [k0_pay1, k0_pay2, k0_pay3, k0_pay4, k0_pay5, k0_pay6, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, attend] <;>
  simp only [negInf, exp2_def]

/-- The rotated part of the score of query `r` against key `k`: the queries' second 128 columns. -/
def turned (q : FVec Ideal S64x256 .bf16) (kr : FVec Ideal S128x1152 .bf16) (r : Fin 64) (k : Fin 1152) : EReal :=
  ∑ d : Fin 128, (q (ix2 r ⟨128 + d.val, by omega⟩) : EReal) * (kr (ix2 d k) : EReal)

/-- Row `64 h + r` of 8 stacked blocks of 64 rows is row `r` of block `h`. -/
theorem stacked_rows (x : Fin 8 → FVec Ideal S64x128 .bf16) (h : Fin 8) (r : Fin 64) (d : Fin 128) :
    concatenate S512x128 0 [⟨S64x128, x 0⟩, ⟨S64x128, x 1⟩, ⟨S64x128, x 2⟩, ⟨S64x128, x 3⟩, ⟨S64x128, x 4⟩, ⟨S64x128, x 5⟩, ⟨S64x128, x 6⟩, ⟨S64x128, x 7⟩]
      concatenates_S64x128_S64x128_S64x128_S64x128_S64x128_S64x128_S64x128_S64x128_S512x128_d0 (ix2 ⟨64 * h.val + r.val, by omega⟩ d) = x h (ix2 r d) := by
  refine concatenate_apply_piece (t := S512x128) 0 _ _ _ h.val ?_ S64x128 (x h) ?_ rfl (64 * h.val) ?_ (ix2 r d) ?_ ?_
  · exact h.isLt
  · fin_cases h <;> rfl
  · fin_cases h <;> rfl
  · intro b hb
    fin_cases b
    · exact absurd rfl hb
    · rfl
  · rfl

/-- The product of the stacked query halves with the shared key, at an index. -/
theorem stacked_product (A : FVec Ideal S512x128 .bf16) (B : FVec Ideal S128x1152 .bf16) (R : Fin 512) (k : Fin 1152) :
    (matmul (F := Ideal) dot_S512x128_S128x1152_S512x1152_1_0_0_1_n_n none A B (constant S512x1152 .f32 0x00000000#32) (ix2 R k) : EReal)
      = ∑ d : Fin 128, (A (ix2 R d) : EReal) * (B (ix2 d k) : EReal) := by
  pointwise

theorem second_half (q : FVec Ideal S64x256 .bf16) (r : Fin 64) (d : Fin 128) :
    extractStridedSlice S64x128 ![0, 128] q slices_S64x256_o0_128_S64x128 (ix2 r d) = q (ix2 r ⟨128 + d.val, by omega⟩) := by
  pointwise

/-- The rotated parts of all 8 heads' scores come from one product of the stacked query halves with the shared key. -/
theorem stacked (q : Fin 8 → FVec Ideal S64x256 .bf16) (kr : FVec Ideal S128x1152 .bf16) (h : Fin 8) (r : Fin 64) (k : Fin 1152) :
    k0_pay7 (F := Ideal) (q 0) (q 1) (q 2) (q 3) (q 4) (q 5) (q 6) (q 7) kr (ix2 ⟨64 * h.val + r.val, by omega⟩ k) = turned (q h) kr r k := by
  refine (stacked_product _ kr ⟨64 * h.val + r.val, by omega⟩ k).trans (Finset.sum_congr rfl fun d _ => ?_)
  rw [← second_half (q h) r d]
  exact congrArg (· * _) (stacked_rows (fun h => extractStridedSlice S64x128 ![0, 128] (q h) slices_S64x256_o0_128_S64x128) h r d)

/-- The masked score of query `r` against key `k`. -/
def score (q : FVec Ideal S64x256 .bf16) (kn kr : FVec Ideal S128x1152 .bf16) (r : Fin 64) (k : Fin 1152) : EReal :=
  if k.val < 1088 then
    (∑ d : Fin 128, (q (ix2 r ⟨d.val, by omega⟩) : EReal) * (kn (ix2 d k) : EReal)) + turned q kr r k
  else ⊥

/-- The scores of each of the 8 heads. -/
theorem scores (q : Fin 8 → FVec Ideal S64x256 .bf16) (kn kr : FVec Ideal S128x1152 .bf16) (r : Fin 64) (k : Fin 1152) :
    k0_pay8 (F := Ideal) (q 0) (q 1) (q 2) (q 3) (q 4) (q 5) (q 6) (q 7) kr kn (ix2 r k) = score (q 0) kn kr r k
    ∧ k0_pay10 (F := Ideal) (q 1) (k0_pay7 (F := Ideal) (q 0) (q 1) (q 2) (q 3) (q 4) (q 5) (q 6) (q 7) kr) k0_pay9 kn (ix2 r k) = score (q 1) kn kr r k
    ∧ k0_pay11 (F := Ideal) (iota .tc S1x1152 32 [1] iota_S1x1152_d1_w32) (q 2) (k0_pay7 (F := Ideal) (q 0) (q 1) (q 2) (q 3) (q 4) (q 5) (q 6) (q 7) kr) kn (ix2 r k) = score (q 2) kn kr r k
    ∧ k0_pay12 (F := Ideal) (iota .tc S1x1152 32 [1] iota_S1x1152_d1_w32) (q 3) (k0_pay7 (F := Ideal) (q 0) (q 1) (q 2) (q 3) (q 4) (q 5) (q 6) (q 7) kr) kn (ix2 r k) = score (q 3) kn kr r k
    ∧ k0_pay16 (F := Ideal) (k0_pay13 (q 4) (k0_pay7 (F := Ideal) (q 0) (q 1) (q 2) (q 3) (q 4) (q 5) (q 6) (q 7) kr) kn) (k0_pay14 (iota .tc S1x1152 32 [1] iota_S1x1152_d1_w32)) k0_pay15 (ix2 r k) = score (q 4) kn kr r k
    ∧ k0_pay17 (F := Ideal) (iota .tc S1x1152 32 [1] iota_S1x1152_d1_w32) (q 5) (k0_pay7 (F := Ideal) (q 0) (q 1) (q 2) (q 3) (q 4) (q 5) (q 6) (q 7) kr) kn (ix2 r k) = score (q 5) kn kr r k
    ∧ k0_pay18 (F := Ideal) (iota .tc S1x1152 32 [1] iota_S1x1152_d1_w32) (q 6) (k0_pay7 (F := Ideal) (q 0) (q 1) (q 2) (q 3) (q 4) (q 5) (q 6) (q 7) kr) kn (ix2 r k) = score (q 6) kn kr r k
    ∧ k0_pay19 (F := Ideal) (iota .tc S1x1152 32 [1] iota_S1x1152_d1_w32) (q 7) (k0_pay7 (F := Ideal) (q 0) (q 1) (q 2) (q 3) (q 4) (q 5) (q 6) (q 7) kr) kn (ix2 r k) = score (q 7) kn kr r k := by
  have h0 := stacked q kr 0 r k
  have h1 := stacked q kr 1 r k
  have h2 := stacked q kr 2 r k
  have h3 := stacked q kr 3 r k
  have h4 := stacked q kr 4 r k
  have h5 := stacked q kr 5 r k
  have h6 := stacked q kr 6 r k
  have h7 := stacked q kr 7 r k
  simp only [Fin.isValue, Fin.coe_ofNat_eq_mod, Nat.zero_mod, Nat.mul_zero, Nat.zero_add, Nat.reduceMod, Nat.reduceMul] at h0 h1 h2 h3 h4 h5 h6 h7
  refine ⟨?_, ?_, ?_, ?_, ?_, ?_, ?_, ?_⟩
  all_goals
    (try unfold k0_pay8)
    generalize k0_pay7 (F := Ideal) (q 0) (q 1) (q 2) (q 3) (q 4) (q 5) (q 6) (q 7) kr = J at *
    pointwise [k0_pay9, k0_pay10, k0_pay11, k0_pay12, k0_pay13, k0_pay14, k0_pay15, k0_pay16, k0_pay17, k0_pay18, k0_pay19, score]
    simp only [key_lt, mask_bot, h0, h1, h2, h3, h4, h5, h6, h7]

/-- The tile of one head from its scores, read at `x`. -/
theorem attend_congr {S : FVec Ideal S64x1152 .f32} {v : FVec Ideal S1152x128 .bf16} {f : Fin 1152 → EReal} {r : Fin 64} {c : Fin 128}
    {z : EReal} (hz : z = attend (fun k => S (ix2 r k)) (fun k => v (ix2 k c))) (hS : ∀ k, S (ix2 r k) = f k) :
    z = attend f (fun k => v (ix2 k c)) := by
  rw [hz, funext hS]

/-- Head by head: what the body stores of the queries `q` of the 8 heads, the head's keys and the shared key, and its values. -/
theorem stores (q : Fin 8 → FVec Ideal S64x256 .bf16) (kn kr : FVec Ideal S128x1152 .bf16) (v : FVec Ideal S1152x128 .bf16)
    (r : Fin 64) (c : Fin 128) :
    k0_pay44 (k0_pay20 (k0_pay8 (F := Ideal) (q 0) (q 1) (q 2) (q 3) (q 4) (q 5) (q 6) (q 7) kr kn)) (k0_pay29 (k0_pay20 (k0_pay8 (F := Ideal) (q 0) (q 1) (q 2) (q 3) (q 4) (q 5) (q 6) (q 7) kr kn))) v (ix2 r c) = attend (score (q 0) kn kr r) (fun k => v (ix2 k c))
    ∧ k0_pay45 (k0_pay22 (k0_pay21 (k0_pay10 (F := Ideal) (q 1) (k0_pay7 (F := Ideal) (q 0) (q 1) (q 2) (q 3) (q 4) (q 5) (q 6) (q 7) kr) k0_pay9 kn))) (k0_pay30 (k0_pay21 (k0_pay10 (F := Ideal) (q 1) (k0_pay7 (F := Ideal) (q 0) (q 1) (q 2) (q 3) (q 4) (q 5) (q 6) (q 7) kr) k0_pay9 kn))) v (ix2 r c) = attend (score (q 1) kn kr r) (fun k => v (ix2 k c))
    ∧ k0_pay1 (k0_pay31 (k0_pay11 (F := Ideal) (iota .tc S1x1152 32 [1] iota_S1x1152_d1_w32) (q 2) (k0_pay7 (F := Ideal) (q 0) (q 1) (q 2) (q 3) (q 4) (q 5) (q 6) (q 7) kr) kn)) (k0_pay38 (k0_pay23 (k0_pay11 (F := Ideal) (iota .tc S1x1152 32 [1] iota_S1x1152_d1_w32) (q 2) (k0_pay7 (F := Ideal) (q 0) (q 1) (q 2) (q 3) (q 4) (q 5) (q 6) (q 7) kr) kn)) v) (ix2 r c) = attend (score (q 2) kn kr r) (fun k => v (ix2 k c))
    ∧ k0_pay2 (k0_pay32 (k0_pay12 (F := Ideal) (iota .tc S1x1152 32 [1] iota_S1x1152_d1_w32) (q 3) (k0_pay7 (F := Ideal) (q 0) (q 1) (q 2) (q 3) (q 4) (q 5) (q 6) (q 7) kr) kn)) (k0_pay39 (k0_pay24 (k0_pay12 (F := Ideal) (iota .tc S1x1152 32 [1] iota_S1x1152_d1_w32) (q 3) (k0_pay7 (F := Ideal) (q 0) (q 1) (q 2) (q 3) (q 4) (q 5) (q 6) (q 7) kr) kn)) v) (ix2 r c) = attend (score (q 3) kn kr r) (fun k => v (ix2 k c))
    ∧ k0_pay3 (k0_pay33 (k0_pay16 (F := Ideal) (k0_pay13 (q 4) (k0_pay7 (F := Ideal) (q 0) (q 1) (q 2) (q 3) (q 4) (q 5) (q 6) (q 7) kr) kn) (k0_pay14 (iota .tc S1x1152 32 [1] iota_S1x1152_d1_w32)) k0_pay15)) (k0_pay40 (k0_pay25 (k0_pay16 (F := Ideal) (k0_pay13 (q 4) (k0_pay7 (F := Ideal) (q 0) (q 1) (q 2) (q 3) (q 4) (q 5) (q 6) (q 7) kr) kn) (k0_pay14 (iota .tc S1x1152 32 [1] iota_S1x1152_d1_w32)) k0_pay15)) v) (ix2 r c) = attend (score (q 4) kn kr r) (fun k => v (ix2 k c))
    ∧ k0_pay4 (k0_pay34 (k0_pay17 (F := Ideal) (iota .tc S1x1152 32 [1] iota_S1x1152_d1_w32) (q 5) (k0_pay7 (F := Ideal) (q 0) (q 1) (q 2) (q 3) (q 4) (q 5) (q 6) (q 7) kr) kn)) (k0_pay41 (k0_pay26 (k0_pay17 (F := Ideal) (iota .tc S1x1152 32 [1] iota_S1x1152_d1_w32) (q 5) (k0_pay7 (F := Ideal) (q 0) (q 1) (q 2) (q 3) (q 4) (q 5) (q 6) (q 7) kr) kn)) v) (ix2 r c) = attend (score (q 5) kn kr r) (fun k => v (ix2 k c))
    ∧ k0_pay5 (k0_pay35 (k0_pay18 (F := Ideal) (iota .tc S1x1152 32 [1] iota_S1x1152_d1_w32) (q 6) (k0_pay7 (F := Ideal) (q 0) (q 1) (q 2) (q 3) (q 4) (q 5) (q 6) (q 7) kr) kn)) (k0_pay42 (k0_pay27 (k0_pay18 (F := Ideal) (iota .tc S1x1152 32 [1] iota_S1x1152_d1_w32) (q 6) (k0_pay7 (F := Ideal) (q 0) (q 1) (q 2) (q 3) (q 4) (q 5) (q 6) (q 7) kr) kn)) v) (ix2 r c) = attend (score (q 6) kn kr r) (fun k => v (ix2 k c))
    ∧ k0_pay6 (k0_pay37 (k0_pay36 (k0_pay19 (F := Ideal) (iota .tc S1x1152 32 [1] iota_S1x1152_d1_w32) (q 7) (k0_pay7 (F := Ideal) (q 0) (q 1) (q 2) (q 3) (q 4) (q 5) (q 6) (q 7) kr) kn))) (k0_pay43 (k0_pay28 (k0_pay19 (F := Ideal) (iota .tc S1x1152 32 [1] iota_S1x1152_d1_w32) (q 7) (k0_pay7 (F := Ideal) (q 0) (q 1) (q 2) (q 3) (q 4) (q 5) (q 6) (q 7) kr) kn)) v) (ix2 r c) = attend (score (q 7) kn kr r) (fun k => v (ix2 k c)) := by
  have s := scores q kn kr r
  refine ⟨?_, ?_, ?_, ?_, ?_, ?_, ?_, ?_⟩
  · exact attend_congr (tails _ v r c).1 fun k => (s k).1
  · exact attend_congr (tails _ v r c).2.1 fun k => (s k).2.1
  · exact attend_congr (tails _ v r c).2.2.1 fun k => (s k).2.2.1
  · exact attend_congr (tails _ v r c).2.2.2.1 fun k => (s k).2.2.2.1
  · exact attend_congr (tails _ v r c).2.2.2.2.1 fun k => (s k).2.2.2.2.1
  · exact attend_congr (tails _ v r c).2.2.2.2.2.1 fun k => (s k).2.2.2.2.2.1
  · exact attend_congr (tails _ v r c).2.2.2.2.2.2.1 fun k => (s k).2.2.2.2.2.2.1
  · exact attend_congr (tails _ v r c).2.2.2.2.2.2.2 fun k => (s k).2.2.2.2.2.2.2

/-- The same with the heads' queries named one by one. -/
theorem stores_each (q0 q1 q2 q3 q4 q5 q6 q7 : FVec Ideal S64x256 .bf16) (kn kr : FVec Ideal S128x1152 .bf16) (v : FVec Ideal S1152x128 .bf16)
    (r : Fin 64) (c : Fin 128) :
    k0_pay44 (k0_pay20 (k0_pay8 (F := Ideal) q0 q1 q2 q3 q4 q5 q6 q7 kr kn)) (k0_pay29 (k0_pay20 (k0_pay8 (F := Ideal) q0 q1 q2 q3 q4 q5 q6 q7 kr kn))) v (ix2 r c) = attend (score q0 kn kr r) (fun k => v (ix2 k c))
    ∧ k0_pay45 (k0_pay22 (k0_pay21 (k0_pay10 (F := Ideal) q1 (k0_pay7 (F := Ideal) q0 q1 q2 q3 q4 q5 q6 q7 kr) k0_pay9 kn))) (k0_pay30 (k0_pay21 (k0_pay10 (F := Ideal) q1 (k0_pay7 (F := Ideal) q0 q1 q2 q3 q4 q5 q6 q7 kr) k0_pay9 kn))) v (ix2 r c) = attend (score q1 kn kr r) (fun k => v (ix2 k c))
    ∧ k0_pay1 (k0_pay31 (k0_pay11 (F := Ideal) (iota .tc S1x1152 32 [1] iota_S1x1152_d1_w32) q2 (k0_pay7 (F := Ideal) q0 q1 q2 q3 q4 q5 q6 q7 kr) kn)) (k0_pay38 (k0_pay23 (k0_pay11 (F := Ideal) (iota .tc S1x1152 32 [1] iota_S1x1152_d1_w32) q2 (k0_pay7 (F := Ideal) q0 q1 q2 q3 q4 q5 q6 q7 kr) kn)) v) (ix2 r c) = attend (score q2 kn kr r) (fun k => v (ix2 k c))
    ∧ k0_pay2 (k0_pay32 (k0_pay12 (F := Ideal) (iota .tc S1x1152 32 [1] iota_S1x1152_d1_w32) q3 (k0_pay7 (F := Ideal) q0 q1 q2 q3 q4 q5 q6 q7 kr) kn)) (k0_pay39 (k0_pay24 (k0_pay12 (F := Ideal) (iota .tc S1x1152 32 [1] iota_S1x1152_d1_w32) q3 (k0_pay7 (F := Ideal) q0 q1 q2 q3 q4 q5 q6 q7 kr) kn)) v) (ix2 r c) = attend (score q3 kn kr r) (fun k => v (ix2 k c))
    ∧ k0_pay3 (k0_pay33 (k0_pay16 (F := Ideal) (k0_pay13 q4 (k0_pay7 (F := Ideal) q0 q1 q2 q3 q4 q5 q6 q7 kr) kn) (k0_pay14 (iota .tc S1x1152 32 [1] iota_S1x1152_d1_w32)) k0_pay15)) (k0_pay40 (k0_pay25 (k0_pay16 (F := Ideal) (k0_pay13 q4 (k0_pay7 (F := Ideal) q0 q1 q2 q3 q4 q5 q6 q7 kr) kn) (k0_pay14 (iota .tc S1x1152 32 [1] iota_S1x1152_d1_w32)) k0_pay15)) v) (ix2 r c) = attend (score q4 kn kr r) (fun k => v (ix2 k c))
    ∧ k0_pay4 (k0_pay34 (k0_pay17 (F := Ideal) (iota .tc S1x1152 32 [1] iota_S1x1152_d1_w32) q5 (k0_pay7 (F := Ideal) q0 q1 q2 q3 q4 q5 q6 q7 kr) kn)) (k0_pay41 (k0_pay26 (k0_pay17 (F := Ideal) (iota .tc S1x1152 32 [1] iota_S1x1152_d1_w32) q5 (k0_pay7 (F := Ideal) q0 q1 q2 q3 q4 q5 q6 q7 kr) kn)) v) (ix2 r c) = attend (score q5 kn kr r) (fun k => v (ix2 k c))
    ∧ k0_pay5 (k0_pay35 (k0_pay18 (F := Ideal) (iota .tc S1x1152 32 [1] iota_S1x1152_d1_w32) q6 (k0_pay7 (F := Ideal) q0 q1 q2 q3 q4 q5 q6 q7 kr) kn)) (k0_pay42 (k0_pay27 (k0_pay18 (F := Ideal) (iota .tc S1x1152 32 [1] iota_S1x1152_d1_w32) q6 (k0_pay7 (F := Ideal) q0 q1 q2 q3 q4 q5 q6 q7 kr) kn)) v) (ix2 r c) = attend (score q6 kn kr r) (fun k => v (ix2 k c))
    ∧ k0_pay6 (k0_pay37 (k0_pay36 (k0_pay19 (F := Ideal) (iota .tc S1x1152 32 [1] iota_S1x1152_d1_w32) q7 (k0_pay7 (F := Ideal) q0 q1 q2 q3 q4 q5 q6 q7 kr) kn))) (k0_pay43 (k0_pay28 (k0_pay19 (F := Ideal) (iota .tc S1x1152 32 [1] iota_S1x1152_d1_w32) q7 (k0_pay7 (F := Ideal) q0 q1 q2 q3 q4 q5 q6 q7 kr) kn)) v) (ix2 r c) = attend (score q7 kn kr r) (fun k => v (ix2 k c)) :=
  stores ![q0, q1, q2, q3, q4, q5, q6, q7] kn kr v r c

end Cert.Proof.Attn
-- ==== Proof.Launch.lean ====
/-
  What the sample attention's launch leaves: every row of the new frames' queries attends to its batch row's keys,
  head by head; the rows before them are the array the launch was given.
-/
module

public import proofs.«01_k».proof.Proof.Tiles
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Attn

open Cert.KernelIdeal Cert.KernelIdeal.Gen

/-- The masked score, of the whole arrays: batch row `b`, head `g`, query `r`, key `k`. -/
def wholeScore (Q : S10496x8192.Idx → EReal) (K : S4096x36864.Idx → EReal) (L : S640x36864.Idx → EReal)
    (b g : Fin 32) (r : Fin 64) (k : Fin 1152) : EReal :=
  if k.val < 1088 then
    (∑ d : Fin 128, Q (ix2 ⟨8448 + 64 * b.val + r.val, by omega⟩ ⟨256 * g.val + d.val, by omega⟩)
      * K (ix2 ⟨128 * g.val + d.val, by omega⟩ ⟨1152 * b.val + k.val, by omega⟩))
    + ∑ d : Fin 128, Q (ix2 ⟨8448 + 64 * b.val + r.val, by omega⟩ ⟨256 * g.val + (128 + d.val), by omega⟩)
      * L (ix2 ⟨512 + d.val, by omega⟩ ⟨1152 * b.val + k.val, by omega⟩)
  else ⊥

/-- One entry of the attention's result: batch row `b`, head `g`, query `r`, column `c` of the head's values. -/
def wholeEntry (Q : S10496x8192.Idx → EReal) (K : S4096x36864.Idx → EReal) (L : S640x36864.Idx → EReal)
    (W : S36864x4096.Idx → EReal) (b g : Fin 32) (r : Fin 64) (c : Fin 128) : EReal :=
  attend (wholeScore Q K L b g r) (fun k => W (ix2 ⟨1152 * b.val + k.val, by omega⟩ ⟨128 * g.val + c.val, by omega⟩))

/-- The same at a row and a column of the result. -/
def wholeAt (Q : S10496x8192.Idx → EReal) (K : S4096x36864.Idx → EReal) (L : S640x36864.Idx → EReal)
    (W : S36864x4096.Idx → EReal) (R : Fin 10496) (C : Fin 4096) : EReal :=
  wholeEntry Q K L W ⟨(R.val - 8448) / 64, by omega⟩ ⟨C.val / 128, by omega⟩ ⟨(R.val - 8448) % 64, by omega⟩ ⟨C.val % 128, by omega⟩

theorem wholeAt_eq (Q : S10496x8192.Idx → EReal) (K : S4096x36864.Idx → EReal) (L : S640x36864.Idx → EReal)
    (W : S36864x4096.Idx → EReal) (R : Fin 10496) (C : Fin 4096) (b g : Fin 32) (r : Fin 64) (c : Fin 128)
    (hR : R.val = 8448 + 64 * b.val + r.val) (hC : C.val = 128 * g.val + c.val) :
    wholeAt Q K L W R C = wholeEntry Q K L W b g r c := by
  unfold wholeAt
  have e1 : (⟨(R.val - 8448) / 64, by omega⟩ : Fin 32) = b := Fin.ext (by dsimp only; omega)
  have e2 : (⟨C.val / 128, by omega⟩ : Fin 32) = g := Fin.ext (by dsimp only; omega)
  have e3 : (⟨(R.val - 8448) % 64, by omega⟩ : Fin 64) = r := Fin.ext (by dsimp only; omega)
  have e4 : (⟨C.val % 128, by omega⟩ : Fin 128) = c := Fin.ext (by dsimp only; omega)
  rw [e1, e2, e3, e4]

/-- Where the windows stand at grid point `t`: batch row `t / 4`, head group `t % 4`. -/
theorem places : ∀ t : Fin cfg0.N, win0_0.index t = ![132 + t.val / 4, t.val % 4] ∧ win0_1.index t = ![t.val % 4, t.val / 4]
    ∧ win0_2.index t = ![4, t.val / 4] ∧ win0_3.index t = ![t.val / 4, t.val % 4] ∧ win0_4.index t = ![132 + t.val / 4, t.val % 4] :=
  (by decide +kernel : ∀ t : Fin grid0.N, _)

variable (m : (ℓ : Loc nD τ sig) → Buf (Elt Ideal) ℓ)

theorem batch_lt (t : Fin cfg0.N) : t.val / 4 < 32 := by
  have : t.val < 128 := t.isLt
  omega

/-- A block's element of the queries is the array's. -/
theorem read_queries (c : Dev nD) (t : Fin cfg0.N) (a : Fin 64) (b : Fin 2048) (R : Fin 10496) (C : Fin 8192)
    (hR : R.val = 8448 + 64 * (t.val / 4) + a.val) (hC : C.val = 2048 * (t.val % 4) + b.val) :
    (show FVec Ideal S64x2048 .bf16 from iblk m c 0 t) (ix2 a b) = (show FVec Ideal S10496x8192 .bf16 from V m c main_arg0) (ix2 R C) := by
  blk_point [iblk, places t]

/-- Of the position-free keys, -/
theorem read_keys (c : Dev nD) (t : Fin cfg0.N) (a : Fin 1024) (b : Fin 1152) (R : Fin 4096) (C : Fin 36864)
    (hR : R.val = 1024 * (t.val % 4) + a.val) (hC : C.val = 1152 * (t.val / 4) + b.val) :
    (show FVec Ideal S1024x1152 .bf16 from iblk m c 1 t) (ix2 a b) = (show FVec Ideal S4096x36864 .bf16 from V m c main_arg1) (ix2 R C) := by
  blk_point [iblk, places t]

/-- of the rotated key, -/
theorem read_turned (c : Dev nD) (t : Fin cfg0.N) (a : Fin 128) (b : Fin 1152) (R : Fin 640) (C : Fin 36864)
    (hR : R.val = 512 + a.val) (hC : C.val = 1152 * (t.val / 4) + b.val) :
    (show FVec Ideal S128x1152 .bf16 from iblk m c 2 t) (ix2 a b) = (show FVec Ideal S640x36864 .bf16 from V m c main_arg2) (ix2 R C) := by
  blk_point [iblk, places t]

/-- and of the values. -/
theorem read_values (c : Dev nD) (t : Fin cfg0.N) (a : Fin 1152) (b : Fin 1024) (R : Fin 36864) (C : Fin 4096)
    (hR : R.val = 1152 * (t.val / 4) + a.val) (hC : C.val = 1024 * (t.val % 4) + b.val) :
    (show FVec Ideal S1152x1024 .bf16 from iblk m c 3 t) (ix2 a b) = (show FVec Ideal S36864x4096 .bf16 from V m c main_arg3) (ix2 R C) := by
  blk_point [iblk, places t]

/-- One head's entry, of its own slices of the blocks. -/
theorem entry_of_slices (Q : S10496x8192.Idx → EReal) (K : S4096x36864.Idx → EReal) (L : S640x36864.Idx → EReal)
    (W : S36864x4096.Idx → EReal) (b g : Fin 32) (r : Fin 64) (e : Fin 128)
    (q : FVec Ideal S64x256 .bf16) (kn kr : FVec Ideal S128x1152 .bf16) (v : FVec Ideal S1152x128 .bf16)
    (hq : ∀ d : Fin 256, q (ix2 r d) = Q (ix2 ⟨8448 + 64 * b.val + r.val, by omega⟩ ⟨256 * g.val + d.val, by omega⟩))
    (hk : ∀ (d : Fin 128) (k : Fin 1152), kn (ix2 d k) = K (ix2 ⟨128 * g.val + d.val, by omega⟩ ⟨1152 * b.val + k.val, by omega⟩))
    (hl : ∀ (d : Fin 128) (k : Fin 1152), kr (ix2 d k) = L (ix2 ⟨512 + d.val, by omega⟩ ⟨1152 * b.val + k.val, by omega⟩))
    (hv : ∀ k : Fin 1152, v (ix2 k e) = W (ix2 ⟨1152 * b.val + k.val, by omega⟩ ⟨128 * g.val + e.val, by omega⟩)) :
    attend (score q kn kr r) (fun k => v (ix2 k e)) = wholeEntry Q K L W b g r e := by
  unfold wholeEntry
  have hs : score q kn kr r = wholeScore Q K L b g r := by
    funext k
    unfold score wholeScore turned
    simp only [hq, hk, hl]
  rw [hs, funext hv]

/-- One head's entry, of the slices of grid point `t`'s blocks that head `j` of the group reads. -/
theorem entry_of_blocks (c : Dev nD) (t : Fin cfg0.N) (j o n : Nat) (hj : j < 8) (ho : o = 256 * j) (hn : n = 128 * j)
    (h0 : ∀ a, ![0, o] a + ![64, 256] a ≤ S64x2048.size a) (h1 : ∀ a, ![n, 0] a + ![128, 1152] a ≤ S1024x1152.size a)
    (h3 : ∀ a, ![0, n] a + ![1152, 128] a ≤ S1152x1024.size a)
    (y : S64x1024.Idx) (g : Fin 32) (r x0 : Fin 64) (e x1 : Fin 128)
    (hr : (y 0).val = r.val) (hg : 128 * (8 * (t.val % 4)) + (y 1).val = 128 * g.val + e.val)
    (hx0 : (y 0).val = x0.val) (hx1 : (y 1).val = n + x1.val) :
    attend (score (View.ld (iblk m c 0 t) (Rect.unit ![0, o] ![64, 256] h0)) (View.ld (iblk m c 1 t) (Rect.unit ![n, 0] ![128, 1152] h1))
        (iblk m c 2 t) x0) (fun k => View.ld (iblk m c 3 t) (Rect.unit ![0, n] ![1152, 128] h3) (ix2 k x1))
      = wholeEntry (V m c main_arg0) (V m c main_arg1) (V m c main_arg2) (V m c main_arg3) ⟨t.val / 4, batch_lt t⟩ g r e := by
  have ht : t.val < 128 := t.isLt
  subst ho hn
  obtain rfl : x0 = r := Fin.ext (by omega)
  obtain rfl : x1 = e := Fin.ext (by omega)
  refine entry_of_slices _ _ _ _ _ g x0 x1 _ _ _ _ (fun d => ?_) (fun d k => ?_) (fun d k => ?_) (fun k => ?_)
  · refine Eq.trans ?_ (read_queries m c t x0 ⟨256 * j + d.val, by omega⟩ _ _ rfl (by dsimp only; omega))
    pointwise
  · refine Eq.trans ?_ (read_keys m c t ⟨128 * j + d.val, by omega⟩ k _ _ (by dsimp only; omega) rfl)
    pointwise
  · exact read_turned m c t d k _ _ rfl rfl
  · refine Eq.trans ?_ (read_values m c t k ⟨128 * j + x1.val, by omega⟩ _ _ rfl (by dsimp only; omega))
    pointwise

/-- What a grid point writes: the entries of its batch row and its 8 heads. -/
theorem block (c : Dev nD) (t : Fin cfg0.N) (y : S64x1024.Idx) (g : Fin 32) (e : Fin 128) (r : Fin 64)
    (hr : (y 0).val = r.val) (hg : 128 * (8 * (t.val % 4)) + (y 1).val = 128 * g.val + e.val) :
    outsAt0 m c t y = wholeEntry (V m c main_arg0) (V m c main_arg1) (V m c main_arg2) (V m c main_arg3)
      ⟨t.val / 4, batch_lt t⟩ g r e := by
  unfold Gen.outsAt0
  frame_out
  canon_tiles x h <;> idx_vars x
  · exact (stores_each _ _ _ _ _ _ _ _ _ _ _ _ _).2.2.2.2.2.2.2.trans
      (entry_of_blocks m c t 7 _ _ (by decide) rfl rfl _ _ _ y g r _ e _ hr hg h0 h1)
  · exact (stores_each _ _ _ _ _ _ _ _ _ _ _ _ _).2.2.2.2.2.2.1.trans
      (entry_of_blocks m c t 6 _ _ (by decide) rfl rfl _ _ _ y g r _ e _ hr hg h0 h1)
  · exact (stores_each _ _ _ _ _ _ _ _ _ _ _ _ _).2.2.2.2.2.1.trans
      (entry_of_blocks m c t 5 _ _ (by decide) rfl rfl _ _ _ y g r _ e _ hr hg h0 h1)
  · exact (stores_each _ _ _ _ _ _ _ _ _ _ _ _ _).2.2.2.2.1.trans
      (entry_of_blocks m c t 4 _ _ (by decide) rfl rfl _ _ _ y g r _ e _ hr hg h0 h1)
  · exact (stores_each _ _ _ _ _ _ _ _ _ _ _ _ _).2.2.2.1.trans
      (entry_of_blocks m c t 3 _ _ (by decide) rfl rfl _ _ _ y g r _ e _ hr hg h0 h1)
  · exact (stores_each _ _ _ _ _ _ _ _ _ _ _ _ _).2.2.1.trans
      (entry_of_blocks m c t 2 _ _ (by decide) rfl rfl _ _ _ y g r _ e _ hr hg h0 h1)
  · exact (stores_each _ _ _ _ _ _ _ _ _ _ _ _ _).2.1.trans
      (entry_of_blocks m c t 1 _ _ (by decide) rfl rfl _ _ _ y g r _ e _ hr hg h0 h1)
  · exact (stores_each _ _ _ _ _ _ _ _ _ _ _ _ _).1.trans
      (entry_of_blocks m c t 0 _ _ (by decide) rfl rfl _ _ _ y g r _ e _ hr hg h0 (h1.trans (Nat.zero_add _).symm))

/-- The launch's result. -/
theorem final (c : Dev nD) : (dats m 0 c).arrAt 4 cfg0.N
    = fun i => if 8448 ≤ (i 0 : ℕ) then
        wholeAt (V m c main_arg0) (V m c main_arg1) (V m c main_arg2) (V m c main_arg3) (i 0) (i 1)
      else V m c main_v0 i := by
  refine (dats m 0 c).arrAt_eq_of_coversWhere 4
    (fun i => wholeAt (V m c main_arg0) (V m c main_arg1) (V m c main_arg2) (V m c main_arg3) (i 0) (i 1))
    (fun β => 132 ≤ β 0) (by decide +kernel) (fun t hf y => ?_) (fun j => by blk_simp [Pipeline.Window.cell_apply]; omega)
  blk_simp
  rw [after0_4]
  have ht : t.val < 128 := t.isLt
  have hy0 : (y 0).val < 64 := (y 0).isLt
  have hy1 : (y 1).val < 1024 := (y 1).isLt
  have e0 : ((win0_4.blk t).view.emb y 0).val = 8448 + 64 * (t.val / 4) + (y 0).val := by
    have h := Pipeline.Window.rect_emb_val win0_4 t y 0
    rw [(places t).2.2.2.2] at h
    refine h.trans ?_
    show (132 + t.val / 4) * 64 + _ = _
    omega
  have e1 : ((win0_4.blk t).view.emb y 1).val = 1024 * (t.val % 4) + (y 1).val := by
    have h := Pipeline.Window.rect_emb_val win0_4 t y 1
    rw [(places t).2.2.2.2] at h
    refine h.trans ?_
    show t.val % 4 * 1024 + _ = _
    omega
  have k := block m c t y ⟨8 * (t.val % 4) + (y 1).val / 128, by omega⟩ ⟨(y 1).val % 128, by omega⟩ ⟨(y 0).val, hy0⟩ rfl
    (by dsimp only; omega)
  rw [k]
  exact (wholeAt_eq _ _ _ _ _ _ ⟨t.val / 4, batch_lt t⟩ ⟨8 * (t.val % 4) + (y 1).val / 128, by omega⟩ ⟨(y 0).val, hy0⟩
    ⟨(y 1).val % 128, by omega⟩ e0 (by rw [e1]; dsimp only; omega)).symm

end Cert.Proof.Attn

end
-- ==== Proof.AttnRef.lean ====
/-
  The reference of the sample attention, read entry by entry: its scores, its softmax, and its sum of values.
-/
module

public import proofs.«01_k».proof.Proof.Gen.ReferenceIdeal.Run
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Proof.AttnRef

open Cert.ReferenceIdeal Cert.ReferenceIdeal.Gen

/-- The scores of all batch rows, heads, queries and keys. -/
def scores (q : FVec Ideal S10496x8192 .bf16) (k : FVec Ideal S4096x36864 .bf16) (l : FVec Ideal S640x36864 .bf16) :
    FVec Ideal S32x32x64x1088 .f32 :=
  (mulf (addf (Host.dotGeneral dot_S32x64x32x128_S32x128x32x1088_S32x32x64x1088_3_1_1_3_02_20 none (extractStridedSlice S32x64x32x128 ![0, 0, 0, 0] (shapeCast _ (extf .f32 (extractStridedSlice S2048x8192 ![8448, 0] q slices_S10496x8192_S2048x8192_8448_0) bitsLt_bf16_f32) shapeCasts_S2048x8192_S32x64x32x256) slices_S32x64x32x256_S32x64x32x128_0_0_0_0) (extractStridedSlice S32x128x32x1088 ![0, 0, 0, 0] (shapeCast _ (extf .f32 k bitsLt_bf16_f32) shapeCasts_S4096x36864_S32x128x32x1152) slices_S32x128x32x1152_S32x128x32x1088_0_0_0_0)) (transpose S32x32x64x1088 [0, 3, 2, 1] (Host.dotGeneral dot_S128x32x1088_S32x64x32x128_S32x1088x64x32_0_3_2_12_1_0 none (extractStridedSlice S128x32x1088 ![0, 0, 0] (shapeCast _ (extf .f32 (extractStridedSlice S128x36864 ![512, 0] l slices_S640x36864_S128x36864_512_0) bitsLt_bf16_f32) shapeCasts_S128x36864_S128x32x1152) slices_S128x32x1152_S128x32x1088_0_0_0) (extractStridedSlice S32x64x32x128 ![0, 0, 0, 128] (shapeCast _ (extf .f32 (extractStridedSlice S2048x8192 ![8448, 0] q slices_S10496x8192_S2048x8192_8448_0) bitsLt_bf16_f32) shapeCasts_S2048x8192_S32x64x32x256) slices_S32x64x32x256_S32x64x32x128_0_0_0_128)) transposes_S32x1088x64x32_S32x32x64x1088_0_3_2_1)) (broadcastInDim S32x32x64x1088 ![] bcast_S_S32x32x64x1088 (Host.log (constant S_ .f32 0x40000000#32))))

/-- Every row's maximum, -/
def rowMax (s : FVec Ideal S32x32x64x1088 .f32) : FVec Ideal S32x32x64 .f32 :=
  (Host.reduce FloatOps.maximumf s (constant S_ .f32 0xFF800000#32) reducesTo_S32x32x64x1088_S32x32x64_d3 h_S_)

/-- which the softmax bounds below by minus infinity. -/
def top (s : FVec Ideal S32x32x64x1088 .f32) : FVec Ideal S32x32x64 .f32 :=
  (maximumf (broadcastInDim S32x32x64 ![] bcast_S_S32x32x64 (constant S_ .f32 0xFF800000#32)) (rowMax s))

/-- The weights before they are divided by their sum. -/
def weights (s : FVec Ideal S32x32x64x1088 .f32) : FVec Ideal S32x32x64x1088 .f32 :=
  (Host.exp (subf s (broadcastInDim S32x32x64x1088 ![0, 1, 2, 3] bcast_S32x32x64x1_S32x32x64x1088_0_1_2_3 (broadcastInDim S32x32x64x1 ![0, 1, 2] bcast_S32x32x64_S32x32x64x1_0_1_2 (top s)))))

/-- The softmax. -/
def soft (s : FVec Ideal S32x32x64x1088 .f32) : FVec Ideal S32x32x64x1088 .f32 :=
  (Host.divf (weights s) (broadcastInDim S32x32x64x1088 ![0, 1, 2, 3] bcast_S32x32x64x1_S32x32x64x1088_0_1_2_3 (broadcastInDim S32x32x64x1 ![0, 1, 2] bcast_S32x32x64_S32x32x64x1_0_1_2 (Host.reduceAdd (weights s) (constant S_ .f32 0x00000000#32) reducesTo_S32x32x64x1088_S32x32x64_d3 h_S_))))

/-- The weighted sum of the values, as rows of all heads. -/
def attended (p : FVec Ideal S32x32x64x1088 .f32) (w : FVec Ideal S36864x4096 .bf16) : FVec Ideal S2048x4096 .f32 :=
  (shapeCast _ (transpose S32x64x32x128 [0, 3, 1, 2] (Host.dotGeneral dot_S32x1088x32x128_S32x32x64x1088_S32x32x128x64_1_3_3_2_02_01 none (extractStridedSlice S32x1088x32x128 ![0, 0, 0, 0] (shapeCast _ (extf .f32 w bitsLt_bf16_f32) shapeCasts_S36864x4096_S32x1152x32x128) slices_S32x1152x32x128_S32x1088x32x128_0_0_0_0) p) transposes_S32x32x128x64_S32x64x32x128_0_3_1_2) shapeCasts_S32x64x32x128_S2048x4096)

/-- The whole result. -/
def goal (q : FVec Ideal S10496x8192 .bf16) (k : FVec Ideal S4096x36864 .bf16) (l : FVec Ideal S640x36864 .bf16)
    (w : FVec Ideal S36864x4096 .bf16) (o : FVec Ideal S10496x4096 .bf16) : FVec Ideal S10496x4096 .bf16 :=
  truncf .bf16 (concatenate S10496x4096 0 [⟨S8448x4096, (extf .f32 (extractStridedSlice S8448x4096 ![0, 0] o slices_S10496x4096_S8448x4096_0_0) bitsLt_bf16_f32)⟩, ⟨S2048x4096, (attended (soft (scores q k l)) w)⟩] concatenates_S8448x4096_S2048x4096_S10496x4096_d0) bitsLt_bf16_f32

variable (m : (ℓ : Loc nD τ sig) → Buf (Elt Ideal) ℓ)

theorem result (c : Dev nD) : Value.res_main_v39 (F := Ideal) m c = goal (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem negInf : Ideal.ofBits .f32 0xFF800000#32 = (⊥ : EReal) := by simp [Ideal.ofBits, Ideal.ieee]

theorem reduces : S32x32x64x1088.Reduces [3] S32x32x64 := by decide

theorem lift_row (b g : Fin 32) (r : Fin 64) (x : Fin 1088) : reduces.lift (ix3 b g r) x = ix4 b g r x := by
  funext a
  fin_cases a <;> rfl

theorem rowMax_apply (s : FVec Ideal S32x32x64x1088 .f32) (b g : Fin 32) (r : Fin 64) :
    (rowMax s (ix3 b g r) : EReal) = Finset.univ.fold max ⊥ (fun x : Fin 1088 => (s (ix4 b g r x) : EReal)) := by
  refine (congrFun (hostReduce_maximumf_eq_multiReduction s 0xFF800000#32 reducesTo_S32x32x64x1088_S32x32x64_d3 h_S_ reduces
    (.inl rfl) rfl) (ix3 b g r)).trans ?_
  refine (Ideal.multiReduction_maximumf_single s 0xFF800000#32 reduces (.inl rfl) rfl (ix3 b g r)).trans ?_
  refine (congrArg (fun z => Finset.univ.fold max z _) negInf).trans (Finset.fold_congr fun x _ => ?_)
  exact congrArg s (lift_row b g r x)

theorem max_top (t : FVec Ideal S32x32x64 .f32) (i : S32x32x64.Idx) :
    (maximumf (broadcastInDim S32x32x64 ![] bcast_S_S32x32x64 (constant S_ .f32 0xFF800000#32)) t i : EReal)
      = max (Ideal.ofBits .f32 0xFF800000#32) (t i : EReal) := rfl

theorem top_apply (s : FVec Ideal S32x32x64x1088 .f32) (b g : Fin 32) (r : Fin 64) :
    (top s (ix3 b g r) : EReal) = Finset.univ.fold max ⊥ (fun x : Fin 1088 => (s (ix4 b g r x) : EReal)) :=
  (max_top (rowMax s) _).trans (by rw [negInf, rowMax_apply]; exact max_eq_right bot_le)

theorem weights_apply (s : FVec Ideal S32x32x64x1088 .f32) (b g : Fin 32) (r : Fin 64) (j : Fin 1088) :
    (weights s (ix4 b g r j) : EReal)
      = Ideal.exp (s (ix4 b g r j) - Finset.univ.fold max ⊥ (fun x : Fin 1088 => (s (ix4 b g r x) : EReal))) := by
  rw [← top_apply]
  unfold weights
  generalize top s = t
  pointwise

theorem soft_apply (s : FVec Ideal S32x32x64x1088 .f32) (b g : Fin 32) (r : Fin 64) (j : Fin 1088) :
    (soft s (ix4 b g r j) : EReal)
      = Ideal.div (weights s (ix4 b g r j)) (∑ x : Fin 1088, (weights s (ix4 b g r x) : EReal)) := by
  unfold soft
  generalize weights s = e
  pointwise

/-- Of a score of the kernel's (in powers of two): the reference's is `log 2` times it. -/
theorem scores_apply (q : FVec Ideal S10496x8192 .bf16) (k : FVec Ideal S4096x36864 .bf16) (l : FVec Ideal S640x36864 .bf16)
    (b g : Fin 32) (r : Fin 64) (j : Fin 1088) :
    (scores q k l (ix4 b g r j) : EReal)
      = ((∑ d : Fin 128, (q (ix2 ⟨8448 + 64 * b.val + r.val, by omega⟩ ⟨256 * g.val + d.val, by omega⟩) : EReal)
            * (k (ix2 ⟨128 * g.val + d.val, by omega⟩ ⟨1152 * b.val + j.val, by omega⟩) : EReal))
          + ∑ d : Fin 128, (q (ix2 ⟨8448 + 64 * b.val + r.val, by omega⟩ ⟨256 * g.val + (128 + d.val), by omega⟩) : EReal)
            * (l (ix2 ⟨512 + d.val, by omega⟩ ⟨1152 * b.val + j.val, by omega⟩) : EReal))
        * Ideal.log (Ideal.ofBits FTy.f32 1073741824#32) := by
  have eb : b.val * 64 = 64 * b.val := Nat.mul_comm _ _
  have ek : b.val * 1152 = 1152 * b.val := Nat.mul_comm _ _
  have eg : g.val * 256 = 256 * g.val := Nat.mul_comm _ _
  have eh : g.val * 128 = 128 * g.val := Nat.mul_comm _ _
  unfold scores
  pointwise
  simp only [eb, ek, eg, eh, ← Nat.add_assoc]
  exact congrArg (· * _) (congrArg (_ + ·) (Finset.sum_congr rfl fun d _ => mul_comm _ _))

theorem attended_apply (p : FVec Ideal S32x32x64x1088 .f32) (w : FVec Ideal S36864x4096 .bf16) (R : Fin 2048) (C : Fin 4096) :
    (attended p w (ix2 R C) : EReal)
      = ∑ x : Fin 1088, (p (ix4 ⟨R.val / 64, by omega⟩ ⟨C.val / 128, by omega⟩ ⟨R.val % 64, by omega⟩ x) : EReal)
          * (w (ix2 ⟨1152 * (R.val / 64) + x.val, by omega⟩ C) : EReal) := by
  have e : R.val / 64 * 1152 = 1152 * (R.val / 64) := Nat.mul_comm _ _
  unfold attended
  pointwise
  simp only [e]
  exact Finset.sum_congr rfl fun d _ => mul_comm _ _

theorem goal_apply (q : FVec Ideal S10496x8192 .bf16) (k : FVec Ideal S4096x36864 .bf16) (l : FVec Ideal S640x36864 .bf16)
    (w : FVec Ideal S36864x4096 .bf16) (o : FVec Ideal S10496x4096 .bf16) (R : Fin 10496) (C : Fin 4096) :
    (goal q k l w o (ix2 R C) : EReal)
      = if h : R.val < 8448 then (o (ix2 R C) : EReal) else attended (soft (scores q k l)) w (ix2 ⟨R.val - 8448, by omega⟩ C) := by
  unfold goal
  generalize attended (soft (scores q k l)) w = a
  pointwise

end Cert.Proof.AttnRef

end
-- ==== Proof.Softmax.lean ====
/-
  Softmax with real scores, two ways. The kernel takes powers of two, pads the keys with the score minus infinity, sums
  the weighted values and divides once; the reference scales the scores by `log 2`, takes exponentials, divides every
  weight and then sums. The weights are the same reals, a padded key's weight is 0, and the sum of weights is positive.
-/
module

public import proofs.«01_k».proof.Proof.Tiles

@[expose] public section

set_option maxRecDepth 16384

noncomputable section

open Idealize.ShloMosaic

namespace Cert.Proof.Attn

/-- A maximum is the value that is attained and not exceeded. -/
theorem fold_max_eq {n : Nat} (f : Fin n → EReal) (M : EReal) (j : Fin n) (hj : f j = M) (h : ∀ i, f i ≤ M) :
    Finset.univ.fold max ⊥ f = M := by
  show Finset.univ.sup f = M
  exact le_antisymm (Finset.sup_le fun i _ => h i) (hj ▸ Finset.le_sup (Finset.mem_univ j))

/-- A real factor that is not negative moves into a sum of extended reals. -/
theorem sum_mul_real {ι : Type} (A : Finset ι) (f : ι → EReal) (c : ℝ) (hc : 0 ≤ c) :
    (∑ i ∈ A, f i) * (c : EReal) = ∑ i ∈ A, f i * (c : EReal) := by
  classical
  induction A using Finset.induction_on with
  | empty => simp
  | insert i A hi ih =>
    rw [Finset.sum_insert hi, Finset.sum_insert hi, ← ih,
      EReal.right_distrib_of_nonneg_of_ne_top (by exact_mod_cast hc) (EReal.coe_ne_top c)]

/-- A sum of reals, as an extended real. -/
theorem coe_sum_real {ι : Type} (A : Finset ι) (f : ι → ℝ) : (((∑ i ∈ A, f i : ℝ)) : EReal) = ∑ i ∈ A, (f i : EReal) := by
  classical
  induction A using Finset.induction_on with
  | empty => simp
  | insert i A hi ih => rw [Finset.sum_insert hi, Finset.sum_insert hi, EReal.coe_add, ih]

/-- A sum over the padded keys whose padding adds nothing. -/
theorem sum_padded (f : Fin 1152 → EReal) (h : ∀ k, 1088 ≤ k.val → f k = 0) :
    ∑ k, f k = ∑ j : Fin 1088, f ⟨j.val, by omega⟩ := by
  have e := Fin.sum_univ_add (a := 1088) (b := 64) f
  rw [e, Finset.sum_eq_zero (s := Finset.univ) (f := fun i : Fin 64 => f (Fin.natAdd 1088 i)) fun i _ => h _ (by simp), add_zero]
  rfl

/-- The two softmaxes agree on real scores. -/
theorem attend_eq (s v : Fin 1152 → EReal) (a : Fin 1088 → ℝ) (hs : ∀ j : Fin 1088, s ⟨j.val, by omega⟩ = (a j : EReal))
    (hp : ∀ k, 1088 ≤ k.val → s k = ⊥) (z : Fin 1088 → EReal) (L : ℝ) (hL : L = Real.log 2) (hz : ∀ j, z j = (a j : EReal) * (L : EReal)) :
    attend s v = ∑ j : Fin 1088, Ideal.div (Ideal.exp (z j - Finset.univ.fold max ⊥ z))
      (∑ x : Fin 1088, Ideal.exp (z x - Finset.univ.fold max ⊥ z)) * v ⟨j.val, by omega⟩ := by
  obtain ⟨j0, hj0⟩ := Finite.exists_max a
  have hL0 : 0 ≤ L := hL ▸ Real.log_nonneg (by norm_num)
  have mS : Finset.univ.fold max ⊥ s = (a j0 : EReal) := by
    refine fold_max_eq s _ ⟨j0.val, by omega⟩ (hs j0) fun k => ?_
    rcases Nat.lt_or_ge k.val 1088 with hk | hk
    · rw [show k = ⟨(⟨k.val, hk⟩ : Fin 1088).val, by omega⟩ from rfl, hs]
      exact_mod_cast hj0 _
    · rw [hp k hk]; exact bot_le
  have mZ : Finset.univ.fold max ⊥ z = ((a j0 * L : ℝ) : EReal) := by
    refine fold_max_eq z _ j0 (by rw [hz, EReal.coe_mul]) fun j => ?_
    rw [hz, ← EReal.coe_mul]
    exact_mod_cast mul_le_mul_of_nonneg_right (hj0 j) hL0
  have eS : ∀ j : Fin 1088, Ideal.exp2 (s ⟨j.val, by omega⟩ - Finset.univ.fold max ⊥ s) = ((Real.exp ((a j - a j0) * L) : ℝ) : EReal) := by
    intro j
    rw [mS, hs, ← EReal.coe_sub]
    show ((Real.rpow 2 (a j - a j0) : ℝ) : EReal) = _
    rw [hL, mul_comm]
    exact congrArg _ (Real.rpow_def_of_pos (by norm_num) _)
  have eP : ∀ k : Fin 1152, 1088 ≤ k.val → Ideal.exp2 (s k - Finset.univ.fold max ⊥ s) = 0 := by
    intro k hk
    rw [hp k hk, mS]
    rfl
  have eZ : ∀ j, Ideal.exp (z j - Finset.univ.fold max ⊥ z) = ((Real.exp ((a j - a j0) * L) : ℝ) : EReal) := by
    intro j
    rw [mZ, hz, ← EReal.coe_mul, ← EReal.coe_sub, ← sub_mul]
    rfl
  unfold attend
  have eV : ∀ k : Fin 1152, 1088 ≤ k.val → Ideal.exp2 (s k - Finset.univ.fold max ⊥ s) * v k = 0 := fun k hk => by
    rw [eP k hk, zero_mul]
  rw [sum_padded _ eP, sum_padded _ eV]
  simp only [eS, eZ, ← coe_sum_real]
  have hl : 0 < ∑ j : Fin 1088, Real.exp ((a j - a j0) * L) := Finset.sum_pos (fun j _ => Real.exp_pos _) ⟨j0, Finset.mem_univ _⟩
  rw [Ideal.div_coe hl.ne', sum_mul_real _ _ _ (by positivity)]
  refine Finset.sum_congr rfl fun j _ => ?_
  rw [Ideal.div_coe hl.ne', mul_right_comm]

/-- The constant of the reference: the logarithm of two. -/
theorem log_two : Ideal.log (Ideal.ofBits .f32 1073741824#32) = ((Real.log 2 : ℝ) : EReal) := by
  have h : Ideal.ofBits .f32 1073741824#32 = ((2 : ℝ) : EReal) := by
    simp [Ideal.ofBits, Ideal.ieee, -EReal.coe_mul]; norm_num
  rw [h]
  show (if (2 : ℝ) ≤ 0 then (⊥ : EReal) else _) = _
  rw [if_neg (by norm_num)]

end Cert.Proof.Attn

end
-- ==== Proof.Finite.lean ====
/-
  The precondition, entry by entry: every query, position-free key and latent is a real number.
-/
module

public import proofs.«01_k».proof.Pre_finite
public import Idealize.ShloMosaic.Lib.ReduceAll
public import Idealize.ShloMosaic.Lib.Pointwise

@[expose] public section

set_option maxRecDepth 16384

noncomputable section

open Idealize.ShloMosaic

namespace Cert.Proof.Finite

theorem posInf : Ideal.ofBits .f32 0x7F800000#32 = (⊤ : EReal) := by simp [Ideal.ofBits, Ideal.ieee]

/-- Two bits whose conjunction is one are one. -/
theorem both (a b : BitVec 1) (h : IntOp.andi a b = 1#1) : a = 1#1 ∧ b = 1#1 := by
  revert a b
  decide

/-- What is below plus infinity in absolute value is a real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [posInf] at h
  induction x with
  | bot => exact absurd h (by change ¬ Ideal.cmp .olt (max ⊥ (-⊥)) ⊤ = 1#1; simp [Ideal.cmp])
  | top => exact absurd h (by change ¬ Ideal.cmp .olt (max ⊤ (-⊤)) ⊤ = 1#1; simp [Ideal.cmp])
  | coe r => exact ⟨r, rfl⟩

variable [Cert.Pre_finite.Facts]

open Cert.Pre_finite Cert.Pre_finite.Facts

theorem reals (q : FVec Ideal S10496x8192 .bf16) (k : FVec Ideal S4096x36864 .bf16) (l : FVec Ideal S640x36864 .bf16)
    (w : FVec Ideal S36864x4096 .bf16) (o : FVec Ideal S10496x4096 .bf16) (h : Cert.Pre_finite.fn (F := Ideal) q k l w o = fun _ => 1#1) :
    (∀ i, ∃ r : ℝ, (q i : EReal) = (r : EReal)) ∧ (∀ i, ∃ r : ℝ, (k i : EReal) = (r : EReal)) ∧ (∀ i, ∃ r : ℝ, (l i : EReal) = (r : EReal)) := by
  dsimp only [Cert.Pre_finite.fn] at h
  have h1 := congrFun h ix0
  obtain ⟨h2, hl⟩ := both _ _ h1
  obtain ⟨hq, hk⟩ := both _ _ h2
  refine ⟨fun i => real_of_lt _ ?_, fun i => real_of_lt _ ?_, fun i => real_of_lt _ ?_⟩
  · exact Host.reduce_andi_all _ _ _ _ _ hq i
  · exact Host.reduce_andi_all _ _ _ _ _ hk i
  · exact Host.reduce_andi_all _ _ _ _ _ hl i

end Cert.Proof.Finite

end
-- ==== Proof.Attn.lean ====
/-
  The sample attention: where queries and keys are real, the launch's result is the reference's.
-/
module

public import proofs.«01_k».proof.Proof.Launch
public import proofs.«01_k».proof.Proof.AttnRef
public import proofs.«01_k».proof.Proof.Softmax
public import proofs.«01_k».proof.Proof.Finite
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Attn

open Cert.KernelIdeal Cert.KernelIdeal.Gen

/-- A sum of products of reals is a real. -/
theorem real_dot {n : Nat} (f g : Fin n → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  rw [coe_sum_real]
  exact Finset.sum_congr rfl fun i _ => by rw [ha, hb, EReal.coe_mul]

/-- One entry of the two attentions. -/
theorem entry_eq (Q : FVec Ideal S10496x8192 .bf16) (K : FVec Ideal S4096x36864 .bf16) (L : FVec Ideal S640x36864 .bf16)
    (W : FVec Ideal S36864x4096 .bf16) (hQ : ∀ i, ∃ r : ℝ, (Q i : EReal) = (r : EReal))
    (hK : ∀ i, ∃ r : ℝ, (K i : EReal) = (r : EReal)) (hL : ∀ i, ∃ r : ℝ, (L i : EReal) = (r : EReal))
    (b g : Fin 32) (r : Fin 64) (e : Fin 128) :
    wholeEntry Q K L W b g r e = ∑ j : Fin 1088, (AttnRef.soft (AttnRef.scores Q K L) (ix4 b g r j) : EReal)
      * (W (ix2 ⟨1152 * b.val + j.val, by omega⟩ ⟨128 * g.val + e.val, by omega⟩) : EReal) := by
  have hs : ∀ j : Fin 1088, ∃ x : ℝ, wholeScore Q K L b g r ⟨j.val, by omega⟩ = (x : EReal) := by
    intro j
    obtain ⟨x, hx⟩ := real_dot (fun d : Fin 128 => Q (ix2 ⟨8448 + 64 * b.val + r.val, by omega⟩ ⟨256 * g.val + d.val, by omega⟩))
      (fun d : Fin 128 => K (ix2 ⟨128 * g.val + d.val, by omega⟩ ⟨1152 * b.val + j.val, by omega⟩)) (fun _ => hQ _) (fun _ => hK _)
    obtain ⟨y, hy⟩ := real_dot (fun d : Fin 128 => Q (ix2 ⟨8448 + 64 * b.val + r.val, by omega⟩ ⟨256 * g.val + (128 + d.val), by omega⟩))
      (fun d : Fin 128 => L (ix2 ⟨512 + d.val, by omega⟩ ⟨1152 * b.val + j.val, by omega⟩)) (fun _ => hQ _) (fun _ => hL _)
    refine ⟨x + y, ?_⟩
    unfold wholeScore
    rw [if_pos j.isLt, EReal.coe_add, ← hx, ← hy]
  choose a ha using hs
  have hz : ∀ j : Fin 1088, (AttnRef.scores Q K L (ix4 b g r j) : EReal) = (a j : EReal) * ((Real.log 2 : ℝ) : EReal) := by
    intro j
    rw [AttnRef.scores_apply, log_two, ← ha j]
    unfold wholeScore
    rw [if_pos j.isLt]
  refine (attend_eq (wholeScore Q K L b g r) _ a ha (fun k hk => ?_) (fun j => AttnRef.scores Q K L (ix4 b g r j)) _ rfl hz).trans ?_
  · unfold wholeScore
    rw [if_neg (by omega)]
  · refine Finset.sum_congr rfl fun j _ => ?_
    rw [AttnRef.soft_apply]
    simp only [AttnRef.weights_apply]

/-- The launch's result is the reference's. -/
theorem whole (Q : FVec Ideal S10496x8192 .bf16) (K : FVec Ideal S4096x36864 .bf16) (L : FVec Ideal S640x36864 .bf16)
    (W : FVec Ideal S36864x4096 .bf16) (O : FVec Ideal S10496x4096 .bf16) (hQ : ∀ i, ∃ r : ℝ, (Q i : EReal) = (r : EReal))
    (hK : ∀ i, ∃ r : ℝ, (K i : EReal) = (r : EReal)) (hL : ∀ i, ∃ r : ℝ, (L i : EReal) = (r : EReal)) :
    (fun i : S10496x4096.Idx => if 8448 ≤ (i 0 : ℕ) then wholeAt Q K L W (i 0) (i 1) else (O i : EReal)) = AttnRef.goal Q K L W O := by
  funext i
  idx_vars i
  rw [AttnRef.goal_apply]
  rcases Nat.lt_or_ge i0.val 8448 with h | h
  · rw [dif_pos h]
    exact if_neg (by show ¬ 8448 ≤ i0.val; omega)
  · rw [dif_neg (by omega)]
    refine (if_pos h).trans ?_
    rw [AttnRef.attended_apply]
    refine (entry_eq Q K L W hQ hK hL _ _ _ _).trans (Finset.sum_congr rfl fun j _ => congrArg (_ * ·) (congrArg W ?_))
    congr 1
    apply Fin.ext
    show 128 * (i1.val / 128) + i1.val % 128 = i1.val
    omega

variable (m : (ℓ : Loc nD τ sig) → Buf (Elt Ideal) ℓ)

/-- The buffer the launch writes starts as a copy of the array it was given. -/
theorem V_result (c : Dev nD) : V m c main_v0 = m ((c.tc : Thread nD τ).loc main_arg4) := by
  unfold V
  after_results
  try rfl

theorem final_eq [Cert.Pre_finite.Facts] (c : Dev nD)
    (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    (dats m 0 c).arrAt 4 cfg0.N = AttnRef.goal (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  obtain ⟨hq, hk, hl⟩ := Finite.reals _ _ _ _ _ h
  rw [final, V_result, V_main_arg0, V_main_arg1, V_main_arg2, V_main_arg3]
  exact whole _ _ _ _ _ hq hk hl

end Cert.Proof.Attn

end
-- ==== Proof.Up.lean ====
/-
  The first layer of the MLP: `main_v0 = bf16 (max (xb @ w) 0 ^ 2)` for one layer's weight.

  As for the output projection the grid walks 8 row blocks, here by 32 column blocks, and each point computes its
  block's dot products whole; the squared positive part is taken entry by entry before the store.
-/
module

public import proofs.«01_k».proof.Proof.Gen.UpIdeal.Value
public import proofs.«01_k».proof.Proof.Gen.UpRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Up

open Cert.UpIdeal Cert.UpIdeal.Gen

/-- The reference's result as a function of the two arguments. -/
def goal (x : FVec Ideal S10496x4096 .bf16) (w : FVec Ideal S4x4096x16384 .f32) : FVec Ideal S10496x16384 .bf16 :=
  truncf .bf16 (mulf (maximumf (Host.dotGeneral Cert.UpRefIdeal.dot_S10496x4096_S4096x16384_S10496x16384_1_0_0_1_n_n none (extf .f32 x Cert.UpRefIdeal.Gen.bitsLt_bf16_f32) (shapeCast _ (extractStridedSlice Cert.UpRefIdeal.S1x4096x16384 ![0, 0, 0] w Cert.UpRefIdeal.Gen.slices_S4x4096x16384_S1x4096x16384_0_0_0) Cert.UpRefIdeal.Gen.shapeCasts_S1x4096x16384_S4096x16384)) (broadcastInDim Cert.UpRefIdeal.S10496x16384 ![] Cert.UpRefIdeal.Gen.bcast_S_S10496x16384 (constant Cert.UpRefIdeal.S_ .f32 0x00000000#32))) (maximumf (Host.dotGeneral Cert.UpRefIdeal.dot_S10496x4096_S4096x16384_S10496x16384_1_0_0_1_n_n none (extf .f32 x Cert.UpRefIdeal.Gen.bitsLt_bf16_f32) (shapeCast _ (extractStridedSlice Cert.UpRefIdeal.S1x4096x16384 ![0, 0, 0] w Cert.UpRefIdeal.Gen.slices_S4x4096x16384_S1x4096x16384_0_0_0) Cert.UpRefIdeal.Gen.shapeCasts_S1x4096x16384_S4096x16384)) (broadcastInDim Cert.UpRefIdeal.S10496x16384 ![] Cert.UpRefIdeal.Gen.bcast_S_S10496x16384 (constant Cert.UpRefIdeal.S_ .f32 0x00000000#32)))) Cert.UpRefIdeal.Gen.bitsLt_bf16_f32

/-- Where the three blocks of point `t` sit: row block `t / 32`, column block `t % 32`. -/
theorem places : ∀ t : Fin cfg0.N, win0_0.index t = ![t.val / 32, 0] ∧ win0_1.index t = ![0, 0, t.val % 32]
    ∧ win0_2.index t = ![t.val / 32, t.val % 32] :=
  (by decide +kernel : ∀ t : Fin grid0.N, _)

variable (m : (ℓ : Loc nD τ sig) → Buf (Elt Ideal) ℓ)

/-- The entry a point stores at block index `y` is the reference's entry where `y` sits in the array. -/
theorem entry (c : Dev nD) (t : Fin cfg0.N) (y) : k0_pay1 (iblk m c 1 t) (iblk m c 0 t) y
    = goal (m ((c : Thread nD τ).loc main_arg0)) (m ((c : Thread nD τ).loc main_arg1)) (((cfg0.win 2).blk t).view.emb y) := by
  pointwise [k0_pay1, goal]
  blk_point [iblk, V, places t]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  exact entry m c t y

end Cert.Proof.Up

end
-- ==== Proof.Down.lean ====
/-
  The second layer of the MLP: `main_v0 = bf16 (u @ w)` for one layer's weight.

  The contraction of length 16384 is taken in 8 steps of 2048. For each of the 8 by 4 blocks of the result the grid
  runs over the 8 steps: the first clears an accumulator, every step adds its partial products, and the last one
  stores the accumulator. What a block ends holding is the sum of 8 partial sums, which is the whole dot product.
-/
module

public import proofs.«01_k».proof.Proof.Gen.DownIdeal.Value
public import proofs.«01_k».proof.Proof.Gen.DownRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Down

open Cert.DownIdeal Cert.DownIdeal.Gen

/-- The reference's result as a function of the two arguments. -/
def goal (x : FVec Ideal S10496x16384 .bf16) (w : FVec Ideal S4x16384x4096 .f32) : FVec Ideal S10496x4096 .bf16 :=
  truncf .bf16 (Host.dotGeneral Cert.DownRefIdeal.dot_S10496x16384_S16384x4096_S10496x4096_1_0_0_1_n_n none (extf .f32 x Cert.DownRefIdeal.Gen.bitsLt_bf16_f32) (shapeCast _ (extractStridedSlice Cert.DownRefIdeal.S1x16384x4096 ![0, 0, 0] w Cert.DownRefIdeal.Gen.slices_S4x16384x4096_S1x16384x4096_0_0_0) Cert.DownRefIdeal.Gen.shapeCasts_S1x16384x4096_S16384x4096)) Cert.DownRefIdeal.Gen.bitsLt_bf16_f32

/-- Where the blocks of point `t` sit: row block `t / 32`, column block `t / 8 % 4`, contraction step `t % 8`. -/
theorem places : ∀ t : Fin cfg0.N, win0_0.index t = ![t.val / 32, t.val % 8] ∧ win0_1.index t = ![0, t.val % 8, t.val / 8 % 4]
    ∧ win0_2.index t = ![t.val / 32, t.val / 8 % 4] :=
  (by decide +kernel : ∀ t : Fin grid0.N, _)

/-- The accumulator is cleared to zero. -/
theorem cleared (j : S1312x1024.Idx) : k0_pay1 (F := Ideal) j = 0 := by pointwise [k0_pay1]

/-- One step adds its partial dot product. -/
theorem step (acc : FVec Ideal S1312x1024 .f32) (w : FVec Ideal S1x2048x1024 .f32) (x : FVec Ideal S1312x2048 .bf16)
    (j : S1312x1024.Idx) : k0_pay2 acc w x j = acc j + ∑ k : Fin 2048, x (ix2 (j 0) k) * w (ix3 0 k (j 1)) := by
  pointwise [k0_pay2]

variable (m : (ℓ : Loc nD τ sig) → Buf (Elt Ideal) ℓ)

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t hf y => ?_
  have hm : t.val % 8 = 7 := (flush0_2 t).mp hf
  blk_simp
  rw [after0_2, outsAt0_C m c t (by omega) hm]
  frame_out
  have whole := Pipeline.eq_sum_fin_of_reset_step_apply_of_flush (fun n h => (outsAt0 m c n h).2) 8 (fun _ => (0 : EReal))
    (fun p j => ∑ k : Fin 2048, (show FVec Ideal S1312x2048 .bf16 from iblk m c 0 p) (ix2 (j 0) k)
      * (show FVec Ideal S1x2048x1024 .f32 from iblk m c 1 p) (ix3 0 k (j 1)))
    (fun t h j => by
      rw [outsAt0_A m c t h (by omega)]
      frame_out
      rw [step, cleared])
    (fun t h j => by
      by_cases h7 : t.val % 8 = 7
      · rw [outsAt0_C m c t h h7]
        frame_out
        rw [step, read_unread_whole]
      · rw [outsAt0_B m c t h h7]
        frame_out
        rw [step, read_unread_whole])
    t hm
  have last := whole y
  rw [outsAt0_C m c t (by omega) hm] at last
  revert last
  frame_out
  intro last
  refine Eq.trans (by pointwise [k0_pay3]) (last.trans ?_)
  rw [zero_add]
  pointwise [goal]
  refine Fin.sum_mul_add_congr fun s k hl => ?_
  blk_point [iblk, V, places t, places ⟨_, Pipeline.run_point_lt_of_flush t hm s⟩]

end Cert.Proof.Down

end
-- ==== Proof.WIn.lean ====
/-
  The input projection: `main_v0 = xb @ w[:, :16384]` for one layer's weight, whose last 64 columns another call reads.

  The kernel is handed the weight transposed, and its grid walks 8 row blocks by 32 blocks of 512 weight columns; each
  point computes its block's dot products whole.
-/
module

public import proofs.«01_k».proof.Proof.Gen.WInIdeal.Value
public import proofs.«01_k».proof.Proof.Gen.WInRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.WIn

open Cert.WInIdeal Cert.WInIdeal.Gen

/-- The reference's result as a function of the two arguments. -/
def goal (x : FVec Ideal S10496x4096 .bf16) (w : FVec Ideal S2x4096x16448 .f32) : FVec Ideal S10496x16384 .f32 :=
  extractStridedSlice Cert.WInRefIdeal.S10496x16384 ![0, 0] (Host.dotGeneral Cert.WInRefIdeal.dot_S10496x4096_S4096x16448_S10496x16448_1_0_0_1_n_n none (extf .f32 x Cert.WInRefIdeal.Gen.bitsLt_bf16_f32) (shapeCast _ (extractStridedSlice Cert.WInRefIdeal.S1x4096x16448 ![0, 0, 0] w Cert.WInRefIdeal.Gen.slices_S2x4096x16448_S1x4096x16448_0_0_0) Cert.WInRefIdeal.Gen.shapeCasts_S1x4096x16448_S4096x16448)) Cert.WInRefIdeal.Gen.slices_S10496x16448_S10496x16384_0_0

/-- Where the three blocks of point `t` sit: row block `t / 32`, column block `t % 32`. -/
theorem places : ∀ t : Fin cfg0.N, win0_0.index t = ![t.val / 32, 0] ∧ win0_1.index t = ![0, t.val % 32, 0]
    ∧ win0_2.index t = ![t.val / 32, t.val % 32] :=
  (by decide +kernel : ∀ t : Fin grid0.N, _)

variable (m : (ℓ : Loc nD τ sig) → Buf (Elt Ideal) ℓ)

/-- No block of the weight overhangs the array, so what the body finds is the block as it lies there. -/
theorem weight (c : Dev nD) (t : Fin cfg0.N) (a : Fin 512) (d : Fin 4096) : X0_1 m c t (ix3 0 a d)
    = m ((c : Thread nD τ).loc main_arg1) (ix3 0 d ⟨512 * (t.val % 32) + a.val, by omega⟩) := by
  unfold X0_1 Pipeline.Window.fill
  rw [dif_pos (moved0_1 t _)]
  blk_simp [iblk]
  entry_read
  pointwise
  blk_ext [places t]

/-- The entry a point stores at block index `y` is the reference's entry where `y` sits in the array. -/
theorem entry (c : Dev nD) (t : Fin cfg0.N) (y) : k0_pay1 (X0_1 m c t) (iblk m c 0 t) y
    = goal (m ((c : Thread nD τ).loc main_arg0)) (m ((c : Thread nD τ).loc main_arg1)) (((cfg0.win 2).blk t).view.emb y) := by
  idx_vars y
  pointwise [k0_pay1, goal]
  simp only [weight]
  blk_point [iblk, V, places t]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact entry m c t y

end Cert.Proof.WIn

end
-- ==== Proof.WO.lean ====
/-
  The output projection: `main_v0 = bf16 (xb @ w)` for one layer's weight.

  The grid walks 8 row blocks by 8 column blocks. Every point multiplies its whole row block by its whole column
  block, so a stored entry is one full dot product, and the blocks tile the result.
-/
module

public import proofs.«01_k».proof.Proof.Gen.WOIdeal.Value
public import proofs.«01_k».proof.Proof.Gen.WORefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.WO

open Cert.WOIdeal Cert.WOIdeal.Gen

/-- The reference's result as a function of the two arguments. -/
def goal (x : FVec Ideal S10496x4096 .bf16) (w : FVec Ideal S2x4096x4096 .f32) : FVec Ideal S10496x4096 .bf16 :=
  truncf .bf16 (Host.dotGeneral Cert.WORefIdeal.dot_S10496x4096_S4096x4096_S10496x4096_1_0_0_1_n_n none
    (extf .f32 x Cert.WORefIdeal.Gen.bitsLt_bf16_f32)
    (shapeCast _ (extractStridedSlice Cert.WORefIdeal.S1x4096x4096 ![0, 0, 0] w Cert.WORefIdeal.Gen.slices_S2x4096x4096_S1x4096x4096_0_0_0)
      Cert.WORefIdeal.Gen.shapeCasts_S1x4096x4096_S4096x4096)) Cert.WORefIdeal.Gen.bitsLt_bf16_f32

/-- Where the three blocks of point `t` sit: row block `t / 8`, column block `t % 8`. -/
theorem places : ∀ t : Fin cfg0.N, win0_0.index t = ![t.val / 8, 0] ∧ win0_1.index t = ![0, 0, t.val % 8]
    ∧ win0_2.index t = ![t.val / 8, t.val % 8] :=
  (by decide +kernel : ∀ t : Fin grid0.N, _)

variable (m : (ℓ : Loc nD τ sig) → Buf (Elt Ideal) ℓ)

/-- The entry a point stores at block index `y` is the reference's entry where `y` sits in the array. -/
theorem entry (c : Dev nD) (t : Fin cfg0.N) (y) : k0_pay1 (iblk m c 1 t) (iblk m c 0 t) y
    = goal (m ((c : Thread nD τ).loc main_arg0)) (m ((c : Thread nD τ).loc main_arg1)) (((cfg0.win 2).blk t).view.emb y) := by
  pointwise [k0_pay1, goal]
  blk_point [iblk, V, places t]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  exact entry m c t y

end Cert.Proof.WO

end
-- ==== Proof.DQ.lean ====
/-
  The queries' compression and its norm: with `y = xb @ w`, `main_v6 = bf16 (y * rsqrt (mean (y * y) + eps) * gain)`,
  for one layer's weight and gain.

  The grid walks 8 blocks of 1312 whole rows; each point has its rows' products whole, and so their mean square.
-/
module

public import proofs.«01_k».proof.Proof.Gen.DQIdeal.Value
public import proofs.«01_k».proof.Proof.Gen.DQRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.DQ

open Cert.DQIdeal Cert.DQIdeal.Gen

/-- The product with the layer's weight. -/
def compressed (x : FVec Ideal S10496x4096 .bf16) (w : FVec Ideal S2x4096x1024 .f32) : FVec Ideal S10496x1024 .f32 :=
  Host.dotGeneral Cert.DQRefIdeal.dot_S10496x4096_S4096x1024_S10496x1024_1_0_0_1_n_n none (extf .f32 x Cert.DQRefIdeal.Gen.bitsLt_bf16_f32) (shapeCast _ (extractStridedSlice Cert.DQRefIdeal.S1x4096x1024 ![0, 0, 0] w Cert.DQRefIdeal.Gen.slices_S2x4096x1024_S1x4096x1024_0_0_0) Cert.DQRefIdeal.Gen.shapeCasts_S1x4096x1024_S4096x1024)

/-- The reference's result as a function of the three arguments. -/
def goal (x : FVec Ideal S10496x4096 .bf16) (w : FVec Ideal S2x4096x1024 .f32) (g : FVec Ideal S2x1024 .f32) : FVec Ideal S10496x1024 .bf16 :=
  truncf .bf16 (mulf (mulf (compressed x w) (broadcastInDim Cert.DQRefIdeal.S10496x1024 ![0, 1] Cert.DQRefIdeal.Gen.bcast_S10496x1_S10496x1024_0_1 (Host.rsqrt (addf (Host.divf (broadcastInDim Cert.DQRefIdeal.S10496x1 ![0] Cert.DQRefIdeal.Gen.bcast_S10496_S10496x1_0 (Host.reduceAdd (mulf (compressed x w) (compressed x w)) (constant Cert.DQRefIdeal.S_ .f32 0x00000000#32) Cert.DQRefIdeal.Gen.reducesTo_S10496x1024_S10496_d1 Cert.DQRefIdeal.Gen.h_S_)) (broadcastInDim Cert.DQRefIdeal.S10496x1 ![] Cert.DQRefIdeal.Gen.bcast_S_S10496x1 (constant Cert.DQRefIdeal.S_ .f32 0x44800000#32))) (broadcastInDim Cert.DQRefIdeal.S10496x1 ![] Cert.DQRefIdeal.Gen.bcast_S_S10496x1 (constant Cert.DQRefIdeal.S_ .f32 0x358637BD#32)))))) (broadcastInDim Cert.DQRefIdeal.S10496x1024 ![0, 1] Cert.DQRefIdeal.Gen.bcast_S1x1024_S10496x1024_0_1 (broadcastInDim Cert.DQRefIdeal.S1x1024 ![1] Cert.DQRefIdeal.Gen.bcast_S1024_S1x1024_1 (shapeCast _ (extractStridedSlice Cert.DQRefIdeal.S1x1024 ![0, 0] g Cert.DQRefIdeal.Gen.slices_S2x1024_S1x1024_0_0) Cert.DQRefIdeal.Gen.shapeCasts_S1x1024_S1024)))) Cert.DQRefIdeal.Gen.bitsLt_bf16_f32

/-- Where the blocks of point `t` sit. -/
theorem places : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

variable (m : (ℓ : Loc nD τ sig) → Buf (Elt Ideal) ℓ)

/-- The weight as the launch finds it is the layer's. -/
theorem weight (c : Dev nD) (t : Fin cfg0.N) (d : Fin 4096) (e : Fin 1024) : iblk m c 1 t (ix2 d e)
    = m ((c : Thread nD τ).loc main_arg1) (ix3 0 d e) := by
  blk_simp [iblk]
  entry_read
  pointwise
  blk_ext [places t]

/-- The gain as the launch finds it is the layer's. -/
theorem gain (c : Dev nD) (t : Fin cfg0.N) (e : Fin 1024) : iblk m c 2 t (ix2 0 e)
    = m ((c : Thread nD τ).loc main_arg2) (ix2 0 e) := by
  blk_simp [iblk]
  entry_read
  pointwise
  blk_ext [places t]

/-- The entry a point stores at block index `y` is the reference's entry where `y` sits in the array. -/
theorem entry (c : Dev nD) (t : Fin cfg0.N) (y : S1312x1024.Idx) (j : S10496x1024.Idx)
    (h0 : (j 0 : ℕ) = 1312 * t.val + y 0) (h1 : (j 1 : ℕ) = y 1) :
    k0_pay1 (F := Ideal) (iblk m c 1 t) (iblk m c 0 t) (iblk m c 2 t) y
    = goal (m ((c : Thread nD τ).loc main_arg0)) (m ((c : Thread nD τ).loc main_arg1)) (m ((c : Thread nD τ).loc main_arg2)) j := by
  idx_vars y
  pointwise [k0_pay1, goal, compressed]
  simp only [weight, gain]
  blk_point [iblk, V, places t]

theorem final (c : Dev nD) : (dats m 0 c).arrAt 3 cfg0.N
    = goal (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  refine entry m c t y _ ?_ ?_ <;> blk_simp [places t] <;> try omega

end Cert.Proof.DQ

end
-- ==== Proof.UQ.lean ====
/-
  The queries: `ql @ w`, 32 heads of 128 plain and 64 rotary columns, the rotary ones turned by the token's position,
  everything scaled. Each head's rotary columns are spread over 128 lanes, two halves of 32 with 32 zeros after each.

  The kernel is handed the weight with these columns spread. A point computes 8 heads, 16 pieces of 128 columns, and
  turns every second piece: a product with a table of cosines, and the lanes rolled by 64 with a table of sines whose
  first half is negated.
-/
module

public import proofs.«01_k».proof.Proof.Gen.UQIdeal.Frame
public import proofs.«01_k».proof.Proof.Gen.UQRefIdeal.Run
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.UQ

open Cert.UQIdeal Cert.UQIdeal.Gen

/-- Position times frequency. -/
def angle (pos : FVec Ideal S10496 .f32) : FVec Ideal S10496x32 .f32 :=
  mulf (broadcastInDim Cert.UQRefIdeal.S10496x32 ![0, 1] Cert.UQRefIdeal.Gen.bcast_S10496x1_S10496x32_0_1 (broadcastInDim Cert.UQRefIdeal.S10496x1 ![0] Cert.UQRefIdeal.Gen.bcast_S10496_S10496x1_0 pos)) (broadcastInDim Cert.UQRefIdeal.S10496x32 ![0, 1] Cert.UQRefIdeal.Gen.bcast_S1x32_S10496x32_0_1 (broadcastInDim Cert.UQRefIdeal.S1x32 ![1] Cert.UQRefIdeal.Gen.bcast_S32_S1x32_1 (Host.divf (broadcastInDim Cert.UQRefIdeal.S32 ![] Cert.UQRefIdeal.Gen.bcast_S_S32 (constant Cert.UQRefIdeal.S_ .f32 0x3F800000#32)) (Host.powf (broadcastInDim Cert.UQRefIdeal.S32 ![] Cert.UQRefIdeal.Gen.bcast_S_S32 (constant Cert.UQRefIdeal.S_ .f32 0x461C4000#32)) (Host.divf (sitofp .f32 (iotaInDim Cert.UQRefIdeal.S32 32 0)) (broadcastInDim Cert.UQRefIdeal.S32 ![] Cert.UQRefIdeal.Gen.bcast_S_S32 (constant Cert.UQRefIdeal.S_ .f32 0x42000000#32)))))))

/-- The product with the layer's weight, by heads. -/
def heads (x : FVec Ideal S10496x1024 .bf16) (w : FVec Ideal S2x1024x6144 .f32) : FVec Ideal Cert.UQRefIdeal.S10496x32x192 .f32 :=
  shapeCast Cert.UQRefIdeal.S10496x32x192 (Host.dotGeneral Cert.UQRefIdeal.dot_S10496x1024_S1024x6144_S10496x6144_1_0_0_1_n_n none (extf .f32 x Cert.UQRefIdeal.Gen.bitsLt_bf16_f32) (shapeCast _ (extractStridedSlice Cert.UQRefIdeal.S1x1024x6144 ![0, 0, 0] w Cert.UQRefIdeal.Gen.slices_S2x1024x6144_S1x1024x6144_0_0_0) Cert.UQRefIdeal.Gen.shapeCasts_S1x1024x6144_S1024x6144)) Cert.UQRefIdeal.Gen.shapeCasts_S10496x6144_S10496x32x192

/-- The reference's result as a function of the three arguments. -/
def goal (x : FVec Ideal S10496x1024 .bf16) (w : FVec Ideal S2x1024x6144 .f32) (pos : FVec Ideal S10496 .f32) : FVec Ideal S10496x8192 .bf16 :=
  truncf .bf16 (mulf (shapeCast _ ((concatenate Cert.UQRefIdeal.S10496x32x256 2 [⟨Cert.UQRefIdeal.S10496x32x128, ((extractStridedSlice Cert.UQRefIdeal.S10496x32x128 ![0, 0, 0] (heads x w) Cert.UQRefIdeal.Gen.slices_S10496x32x192_S10496x32x128_0_0_0))⟩, ⟨Cert.UQRefIdeal.S10496x32x32, ((subf (mulf (extractStridedSlice Cert.UQRefIdeal.S10496x32x32 ![0, 0, 0] (extractStridedSlice Cert.UQRefIdeal.S10496x32x64 ![0, 0, 128] (heads x w) Cert.UQRefIdeal.Gen.slices_S10496x32x192_S10496x32x64_0_0_128) Cert.UQRefIdeal.Gen.slices_S10496x32x64_S10496x32x32_0_0_0) (broadcastInDim Cert.UQRefIdeal.S10496x32x32 ![0, 1, 2] Cert.UQRefIdeal.Gen.bcast_S10496x1x32_S10496x32x32_0_1_2 (broadcastInDim Cert.UQRefIdeal.S10496x1x32 ![0, 2] Cert.UQRefIdeal.Gen.bcast_S10496x32_S10496x1x32_0_2 (Host.cos (angle pos))))) (mulf (extractStridedSlice Cert.UQRefIdeal.S10496x32x32 ![0, 0, 32] (extractStridedSlice Cert.UQRefIdeal.S10496x32x64 ![0, 0, 128] (heads x w) Cert.UQRefIdeal.Gen.slices_S10496x32x192_S10496x32x64_0_0_128) Cert.UQRefIdeal.Gen.slices_S10496x32x64_S10496x32x32_0_0_32) (broadcastInDim Cert.UQRefIdeal.S10496x32x32 ![0, 1, 2] Cert.UQRefIdeal.Gen.bcast_S10496x1x32_S10496x32x32_0_1_2 (broadcastInDim Cert.UQRefIdeal.S10496x1x32 ![0, 2] Cert.UQRefIdeal.Gen.bcast_S10496x32_S10496x1x32_0_2 (Host.sin (angle pos)))))))⟩, ⟨Cert.UQRefIdeal.S10496x32x32, ((broadcastInDim Cert.UQRefIdeal.S10496x32x32 ![] Cert.UQRefIdeal.Gen.bcast_S_S10496x32x32 (constant Cert.UQRefIdeal.S_ .f32 0x00000000#32)))⟩, ⟨Cert.UQRefIdeal.S10496x32x32, ((addf (mulf (extractStridedSlice Cert.UQRefIdeal.S10496x32x32 ![0, 0, 32] (extractStridedSlice Cert.UQRefIdeal.S10496x32x64 ![0, 0, 128] (heads x w) Cert.UQRefIdeal.Gen.slices_S10496x32x192_S10496x32x64_0_0_128) Cert.UQRefIdeal.Gen.slices_S10496x32x64_S10496x32x32_0_0_32) (broadcastInDim Cert.UQRefIdeal.S10496x32x32 ![0, 1, 2] Cert.UQRefIdeal.Gen.bcast_S10496x1x32_S10496x32x32_0_1_2 (broadcastInDim Cert.UQRefIdeal.S10496x1x32 ![0, 2] Cert.UQRefIdeal.Gen.bcast_S10496x32_S10496x1x32_0_2 (Host.cos (angle pos))))) (mulf (extractStridedSlice Cert.UQRefIdeal.S10496x32x32 ![0, 0, 0] (extractStridedSlice Cert.UQRefIdeal.S10496x32x64 ![0, 0, 128] (heads x w) Cert.UQRefIdeal.Gen.slices_S10496x32x192_S10496x32x64_0_0_128) Cert.UQRefIdeal.Gen.slices_S10496x32x64_S10496x32x32_0_0_0) (broadcastInDim Cert.UQRefIdeal.S10496x32x32 ![0, 1, 2] Cert.UQRefIdeal.Gen.bcast_S10496x1x32_S10496x32x32_0_1_2 (broadcastInDim Cert.UQRefIdeal.S10496x1x32 ![0, 2] Cert.UQRefIdeal.Gen.bcast_S10496x32_S10496x1x32_0_2 (Host.sin (angle pos)))))))⟩, ⟨Cert.UQRefIdeal.S10496x32x32, ((broadcastInDim Cert.UQRefIdeal.S10496x32x32 ![] Cert.UQRefIdeal.Gen.bcast_S_S10496x32x32 (constant Cert.UQRefIdeal.S_ .f32 0x00000000#32)))⟩] Cert.UQRefIdeal.Gen.concatenates_S10496x32x128_S10496x32x32_S10496x32x32_S10496x32x32_S10496x32x32_S10496x32x256_d2)) Cert.UQRefIdeal.Gen.shapeCasts_S10496x32x256_S10496x8192) (broadcastInDim Cert.UQRefIdeal.S10496x8192 ![] Cert.UQRefIdeal.Gen.bcast_S_S10496x8192 (constant Cert.UQRefIdeal.S_ .f32 0x3DD53B95#32))) Cert.UQRefIdeal.Gen.bitsLt_bf16_f32

/-- The host's table of cosines: 32, 32 zeros, the same 32, 32 zeros. -/
def cosTable (a : FVec Ideal S10496x32 .f32) : FVec Ideal S10496x128 .f32 :=
  concatenate S10496x128 1 [
    ⟨S10496x64, pad S10496x64 ![0, 0] ![0, 32] ![0, 0] (extractStridedSlice S10496x32 ![0, 0] (concatenate S10496x64 1 [⟨S10496x32, Host.cos a⟩, ⟨S10496x32, Host.cos a⟩] concatenates_S10496x32_S10496x32_S10496x64_d1) slices_S10496x64_S10496x32_0_0)
      (sitofp .f32 (constantI S_ 32 0#32)) pads_S10496x32_S10496x64_000_0320 h_S_⟩,
    ⟨S10496x64, pad S10496x64 ![0, 0] ![0, 32] ![0, 0] (extractStridedSlice S10496x32 ![0, 32] (concatenate S10496x64 1 [⟨S10496x32, Host.cos a⟩, ⟨S10496x32, Host.cos a⟩] concatenates_S10496x32_S10496x32_S10496x64_d1) slices_S10496x64_S10496x32_0_32)
      (sitofp .f32 (constantI S_ 32 0#32)) pads_S10496x32_S10496x64_000_0320 h_S_⟩]
    concatenates_S10496x64_S10496x64_S10496x128_d1

/-- The host's table of sines: 32 negated, 32 zeros, 32 as they are, 32 zeros. -/
def sinTable (a : FVec Ideal S10496x32 .f32) : FVec Ideal S10496x128 .f32 :=
  concatenate S10496x128 1 [
    ⟨S10496x64, pad S10496x64 ![0, 0] ![0, 32] ![0, 0] (extractStridedSlice S10496x32 ![0, 0] (concatenate S10496x64 1 [⟨S10496x32, Host.negf (Host.sin a)⟩, ⟨S10496x32, Host.sin a⟩] concatenates_S10496x32_S10496x32_S10496x64_d1) slices_S10496x64_S10496x32_0_0)
      (sitofp .f32 (constantI S_ 32 0#32)) pads_S10496x32_S10496x64_000_0320 h_S_⟩,
    ⟨S10496x64, pad S10496x64 ![0, 0] ![0, 32] ![0, 0] (extractStridedSlice S10496x32 ![0, 32] (concatenate S10496x64 1 [⟨S10496x32, Host.negf (Host.sin a)⟩, ⟨S10496x32, Host.sin a⟩] concatenates_S10496x32_S10496x32_S10496x64_d1) slices_S10496x64_S10496x32_0_32)
      (sitofp .f32 (constantI S_ 32 0#32)) pads_S10496x32_S10496x64_000_0320 h_S_⟩]
    concatenates_S10496x64_S10496x64_S10496x128_d1

/-- The zero the host pads with. -/
theorem padding : (FloatOps.sitofp .f32 0#32 : Ideal .f32) = (0 : EReal) := by
  change (((0#32 : BitVec 32).toInt : ℝ) : EReal) = 0
  simp

/-- Lane `k` of a row of 128: `x` and `y` in the first 32 lanes of each half, zero in the others. -/
def lane (x y : Fin 32 → EReal) (k : ℕ) : EReal :=
  if h : k < 32 then x ⟨k, h⟩
  else if k < 64 then 0
  else if h : k - 64 < 32 then y ⟨k - 64, h⟩
  else 0

theorem lane_of_pads (x y : Fin 32 → EReal) (z : EReal) (hz : z = 0) (k : ℕ) :
    (if h : k < 64 then if h : k < 32 then if h' : k < 32 then x ⟨k, h⟩ else y ⟨k - 32, by omega⟩ else z
      else if h : k - 64 < 32 then y ⟨k - 64, h⟩ else z) = lane x y k := by
  subst hz
  unfold lane
  split_ifs <;> first | rfl | (exfalso; omega)

theorem cosTable_apply (a : FVec Ideal S10496x32 .f32) (R : Fin 10496) (e : Fin 128) :
    cosTable a (ix2 R e) = lane (fun k => Ideal.cos (a (ix2 R k))) (fun k => Ideal.cos (a (ix2 R k))) e.val := by
  pointwise [cosTable]
  exact lane_of_pads (fun k => Ideal.cos (a (ix2 R k))) (fun k => Ideal.cos (a (ix2 R k))) _ padding e.val

theorem sinTable_apply (a : FVec Ideal S10496x32 .f32) (R : Fin 10496) (e : Fin 128) :
    sinTable a (ix2 R e) = lane (fun k => -Ideal.sin (a (ix2 R k))) (fun k => Ideal.sin (a (ix2 R k))) e.val := by
  pointwise [sinTable]
  exact lane_of_pads (fun k => -Ideal.sin (a (ix2 R k))) (fun k => Ideal.sin (a (ix2 R k))) _ padding e.val

/-- The layer's weight by heads. -/
def layer (w : FVec Ideal S2x1024x6144 .f32) : FVec Ideal S1024x32x192 .f32 :=
  shapeCast S1024x32x192 (shapeCast S1024x6144 (extractStridedSlice S1x1024x6144 ![0, 0, 0] w slices_S2x1024x6144_S1x1024x6144_0_0_0)
    shapeCasts_S1x1024x6144_S1024x6144) shapeCasts_S1024x6144_S1024x32x192

/-- The weight as the host lays it out: a head's 128 plain columns, then 32 and 32 with 32 zeros after each. -/
def spread (w : FVec Ideal S2x1024x6144 .f32) : FVec Ideal S1024x8192 .bf16 :=
  truncf .bf16 (shapeCast S1024x8192 (concatenate S1024x32x256 2 [
    ⟨S1024x32x128, extractStridedSlice S1024x32x128 ![0, 0, 0] (layer w) slices_S1024x32x192_S1024x32x128_0_0_0⟩,
    ⟨S1024x32x128, concatenate S1024x32x128 2 [
      ⟨S1024x32x64, pad S1024x32x64 ![0, 0, 0] ![0, 0, 32] ![0, 0, 0] (extractStridedSlice S1024x32x32 ![0, 0, 0]
          (extractStridedSlice S1024x32x64 ![0, 0, 128] (layer w) slices_S1024x32x192_S1024x32x64_0_0_128) slices_S1024x32x64_S1024x32x32_0_0_0)
        (sitofp .f32 (constantI S_ 32 0#32)) pads_S1024x32x32_S1024x32x64_000_000_0320 h_S_⟩,
      ⟨S1024x32x64, pad S1024x32x64 ![0, 0, 0] ![0, 0, 32] ![0, 0, 0] (extractStridedSlice S1024x32x32 ![0, 0, 32]
          (extractStridedSlice S1024x32x64 ![0, 0, 128] (layer w) slices_S1024x32x192_S1024x32x64_0_0_128) slices_S1024x32x64_S1024x32x32_0_0_32)
        (sitofp .f32 (constantI S_ 32 0#32)) pads_S1024x32x32_S1024x32x64_000_000_0320 h_S_⟩]
      concatenates_S1024x32x64_S1024x32x64_S1024x32x128_d2⟩] concatenates_S1024x32x128_S1024x32x128_S1024x32x256_d2)
    shapeCasts_S1024x32x256_S1024x8192) bitsLt_bf16_f32

/-- Where the blocks of point `t` sit: row block `t / 4`, 8 heads `t % 4`. -/
theorem places : ∀ t : Fin cfg0.N, win0_0.index t = ![t.val / 4, 0] ∧ win0_1.index t = ![0, t.val % 4]
    ∧ win0_2.index t = ![t.val / 4, 0] ∧ win0_3.index t = ![t.val / 4, 0] ∧ win0_4.index t = ![t.val / 4, t.val % 4] :=
  (by decide +kernel : ∀ t : Fin grid0.N, _)

/-! ## The weight -/

/-- Two spellings of a head's rotary columns. -/
theorem columns (f : Fin 32 → Fin 192 → EReal) (z : EReal) (hz : z = 0) (Q r l : ℕ) (hQ : Q < 32) (hr : r < 256) (hl : r = 128 + l) :
    (if h : r < 128 then f ⟨Q, hQ⟩ ⟨r, by omega⟩
      else if h' : r - 128 < 64 then if h'' : Q < 32 ∧ r - 128 < 32 then f ⟨Q, hQ⟩ ⟨128 + (r - 128), by omega⟩ else z
      else if h'' : Q < 32 ∧ r - 128 - 64 < 32 then f ⟨Q, hQ⟩ ⟨128 + (32 + (r - 128 - 64)), by omega⟩ else z)
    = lane (fun k => f ⟨Q, hQ⟩ ⟨128 + k.val, by omega⟩) (fun k => f ⟨Q, hQ⟩ ⟨160 + k.val, by omega⟩) l := by
  have at_column : ∀ {a b : ℕ} (ha : a < 192) (hb : b < 192), a = b → f ⟨Q, hQ⟩ ⟨a, ha⟩ = f ⟨Q, hQ⟩ ⟨b, hb⟩ := by
    intro a b ha hb h
    subst h
    rfl
  subst hz
  unfold lane
  split_ifs <;> first | rfl | (exfalso; omega) | exact at_column _ _ (by dsimp only; omega)

/-- The laid out weight at one of the 128 plain columns of a head. -/
theorem spread_plain (w : FVec Ideal S2x1024x6144 .f32) (d : Fin 1024) (C : Fin 8192) (h : C.val % 256 < 128) :
    spread w (ix2 d C) = layer w (ix3 d ⟨C.val / 256, by omega⟩ ⟨C.val % 256, by omega⟩) := by
  pointwise [spread]
  rw [dif_pos h]

/-- … and at lane `l` of its rotary columns. -/
theorem spread_rotary (w : FVec Ideal S2x1024x6144 .f32) (d : Fin 1024) (C : Fin 8192) (l : ℕ) (h : C.val % 256 = 128 + l) :
    spread w (ix2 d C) = lane (fun k => layer w (ix3 d ⟨C.val / 256, by omega⟩ ⟨128 + k.val, by omega⟩))
      (fun k => layer w (ix3 d ⟨C.val / 256, by omega⟩ ⟨160 + k.val, by omega⟩)) l := by
  pointwise [spread]
  exact columns (fun Q e => layer w (ix3 d Q e)) _ padding (C.val / 256) (C.val % 256) l (by omega) (by omega) h

/-! ## The product with it -/

/-- The product with the laid out weight. -/
def dots (x : FVec Ideal S10496x1024 .bf16) (w : FVec Ideal S2x1024x6144 .f32) (R : Fin 10496) (C : Fin 8192) : EReal :=
  ∑ d : Fin 1024, (x (ix2 R d) * spread w (ix2 d C) : EReal)

theorem heads_apply (x : FVec Ideal S10496x1024 .bf16) (w : FVec Ideal S2x1024x6144 .f32) (R : Fin 10496) (h : Fin 32) (e : Fin 192) :
    heads x w (ix3 R h e) = ∑ d : Fin 1024, (x (ix2 R d) * layer w (ix3 d h e) : EReal) := by
  pointwise [heads, layer]

theorem dots_plain (x : FVec Ideal S10496x1024 .bf16) (w : FVec Ideal S2x1024x6144 .f32) (R : Fin 10496) (C : Fin 8192)
    (h : C.val % 256 < 128) : dots x w R C = heads x w (ix3 R ⟨C.val / 256, by omega⟩ ⟨C.val % 256, by omega⟩) := by
  rw [heads_apply]
  unfold dots
  simp only [spread_plain w _ C h]

theorem sum_lane (x : Fin 1024 → EReal) (f g : Fin 1024 → Fin 32 → EReal) (l : ℕ) :
    ∑ d, x d * lane (f d) (g d) l = lane (fun k => ∑ d, x d * f d k) (fun k => ∑ d, x d * g d k) l := by
  unfold lane
  split_ifs <;> first | rfl | simp only [mul_zero, Finset.sum_const_zero]

theorem dots_rotary (x : FVec Ideal S10496x1024 .bf16) (w : FVec Ideal S2x1024x6144 .f32) (R : Fin 10496) (C : Fin 8192) (l : ℕ)
    (h : C.val % 256 = 128 + l) : dots x w R C
    = lane (fun k => heads x w (ix3 R ⟨C.val / 256, by omega⟩ ⟨128 + k.val, by omega⟩))
      (fun k => heads x w (ix3 R ⟨C.val / 256, by omega⟩ ⟨160 + k.val, by omega⟩)) l := by
  simp only [heads_apply]
  unfold dots
  simp only [spread_rotary w _ C l h]
  exact sum_lane (fun d => x (ix2 R d)) (fun d k => layer w (ix3 d ⟨C.val / 256, by omega⟩ ⟨128 + k.val, by omega⟩))
    (fun d k => layer w (ix3 d ⟨C.val / 256, by omega⟩ ⟨160 + k.val, by omega⟩)) l

/-! ## The reference's entries, as the kernel spells them -/

/-- The turned lanes of a head, the reference's spelling and the kernel's. -/
theorem lanes (H : Fin 192 → EReal) (C S : Fin 32 → EReal) (r l : ℕ) (N : r < 128 → EReal) (hl : l < 128) (hr : r = 128 + l) :
    (if h : r < 128 then N h
      else if h : r - 128 < 32 then
        H ⟨128 + (r - 128), by omega⟩ * C ⟨r - 128, h⟩ - H ⟨128 + (32 + (r - 128)), by omega⟩ * S ⟨r - 128, h⟩
      else if h : r - 128 - 32 < 32 then 0
      else if h : r - 128 - 32 - 32 < 32 then
        H ⟨128 + (32 + (r - 128 - 32 - 32)), by omega⟩ * C ⟨r - 128 - 32 - 32, h⟩
          + H ⟨128 + (r - 128 - 32 - 32), by omega⟩ * S ⟨r - 128 - 32 - 32, h⟩
      else 0)
    = lane (fun k => H ⟨128 + k.val, by omega⟩) (fun k => H ⟨160 + k.val, by omega⟩) l * lane C C l
      + lane (fun k => H ⟨128 + k.val, by omega⟩) (fun k => H ⟨160 + k.val, by omega⟩) ((l + 128 - 64) % 128) * lane (fun i => -S i) S l := by
  have atH : ∀ {a b : ℕ} (ha : a < 192) (hb : b < 192), a = b → H ⟨a, ha⟩ = H ⟨b, hb⟩ := by
    intro a b ha hb h
    subst h
    rfl
  subst hr
  rw [dif_neg (by omega)]
  by_cases h1 : l < 32
  · obtain ⟨q, hq⟩ : ∃ q, q = 128 + l - 128 := ⟨_, rfl⟩
    obtain rfl : q = l := by omega
    rw [show (q + 128 - 64) % 128 = 64 + q by omega]
    unfold lane
    rw [dif_pos (by omega), dif_pos h1, dif_pos h1, dif_pos h1, dif_neg (by omega), if_neg (by omega), dif_pos (by omega)]
    simp only [← hq, mul_neg, show 64 + q - 64 = q by omega]
    rw [← sub_eq_add_neg, atH _ _ (show 128 + (32 + q) = 160 + q by omega)]
  · by_cases h2 : l < 64
    · rw [dif_neg (by omega), dif_pos (by omega)]
      unfold lane
      rw [dif_neg h1, dif_neg h1, dif_neg h1, if_pos h2, if_pos h2, if_pos h2]
      simp only [mul_zero, add_zero]
    · rw [dif_neg (by omega), dif_neg (by omega)]
      by_cases h3 : l - 64 < 32
      · obtain ⟨q, hq⟩ : ∃ q, q = l - 64 := ⟨_, rfl⟩
        have hq' : 128 + l - 128 - 32 - 32 = q := by omega
        have hq2 : (l + 128 - 64) % 128 = q := by omega
        simp only [hq', hq2]
        unfold lane
        simp only [← hq]
        rw [dif_pos (by omega), dif_neg h1, dif_neg h1, dif_neg h1, if_neg h2, if_neg h2, if_neg h2, dif_pos (by omega), dif_pos (by omega),
          dif_pos (by omega), dif_pos (by omega), atH _ _ (show 128 + (32 + q) = 160 + q by omega)]
      · rw [dif_neg (by omega)]
        unfold lane
        rw [dif_neg h1, dif_neg h1, dif_neg h1, if_neg h2, if_neg h2, if_neg h2, dif_neg h3, dif_neg h3, dif_neg h3]
        simp only [mul_zero, add_zero]

theorem goal_plain (x : FVec Ideal S10496x1024 .bf16) (w : FVec Ideal S2x1024x6144 .f32) (pos : FVec Ideal S10496 .f32) (R : Fin 10496)
    (C : Fin 8192) (h : C.val % 256 < 128) : goal x w pos (ix2 R C) = (dots x w R C * Ideal.ofBits .f32 1037384597#32 : EReal) := by
  rw [dots_plain x w R C h]
  pointwise [goal]
  rw [dif_pos h]

theorem goal_rotary (x : FVec Ideal S10496x1024 .bf16) (w : FVec Ideal S2x1024x6144 .f32) (pos : FVec Ideal S10496 .f32) (R : Fin 10496)
    (C C' : Fin 8192) (l : Fin 128) (h : C.val % 256 = 128 + l.val) (hd : C'.val / 256 = C.val / 256)
    (hm : C'.val % 256 = 128 + (l.val + 128 - 64) % 128) : goal x w pos (ix2 R C)
    = ((dots x w R C * cosTable (angle pos) (ix2 R l) + dots x w R C' * sinTable (angle pos) (ix2 R l)) * Ideal.ofBits .f32 1037384597#32 : EReal) := by
  rw [cosTable_apply, sinTable_apply, dots_rotary x w R C _ h, dots_rotary x w R C' _ hm]
  simp only [hd]
  pointwise [goal]
  exact congrArg (· * Ideal.ofBits .f32 1037384597#32) (lanes (fun e => heads x w (ix3 R ⟨C.val / 256, by omega⟩ e))
    (fun i => Ideal.cos (angle pos (ix2 R i))) (fun i => Ideal.sin (angle pos (ix2 R i))) (C.val % 256) l.val _ l.isLt h)

/-! ## What a point stores -/

/-- The 128 columns of piece `n` lie in the block. -/
theorem within : ∀ n : Fin 16, S1312x2048.Slices ![0, 128 * n.val] S1312x128 := by decide

/-- Piece `n` of what a point stores: scaled, every second piece turned. -/
def piece (a : FVec Ideal S1312x2048 .f32) (y z : FVec Ideal S1312x128 .f32) (n : Fin 16) : FVec Ideal S1312x128 .f32 :=
  if n.val % 2 = 0 then
    mulf (extractStridedSlice S1312x128 ![0, 128 * n.val] a (within n)) (broadcast S1312x128 (Scalar.ofBits .f32 0x3DD53B95#32))
  else
    mulf (addf (mulf (extractStridedSlice S1312x128 ![0, 128 * n.val] a (within n)) y)
      (mulf (dynamicRotate 1 64#32 none (extractStridedSlice S1312x128 ![0, 128 * n.val] a (within n)) rotates_S1312x128_d1) z))
      (broadcast S1312x128 (Scalar.ofBits .f32 0x3DD53B95#32))

theorem piece_plain (a : FVec Ideal S1312x2048 .f32) (y z : FVec Ideal S1312x128 .f32) (n : Fin 16) (h : n.val % 2 = 0) (r : Fin 1312)
    (l : Fin 128) : piece a y z n (ix2 r l) = (a (ix2 r ⟨128 * n.val + l.val, by omega⟩) * Ideal.ofBits .f32 1037384597#32 : EReal) := by
  unfold piece
  rw [if_pos h]
  pointwise

theorem piece_rotary (a : FVec Ideal S1312x2048 .f32) (y z : FVec Ideal S1312x128 .f32) (n : Fin 16) (h : ¬ n.val % 2 = 0) (r : Fin 1312)
    (l : Fin 128) : piece a y z n (ix2 r l)
    = ((a (ix2 r ⟨128 * n.val + l.val, by omega⟩) * y (ix2 r l)
      + a (ix2 r ⟨128 * n.val + (l.val + 128 - 64) % 128, by omega⟩) * z (ix2 r l)) * Ideal.ofBits .f32 1037384597#32 : EReal) := by
  unfold piece
  rw [if_neg h]
  pointwise

/-- What a point stores, of the blocks it reads. -/
def stored (X0 : FVec Ideal S1312x1024 .bf16) (X1 : FVec Ideal S1024x2048 .bf16) (X2 X3 : FVec Ideal S1312x128 .f32) : FVec Ideal S1312x2048 .bf16 :=
  k0_pay1 (k0_pay5 X1 X0) (k0_pay6 X1 X0 X2 X3) (k0_pay7 X1 X0) (k0_pay8 X1 X0 X2 X3) (k0_pay9 X1 X0) (k0_pay10 X1 X0 X2 X3)
    (k0_pay12 (k0_pay11 X1 X0)) (k0_pay13 (k0_pay2 X1 X0) (k0_pay3 X2) (k0_pay4 X3))
    (k0_pay14 (k0_pay2 X1 X0)) (k0_pay15 (k0_pay2 X1 X0) (k0_pay3 X2) (k0_pay4 X3))
    (k0_pay16 (k0_pay2 X1 X0)) (k0_pay17 (k0_pay2 X1 X0) (k0_pay3 X2) (k0_pay4 X3))
    (k0_pay18 (k0_pay2 X1 X0)) (k0_pay19 (k0_pay2 X1 X0) (k0_pay3 X2) (k0_pay4 X3))
    (k0_pay20 (k0_pay2 X1 X0))
    (addf (k0_pay22 (k0_pay2 X1 X0) (k0_pay3 X2)) (k0_pay23 (k0_pay2 X1 X0) (k0_pay4 X3)))

theorem stored_eq (X0 : FVec Ideal S1312x1024 .bf16) (X1 : FVec Ideal S1024x2048 .bf16) (X2 X3 : FVec Ideal S1312x128 .f32) :
    stored X0 X1 X2 X3 = truncf .bf16 (concatenate S1312x2048 1
      (List.ofFn fun n => ⟨S1312x128, piece (k0_pay2 X1 X0) (k0_pay3 X2) (k0_pay4 X3) n⟩)
      concatenates_S1312x128_S1312x128_S1312x128_S1312x128_S1312x128_S1312x128_S1312x128_S1312x128_S1312x128_S1312x128_S1312x128_S1312x128_S1312x128_S1312x128_S1312x128_S1312x128_S1312x2048_d1) bitsLt_bf16_f32 :=
  rfl

theorem stored_apply (X0 : FVec Ideal S1312x1024 .bf16) (X1 : FVec Ideal S1024x2048 .bf16) (X2 X3 : FVec Ideal S1312x128 .f32) (r : Fin 1312)
    (n : Fin 16) (l : Fin 128) : stored X0 X1 X2 X3 (ix2 r ⟨128 * n.val + l.val, by omega⟩)
    = piece (k0_pay2 X1 X0) (k0_pay3 X2) (k0_pay4 X3) n (ix2 r l) := by
  rw [stored_eq]
  refine concatenate_ofFn_apply (t := S1312x2048) 1 (piece (k0_pay2 X1 X0) (k0_pay3 X2) (k0_pay4 X3))
    concatenates_S1312x128_S1312x128_S1312x128_S1312x128_S1312x128_S1312x128_S1312x128_S1312x128_S1312x128_S1312x128_S1312x128_S1312x128_S1312x128_S1312x128_S1312x128_S1312x128_S1312x2048_d1 (by decide) 128 (by decide) _ n
    (by simp; omega) (ix2 r l) (by simp; omega) ?_
  intro b hb
  match b with
  | ⟨0, _⟩ => rfl
  | ⟨1, _⟩ => exact absurd rfl hb

variable (m : (ℓ : Loc nD τ sig) → Buf (Elt Ideal) ℓ) (ρ : Dev nD → PrngReg)

theorem V_weight (c : Dev nD) : V m c main_v39 = spread (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.binary,
    StableHlo.TRef.unary, StableHlo.TRef.toBuf, StableHlo.TRef.ofBuf, cast_eq]
  after_results
  rfl

theorem V_cos (c : Dev nD) : V m c main_v19 = cosTable (angle (m ((c : Thread nD τ).loc main_arg2))) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.binary,
    StableHlo.TRef.unary, StableHlo.TRef.toBuf, StableHlo.TRef.ofBuf, cast_eq]
  after_results
  rfl

theorem V_sin (c : Dev nD) : V m c main_v26 = sinTable (angle (m ((c : Thread nD τ).loc main_arg2))) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.binary,
    StableHlo.TRef.unary, StableHlo.TRef.toBuf, StableHlo.TRef.ofBuf, cast_eq]
  after_results
  rfl

/-! The blocks as the launch finds them. -/

theorem read_input (c : Dev nD) (t : Fin cfg0.N) (r : Fin 1312) (d : Fin 1024) (R : Fin 10496) (h : R.val = 1312 * (t.val / 4) + r.val) :
    iblk m c 0 t (ix2 r d) = m ((c : Thread nD τ).loc main_arg0) (ix2 R d) := by
  rw [← V_main_arg0 m c]
  blk_simp [iblk]
  blk_ext [places t]

theorem read_weight (c : Dev nD) (t : Fin cfg0.N) (d : Fin 1024) (k : Fin 2048) (C : Fin 8192) (h : C.val = 2048 * (t.val % 4) + k.val) :
    iblk m c 1 t (ix2 d k) = spread (m ((c : Thread nD τ).loc main_arg1)) (ix2 d C) := by
  rw [← V_weight m c]
  blk_simp [iblk]
  blk_ext [places t]

theorem read_cos (c : Dev nD) (t : Fin cfg0.N) (r : Fin 1312) (k : Fin 128) (R : Fin 10496) (h : R.val = 1312 * (t.val / 4) + r.val) :
    iblk m c 2 t (ix2 r k) = cosTable (angle (m ((c : Thread nD τ).loc main_arg2))) (ix2 R k) := by
  rw [← V_cos m c]
  blk_simp [iblk]
  blk_ext [places t]

theorem read_sin (c : Dev nD) (t : Fin cfg0.N) (r : Fin 1312) (k : Fin 128) (R : Fin 10496) (h : R.val = 1312 * (t.val / 4) + r.val) :
    iblk m c 3 t (ix2 r k) = sinTable (angle (m ((c : Thread nD τ).loc main_arg2))) (ix2 R k) := by
  rw [← V_sin m c]
  blk_simp [iblk]
  blk_ext [places t]

/-- The product a point computes. -/
theorem product (c : Dev nD) (t : Fin cfg0.N) (r : Fin 1312) (k : Fin 2048) (R : Fin 10496) (C : Fin 8192)
    (hR : R.val = 1312 * (t.val / 4) + r.val) (hC : C.val = 2048 * (t.val % 4) + k.val) :
    k0_pay2 (F := Ideal) (iblk m c 1 t) (iblk m c 0 t) (ix2 r k)
    = dots (m ((c : Thread nD τ).loc main_arg0)) (m ((c : Thread nD τ).loc main_arg1)) R C := by
  pointwise [k0_pay2]
  unfold dots
  simp only [fun d => read_input m c t r d R hR, fun d => read_weight m c t d k C hC]

/-- The entry a point stores at block index `y` is the reference's entry where `y` sits in the array. -/
theorem entry (c : Dev nD) (t : Fin cfg0.N) (y : S1312x2048.Idx) (j : S10496x8192.Idx)
    (h0 : (j 0 : ℕ) = 1312 * (t.val / 4) + y 0) (h1 : (j 1 : ℕ) = 2048 * (t.val % 4) + y 1) :
    stored (iblk m c 0 t) (iblk m c 1 t) (iblk m c 2 t) (iblk m c 3 t) y
    = goal (m ((c : Thread nD τ).loc main_arg0)) (m ((c : Thread nD τ).loc main_arg1)) (m ((c : Thread nD τ).loc main_arg2)) j := by
  idx_vars y
  idx_vars j
  obtain ⟨n, l, hy⟩ : ∃ (n : Fin 16) (l : Fin 128), y1.val = 128 * n.val + l.val :=
    ⟨⟨y1.val / 128, by have : y1.val < 2048 := y1.isLt; omega⟩, ⟨y1.val % 128, by omega⟩, by dsimp only; omega⟩
  rw [show y1 = (⟨128 * n.val + l.val, by omega⟩ : Fin 2048) from Fin.ext hy]
  replace h0 : j0.val = 1312 * (t.val / 4) + y0.val := h0
  replace h1 : j1.val = 2048 * (t.val % 4) + (128 * n.val + l.val) := hy ▸ h1
  rw [stored_apply]
  by_cases hp : n.val % 2 = 0
  · rw [piece_plain _ _ _ n hp, goal_plain _ _ _ j0 j1 (by omega), product m c t y0 _ j0 j1 h0 h1]
  · have hy : k0_pay3 (F := Ideal) (iblk m c 2 t) (ix2 y0 l) = cosTable (angle (m ((c : Thread nD τ).loc main_arg2))) (ix2 j0 l) := by
      pointwise [k0_pay3]
      exact read_cos m c t y0 l j0 h0
    have hz : k0_pay4 (F := Ideal) (iblk m c 3 t) (ix2 y0 l) = sinTable (angle (m ((c : Thread nD τ).loc main_arg2))) (ix2 j0 l) := by
      pointwise [k0_pay4]
      exact read_sin m c t y0 l j0 h0
    have hC : 2048 * (t.val % 4) + (128 * n.val + (l.val + 128 - 64) % 128) < 8192 := by omega
    rw [piece_rotary _ _ _ n hp, goal_rotary _ _ _ j0 j1 ⟨_, hC⟩ l (by omega) (by dsimp only; omega) (by dsimp only; omega),
      product m c t y0 _ j0 j1 h0 h1, product m c t y0 _ j0 ⟨_, hC⟩ h0 rfl, hy, hz]

theorem final (c : Dev nD) : (dats m 0 c).arrAt 4 cfg0.N
    = goal (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out [k0_pay24, k0_pay25, k0_pay26]
  refine entry m c t y _ ?_ ?_ <;> blk_simp [places t] <;> try omega

/-- The frame run with the result named: an array written by the grid's points, the arguments as launched. -/
theorem run : θ_run defs (onTc (τ := τ) (main (F := Ideal))) ⟨m, fun _ => 0, ρ⟩ fun r => ∀ c : Dev nD,
      r.2.mem ((c : Thread nD τ).loc main_v40)
        = goal (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Proof.UQ

end
-- ==== Proof.DKV.lean ====
/-
  The shared latent's projection: `xb @ w`, its last 64 columns spread over 128 lanes, 32 and 32 with gaps of zeros.

  The kernel is handed the weight with these columns spread; the reference spreads them in the product.
-/
module

public import proofs.«01_k».proof.Proof.Gen.DKVIdeal.Value
public import proofs.«01_k».proof.Proof.Gen.DKVRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.DKV

open Cert.DKVIdeal Cert.DKVIdeal.Gen

/-- The product with the weight. -/
def latent (x : FVec Ideal S10496x4096 .bf16) (w : FVec Ideal S4096x576 .f32) : FVec Ideal Cert.DKVRefIdeal.S10496x576 .f32 :=
  Host.dotGeneral Cert.DKVRefIdeal.dot_S10496x4096_S4096x576_S10496x576_1_0_0_1_n_n none (extf .f32 x Cert.DKVRefIdeal.Gen.bitsLt_bf16_f32) w

/-- The reference's result as a function of the two arguments. -/
def goal (x : FVec Ideal S10496x4096 .bf16) (w : FVec Ideal S4096x576 .f32) : FVec Ideal S10496x640 .f32 :=
  (concatenate Cert.DKVRefIdeal.S10496x640 1 [⟨Cert.DKVRefIdeal.S10496x544, ((extractStridedSlice Cert.DKVRefIdeal.S10496x544 ![0, 0] (latent x w) Cert.DKVRefIdeal.Gen.slices_S10496x576_S10496x544_0_0))⟩, ⟨Cert.DKVRefIdeal.S10496x32, ((broadcastInDim Cert.DKVRefIdeal.S10496x32 ![] Cert.DKVRefIdeal.Gen.bcast_S_S10496x32 (constant Cert.DKVRefIdeal.S_ .f32 0x00000000#32)))⟩, ⟨Cert.DKVRefIdeal.S10496x32, ((extractStridedSlice Cert.DKVRefIdeal.S10496x32 ![0, 544] (latent x w) Cert.DKVRefIdeal.Gen.slices_S10496x576_S10496x32_0_544))⟩, ⟨Cert.DKVRefIdeal.S10496x32, ((broadcastInDim Cert.DKVRefIdeal.S10496x32 ![] Cert.DKVRefIdeal.Gen.bcast_S_S10496x32 (constant Cert.DKVRefIdeal.S_ .f32 0x00000000#32)))⟩] Cert.DKVRefIdeal.Gen.concatenates_S10496x544_S10496x32_S10496x32_S10496x32_S10496x640_d1 )

/-- Where the blocks of point `t` sit. -/
theorem places : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The weight as the host lays it out: 512 columns, then 32 and 32 with 32 zeros after each. -/
def spread (w : FVec Ideal S4096x576 .f32) : FVec Ideal S4096x640 .bf16 :=
  truncf .bf16 (concatenate S4096x640 1 [⟨S4096x512, extractStridedSlice S4096x512 ![0, 0] w slices_S4096x576_S4096x512_0_0⟩,
    ⟨S4096x128, concatenate S4096x128 1 [
      ⟨S4096x64, pad S4096x64 ![0, 0] ![0, 32] ![0, 0] (extractStridedSlice S4096x32 ![0, 0] (extractStridedSlice S4096x64 ![0, 512] w slices_S4096x576_S4096x64_0_512) slices_S4096x64_S4096x32_0_0)
        (sitofp .f32 (constantI S_ 32 0#32)) pads_S4096x32_S4096x64_000_0320 h_S_⟩,
      ⟨S4096x64, pad S4096x64 ![0, 0] ![0, 32] ![0, 0] (extractStridedSlice S4096x32 ![0, 32] (extractStridedSlice S4096x64 ![0, 512] w slices_S4096x576_S4096x64_0_512) slices_S4096x64_S4096x32_0_32)
        (sitofp .f32 (constantI S_ 32 0#32)) pads_S4096x32_S4096x64_000_0320 h_S_⟩]
      concatenates_S4096x64_S4096x64_S4096x128_d1⟩] concatenates_S4096x512_S4096x128_S4096x640_d1) bitsLt_bf16_f32

/-- The zero the host pads with. -/
theorem padding : (FloatOps.sitofp .f32 0#32 : Ideal .f32) = (0 : EReal) := by
  change (((0#32 : BitVec 32).toInt : ℝ) : EReal) = 0
  simp

/-- Two spellings of the laid out columns, the host's and the reference's. -/
theorem columns (f : Fin 576 → EReal) (z : EReal) (hz : z = 0) (e : ℕ) (he : e < 640) :
    (if h : e < 512 then f ⟨e, by omega⟩
      else if h : e - 512 < 64 then if h : e - 512 < 32 then f ⟨512 + (e - 512), by omega⟩ else z
      else if h : e - 512 - 64 < 32 then f ⟨512 + (32 + (e - 512 - 64)), by omega⟩ else z)
    = if h : e < 544 then f ⟨e, by omega⟩
      else if h : e - 544 < 32 then 0
      else if h : e - 544 - 32 < 32 then f ⟨544 + (e - 544 - 32), by omega⟩
      else 0 := by
  have at_column : ∀ {a b : ℕ} (ha : a < 576) (hb : b < 576), a = b → f ⟨a, ha⟩ = f ⟨b, hb⟩ := by
    intro a b ha hb h
    subst h
    rfl
  subst hz
  split_ifs <;> first | rfl | (exfalso; omega) | exact at_column _ _ (by omega)

/-- The laid out weight's entry at column `e`. -/
theorem spread_apply (w : FVec Ideal S4096x576 .f32) (d : Fin 4096) (e : Fin 640) : spread w (ix2 d e)
    = if h : e.val < 544 then w (ix2 d ⟨e.val, by omega⟩)
      else if h : e.val - 544 < 32 then (0 : EReal)
      else if h : e.val - 544 - 32 < 32 then w (ix2 d ⟨544 + (e.val - 544 - 32), by omega⟩)
      else (0 : EReal) := by
  pointwise [spread]
  exact columns (fun k => w (ix2 d k)) _ padding e.val e.isLt

/-- What the launch finds is the weight so laid out. -/
theorem V_weight (c : Dev nD) : V m c main_v8 = spread (m ((c : Thread nD τ).loc main_arg1)) := by
  unfold V
  simp only [hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results
  rfl

theorem weight (c : Dev nD) (t : Fin cfg0.N) (d : Fin 4096) (e : Fin 640) : iblk m c 1 t (ix2 d e)
    = spread (m ((c : Thread nD τ).loc main_arg1)) (ix2 d e) := by
  rw [← V_weight]
  blk_simp [iblk]
  blk_ext [places t]

/-- The reference's entry at column `e` is the same sum over the laid out weight. -/
theorem goal_apply (x : FVec Ideal S10496x4096 .bf16) (w : FVec Ideal S4096x576 .f32) (R : Fin 10496) (e : Fin 640) :
    goal x w (ix2 R e) = ∑ d : Fin 4096, (x (ix2 R d) * spread w (ix2 d e) : EReal) := by
  simp only [spread_apply]
  pointwise [goal, latent]
  split_ifs <;> first | rfl | simp

/-- The input's block as the launch finds it. -/
theorem input (c : Dev nD) (t : Fin cfg0.N) (r : Fin 256) (d : Fin 4096) (R : Fin 10496) (h : R.val = 256 * t.val + r.val) :
    iblk m c 0 t (ix2 r d) = m ((c : Thread nD τ).loc main_arg0) (ix2 R d) := by
  blk_simp [iblk]
  entry_read
  blk_ext [places t]

/-- The entry a point stores at block index `y` is the reference's entry where `y` sits in the array. -/
theorem entry (c : Dev nD) (t : Fin cfg0.N) (y : S256x640.Idx) (j : S10496x640.Idx)
    (h0 : (j 0 : ℕ) = 256 * t.val + y 0) (h1 : (j 1 : ℕ) = y 1) :
    k0_pay1 (F := Ideal) (iblk m c 1 t) (iblk m c 0 t) y
    = goal (m ((c : Thread nD τ).loc main_arg0)) (m ((c : Thread nD τ).loc main_arg1)) j := by
  idx_vars y
  idx_vars j
  obtain rfl : j1 = y1 := Fin.ext h1
  rw [goal_apply]
  pointwise [k0_pay1]
  simp only [weight, fun d => input m c t y0 d j0 h0]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  refine entry m c t y _ ?_ ?_ <;> blk_simp [places t] <;> try omega

end Cert.Proof.DKV

end
-- ==== Proof.KVPost.lean ====
/-
  The finishing of the shared latent: its first 512 columns normalised and scaled, its 64 rotary columns turned by the
  token's position. The rotary columns lie in two halves of 32, each followed by 32 zeros.

  The kernel turns all 128 lanes at once: a product with a table of cosines, and the lanes rolled by 64 with a table of
  sines whose first half is negated. The tables, made by the host, are zero where the zeros lie.
-/
module

public import proofs.«01_k».proof.Proof.Gen.KVPostIdeal.Value
public import proofs.«01_k».proof.Proof.Gen.KVPostRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.KVPost

open Cert.KVPostIdeal Cert.KVPostIdeal.Gen

/-- Position times frequency. -/
def angle (pos : FVec Ideal S10496 .f32) : FVec Ideal S10496x32 .f32 :=
  mulf (broadcastInDim Cert.KVPostRefIdeal.S10496x32 ![0, 1] Cert.KVPostRefIdeal.Gen.bcast_S10496x1_S10496x32_0_1 (broadcastInDim Cert.KVPostRefIdeal.S10496x1 ![0] Cert.KVPostRefIdeal.Gen.bcast_S10496_S10496x1_0 pos)) (broadcastInDim Cert.KVPostRefIdeal.S10496x32 ![0, 1] Cert.KVPostRefIdeal.Gen.bcast_S1x32_S10496x32_0_1 (broadcastInDim Cert.KVPostRefIdeal.S1x32 ![1] Cert.KVPostRefIdeal.Gen.bcast_S32_S1x32_1 (Host.divf (broadcastInDim Cert.KVPostRefIdeal.S32 ![] Cert.KVPostRefIdeal.Gen.bcast_S_S32 (constant Cert.KVPostRefIdeal.S_ .f32 0x3F800000#32)) (Host.powf (broadcastInDim Cert.KVPostRefIdeal.S32 ![] Cert.KVPostRefIdeal.Gen.bcast_S_S32 (constant Cert.KVPostRefIdeal.S_ .f32 0x461C4000#32)) (Host.divf (sitofp .f32 (iotaInDim Cert.KVPostRefIdeal.S32 32 0)) (broadcastInDim Cert.KVPostRefIdeal.S32 ![] Cert.KVPostRefIdeal.Gen.bcast_S_S32 (constant Cert.KVPostRefIdeal.S_ .f32 0x42000000#32)))))))

/-- The two halves of the rotary columns side by side. -/
def halves (lat : FVec Ideal S10496x640 .f32) : FVec Ideal S10496x64 .f32 :=
  (concatenate Cert.KVPostRefIdeal.S10496x64 1 [⟨Cert.KVPostRefIdeal.S10496x32, (extractStridedSlice Cert.KVPostRefIdeal.S10496x32 ![0, 512] lat Cert.KVPostRefIdeal.Gen.slices_S10496x640_S10496x32_0_512)⟩, ⟨Cert.KVPostRefIdeal.S10496x32, (extractStridedSlice Cert.KVPostRefIdeal.S10496x32 ![0, 576] lat Cert.KVPostRefIdeal.Gen.slices_S10496x640_S10496x32_0_576)⟩] Cert.KVPostRefIdeal.Gen.concatenates_S10496x32_S10496x32_S10496x64_d1)

/-- The reference's result as a function of the three arguments. -/
def goal (lat : FVec Ideal S10496x640 .f32) (g : FVec Ideal S512 .f32) (pos : FVec Ideal S10496 .f32) : FVec Ideal S10496x640 .f32 :=
  concatenate Cert.KVPostRefIdeal.S10496x640 1 [⟨Cert.KVPostRefIdeal.S10496x512, ((mulf (mulf (extractStridedSlice Cert.KVPostRefIdeal.S10496x512 ![0, 0] lat Cert.KVPostRefIdeal.Gen.slices_S10496x640_S10496x512_0_0) (broadcastInDim Cert.KVPostRefIdeal.S10496x512 ![0, 1] Cert.KVPostRefIdeal.Gen.bcast_S10496x1_S10496x512_0_1 (Host.rsqrt (addf (Host.divf (broadcastInDim Cert.KVPostRefIdeal.S10496x1 ![0] Cert.KVPostRefIdeal.Gen.bcast_S10496_S10496x1_0 (Host.reduceAdd (mulf (extractStridedSlice Cert.KVPostRefIdeal.S10496x512 ![0, 0] lat Cert.KVPostRefIdeal.Gen.slices_S10496x640_S10496x512_0_0) (extractStridedSlice Cert.KVPostRefIdeal.S10496x512 ![0, 0] lat Cert.KVPostRefIdeal.Gen.slices_S10496x640_S10496x512_0_0)) (constant Cert.KVPostRefIdeal.S_ .f32 0x00000000#32) Cert.KVPostRefIdeal.Gen.reducesTo_S10496x512_S10496_d1 Cert.KVPostRefIdeal.Gen.h_S_)) (broadcastInDim Cert.KVPostRefIdeal.S10496x1 ![] Cert.KVPostRefIdeal.Gen.bcast_S_S10496x1 (constant Cert.KVPostRefIdeal.S_ .f32 0x44000000#32))) (broadcastInDim Cert.KVPostRefIdeal.S10496x1 ![] Cert.KVPostRefIdeal.Gen.bcast_S_S10496x1 (constant Cert.KVPostRefIdeal.S_ .f32 0x358637BD#32)))))) (broadcastInDim Cert.KVPostRefIdeal.S10496x512 ![0, 1] Cert.KVPostRefIdeal.Gen.bcast_S1x512_S10496x512_0_1 (broadcastInDim Cert.KVPostRefIdeal.S1x512 ![1] Cert.KVPostRefIdeal.Gen.bcast_S512_S1x512_1 g))))⟩, ⟨Cert.KVPostRefIdeal.S10496x32, ((shapeCast _ (subf (mulf (extractStridedSlice Cert.KVPostRefIdeal.S10496x1x32 ![0, 0, 0] (broadcastInDim Cert.KVPostRefIdeal.S10496x1x64 ![0, 2] Cert.KVPostRefIdeal.Gen.bcast_S10496x64_S10496x1x64_0_2 (halves lat)) Cert.KVPostRefIdeal.Gen.slices_S10496x1x64_S10496x1x32_0_0_0) (broadcastInDim Cert.KVPostRefIdeal.S10496x1x32 ![0, 2] Cert.KVPostRefIdeal.Gen.bcast_S10496x32_S10496x1x32_0_2 (Host.cos (angle pos)))) (mulf (extractStridedSlice Cert.KVPostRefIdeal.S10496x1x32 ![0, 0, 32] (broadcastInDim Cert.KVPostRefIdeal.S10496x1x64 ![0, 2] Cert.KVPostRefIdeal.Gen.bcast_S10496x64_S10496x1x64_0_2 (halves lat)) Cert.KVPostRefIdeal.Gen.slices_S10496x1x64_S10496x1x32_0_0_32) (broadcastInDim Cert.KVPostRefIdeal.S10496x1x32 ![0, 2] Cert.KVPostRefIdeal.Gen.bcast_S10496x32_S10496x1x32_0_2 (Host.sin (angle pos))))) Cert.KVPostRefIdeal.Gen.shapeCasts_S10496x1x32_S10496x32))⟩, ⟨Cert.KVPostRefIdeal.S10496x32, ((broadcastInDim Cert.KVPostRefIdeal.S10496x32 ![] Cert.KVPostRefIdeal.Gen.bcast_S_S10496x32 (constant Cert.KVPostRefIdeal.S_ .f32 0x00000000#32)))⟩, ⟨Cert.KVPostRefIdeal.S10496x32, ((shapeCast _ (addf (mulf (extractStridedSlice Cert.KVPostRefIdeal.S10496x1x32 ![0, 0, 32] (broadcastInDim Cert.KVPostRefIdeal.S10496x1x64 ![0, 2] Cert.KVPostRefIdeal.Gen.bcast_S10496x64_S10496x1x64_0_2 (halves lat)) Cert.KVPostRefIdeal.Gen.slices_S10496x1x64_S10496x1x32_0_0_32) (broadcastInDim Cert.KVPostRefIdeal.S10496x1x32 ![0, 2] Cert.KVPostRefIdeal.Gen.bcast_S10496x32_S10496x1x32_0_2 (Host.cos (angle pos)))) (mulf (extractStridedSlice Cert.KVPostRefIdeal.S10496x1x32 ![0, 0, 0] (broadcastInDim Cert.KVPostRefIdeal.S10496x1x64 ![0, 2] Cert.KVPostRefIdeal.Gen.bcast_S10496x64_S10496x1x64_0_2 (halves lat)) Cert.KVPostRefIdeal.Gen.slices_S10496x1x64_S10496x1x32_0_0_0) (broadcastInDim Cert.KVPostRefIdeal.S10496x1x32 ![0, 2] Cert.KVPostRefIdeal.Gen.bcast_S10496x32_S10496x1x32_0_2 (Host.sin (angle pos))))) Cert.KVPostRefIdeal.Gen.shapeCasts_S10496x1x32_S10496x32))⟩, ⟨Cert.KVPostRefIdeal.S10496x32, ((broadcastInDim Cert.KVPostRefIdeal.S10496x32 ![] Cert.KVPostRefIdeal.Gen.bcast_S_S10496x32 (constant Cert.KVPostRefIdeal.S_ .f32 0x00000000#32)))⟩] Cert.KVPostRefIdeal.Gen.concatenates_S10496x512_S10496x32_S10496x32_S10496x32_S10496x32_S10496x640_d1

/-- The host's table of cosines: 32, 32 zeros, the same 32, 32 zeros. -/
def cosTable (a : FVec Ideal S10496x32 .f32) : FVec Ideal S10496x128 .f32 :=
  concatenate S10496x128 1 [
    ⟨S10496x64, pad S10496x64 ![0, 0] ![0, 32] ![0, 0] (extractStridedSlice S10496x32 ![0, 0] (concatenate S10496x64 1 [⟨S10496x32, Host.cos a⟩, ⟨S10496x32, Host.cos a⟩] concatenates_S10496x32_S10496x32_S10496x64_d1) slices_S10496x64_S10496x32_0_0)
      (sitofp .f32 (constantI S_ 32 0#32)) pads_S10496x32_S10496x64_000_0320 h_S_⟩,
    ⟨S10496x64, pad S10496x64 ![0, 0] ![0, 32] ![0, 0] (extractStridedSlice S10496x32 ![0, 32] (concatenate S10496x64 1 [⟨S10496x32, Host.cos a⟩, ⟨S10496x32, Host.cos a⟩] concatenates_S10496x32_S10496x32_S10496x64_d1) slices_S10496x64_S10496x32_0_32)
      (sitofp .f32 (constantI S_ 32 0#32)) pads_S10496x32_S10496x64_000_0320 h_S_⟩]
    concatenates_S10496x64_S10496x64_S10496x128_d1

/-- The host's table of sines: 32 negated, 32 zeros, 32 as they are, 32 zeros. -/
def sinTable (a : FVec Ideal S10496x32 .f32) : FVec Ideal S10496x128 .f32 :=
  concatenate S10496x128 1 [
    ⟨S10496x64, pad S10496x64 ![0, 0] ![0, 32] ![0, 0] (extractStridedSlice S10496x32 ![0, 0] (concatenate S10496x64 1 [⟨S10496x32, Host.negf (Host.sin a)⟩, ⟨S10496x32, Host.sin a⟩] concatenates_S10496x32_S10496x32_S10496x64_d1) slices_S10496x64_S10496x32_0_0)
      (sitofp .f32 (constantI S_ 32 0#32)) pads_S10496x32_S10496x64_000_0320 h_S_⟩,
    ⟨S10496x64, pad S10496x64 ![0, 0] ![0, 32] ![0, 0] (extractStridedSlice S10496x32 ![0, 32] (concatenate S10496x64 1 [⟨S10496x32, Host.negf (Host.sin a)⟩, ⟨S10496x32, Host.sin a⟩] concatenates_S10496x32_S10496x32_S10496x64_d1) slices_S10496x64_S10496x32_0_32)
      (sitofp .f32 (constantI S_ 32 0#32)) pads_S10496x32_S10496x64_000_0320 h_S_⟩]
    concatenates_S10496x64_S10496x64_S10496x128_d1

/-- Where the blocks of point `t` sit. -/
theorem places : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The zero the host pads with. -/
theorem padding : (FloatOps.sitofp .f32 0#32 : Ideal .f32) = (0 : EReal) := by
  change (((0#32 : BitVec 32).toInt : ℝ) : EReal) = 0
  simp

/-- Lane `k` of a row of 128: `x` and `y` in the first 32 lanes of each half, zero in the others. -/
def lane (x y : Fin 32 → EReal) (k : ℕ) : EReal :=
  if h : k < 32 then x ⟨k, h⟩
  else if k < 64 then 0
  else if h : k - 64 < 32 then y ⟨k - 64, h⟩
  else 0

theorem lane_of_pads (x y : Fin 32 → EReal) (z : EReal) (hz : z = 0) (k : ℕ) :
    (if h : k < 64 then if h : k < 32 then if h' : k < 32 then x ⟨k, h⟩ else y ⟨k - 32, by omega⟩ else z
      else if h : k - 64 < 32 then y ⟨k - 64, h⟩ else z) = lane x y k := by
  subst hz
  unfold lane
  split_ifs <;> first | rfl | (exfalso; omega)

theorem cosTable_apply (a : FVec Ideal S10496x32 .f32) (R : Fin 10496) (e : Fin 128) :
    cosTable a (ix2 R e) = lane (fun k => Ideal.cos (a (ix2 R k))) (fun k => Ideal.cos (a (ix2 R k))) e.val := by
  pointwise [cosTable]
  exact lane_of_pads (fun k => Ideal.cos (a (ix2 R k))) (fun k => Ideal.cos (a (ix2 R k))) _ padding e.val

theorem sinTable_apply (a : FVec Ideal S10496x32 .f32) (R : Fin 10496) (e : Fin 128) :
    sinTable a (ix2 R e) = lane (fun k => -Ideal.sin (a (ix2 R k))) (fun k => Ideal.sin (a (ix2 R k))) e.val := by
  pointwise [sinTable]
  exact lane_of_pads (fun k => -Ideal.sin (a (ix2 R k))) (fun k => Ideal.sin (a (ix2 R k))) _ padding e.val

/-- The turned lanes of a row, the reference's spelling and the kernel's. -/
theorem lanes (L : Fin 640 → EReal) (C S : Fin 32 → EReal) (k e : ℕ) (N : e < 512 → EReal) (hk : k < 128) (he : e = 512 + k) :
    (if h : e < 512 then N h
      else if h : e - 512 < 32 then
        (if h' : e - 512 < 32 then L ⟨512 + (e - 512), by omega⟩ else L ⟨576 + (e - 512 - 32), by omega⟩) * C ⟨e - 512, h⟩
          - L ⟨576 + (e - 512), by omega⟩ * S ⟨e - 512, h⟩
      else if h : e - 512 - 32 < 32 then 0
      else if h : e - 512 - 32 - 32 < 32 then
        L ⟨576 + (e - 512 - 32 - 32), by omega⟩ * C ⟨e - 512 - 32 - 32, h⟩
          + (if h' : e - 512 - 32 - 32 < 32 then L ⟨512 + (e - 512 - 32 - 32), by omega⟩ else L ⟨576 + (e - 512 - 32 - 32 - 32), by omega⟩)
            * S ⟨e - 512 - 32 - 32, h⟩
      else 0)
    = L ⟨512 + k, by omega⟩ * lane C C k + L ⟨512 + (k + 128 - 64) % 128, by omega⟩ * lane (fun i => -S i) S k := by
  have atL : ∀ {a b : ℕ} (ha : a < 640) (hb : b < 640), a = b → L ⟨a, ha⟩ = L ⟨b, hb⟩ := by
    intro a b ha hb h
    subst h
    rfl
  subst he
  rw [dif_neg (by omega)]
  unfold lane
  by_cases h1 : k < 32
  · obtain ⟨q, hq⟩ : ∃ q, q = 512 + k - 512 := ⟨_, rfl⟩
    obtain rfl : q = k := by omega
    simp only [← hq, h1, dif_pos, mul_neg]
    rw [← sub_eq_add_neg, atL _ _ (show 576 + q = 512 + (q + 128 - 64) % 128 by omega)]
  · by_cases h2 : k < 64
    · rw [dif_neg (by omega), dif_pos (by omega), dif_neg h1, dif_neg h1, if_pos h2, if_pos h2]
      simp only [mul_zero, add_zero]
    · by_cases h3 : k - 64 < 32
      · obtain ⟨q, hq⟩ : ∃ q, q = k - 64 := ⟨_, rfl⟩
        have hq' : 512 + k - 512 - 32 - 32 = q := by omega
        simp only [hq', ← hq]
        rw [dif_neg (by omega), dif_neg (by omega), dif_pos (by omega), dif_pos (by omega), dif_neg h1, dif_neg h1,
          if_neg h2, if_neg h2, dif_pos (by omega), dif_pos (by omega),
          atL _ _ (show 576 + q = 512 + k by omega), atL _ _ (show 512 + q = 512 + (k + 128 - 64) % 128 by omega)]
      · rw [dif_neg (by omega), dif_neg (by omega), dif_neg (by omega), dif_neg h1, dif_neg h1, if_neg h2, if_neg h2,
          dif_neg h3, dif_neg h3]
        simp only [mul_zero, add_zero]

/-- The reference's entry in the first 512 columns. -/
theorem goal_low (lat : FVec Ideal S10496x640 .f32) (g : FVec Ideal S512 .f32) (pos : FVec Ideal S10496 .f32) (R : Fin 10496)
    (e : Fin 640) (k : Fin 512) (he : e.val = k.val) : goal lat g pos (ix2 R e)
    = (lat (ix2 R e) * Ideal.rsqrt (Ideal.div (∑ x : Fin 512, (lat (ix2 R ⟨x.val, by omega⟩) * lat (ix2 R ⟨x.val, by omega⟩) : EReal))
        (Ideal.ofBits .f32 1140850688#32) + Ideal.ofBits .f32 897988541#32) * g (ix1 k) : EReal) := by
  pointwise [goal, halves]
  rw [dif_pos (by omega)]
  rw [show (⟨e.val, by omega⟩ : Fin 512) = k from Fin.ext he]

/-- The reference's entry in the last 128 columns, as the kernel spells it. -/
theorem goal_high (lat : FVec Ideal S10496x640 .f32) (g : FVec Ideal S512 .f32) (pos : FVec Ideal S10496 .f32) (R : Fin 10496)
    (e : Fin 640) (k : Fin 128) (he : e.val = 512 + k.val) : goal lat g pos (ix2 R e)
    = (lat (ix2 R ⟨512 + k.val, by omega⟩) * cosTable (angle pos) (ix2 R k)
      + lat (ix2 R ⟨512 + (k.val + 128 - 64) % 128, by omega⟩) * sinTable (angle pos) (ix2 R k) : EReal) := by
  rw [cosTable_apply, sinTable_apply]
  pointwise [goal, halves]
  exact lanes (fun i => lat (ix2 R i)) (fun i => Ideal.cos (angle pos (ix2 R i))) (fun i => Ideal.sin (angle pos (ix2 R i))) k.val e.val _ k.isLt he

theorem pay1_apply (x : FVec Ideal S256x512 .f32) (g : FVec Ideal S1x512 .f32) (r : Fin 256) (e : Fin 512) :
    k0_pay1 (F := Ideal) x g (ix2 r e)
    = (x (ix2 r e) * Ideal.rsqrt (Ideal.div (∑ i : Fin 512, (x (ix2 r i) * x (ix2 r i) : EReal))
        (Ideal.ofBits .f32 1140850688#32) + Ideal.ofBits .f32 897988541#32) * g (ix2 0 e) : EReal) := by
  pointwise [k0_pay1]

theorem pay2_apply (x y z : FVec Ideal S256x128 .f32) (r : Fin 256) (e : Fin 128) :
    k0_pay2 (F := Ideal) x y z (ix2 r e)
    = (x (ix2 r e) * y (ix2 r e) + x (ix2 r ⟨(e.val + 128 - 64) % 128, by omega⟩) * z (ix2 r e) : EReal) := by
  pointwise [k0_pay2]

variable (m : (ℓ : Loc nD τ sig) → Buf (Elt Ideal) ℓ)

theorem V_cos (c : Dev nD) : V m c main_v19 = cosTable (angle (m ((c : Thread nD τ).loc main_arg2))) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results
  rfl

theorem V_sin (c : Dev nD) : V m c main_v26 = sinTable (angle (m ((c : Thread nD τ).loc main_arg2))) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results
  rfl

theorem V_gain (c : Dev nD) (k : Fin 512) : V m c main_v27 (ix2 0 k) = m ((c : Thread nD τ).loc main_arg1) (ix1 k) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results
  pointwise

/-! The blocks as the launch finds them. -/

theorem read_latent (c : Dev nD) (t : Fin cfg0.N) (r : Fin 256) (e : Fin 640) (R : Fin 10496) (h : R.val = 256 * t.val + r.val) :
    iblk m c 0 t (ix2 r e) = m ((c : Thread nD τ).loc main_arg0) (ix2 R e) := by
  rw [← V_main_arg0 m c]
  blk_simp [iblk]
  blk_ext [places t]

theorem read_gain (c : Dev nD) (t : Fin cfg0.N) (k : Fin 512) :
    iblk m c 1 t (ix2 0 k) = m ((c : Thread nD τ).loc main_arg1) (ix1 k) := by
  rw [← V_gain m c]
  blk_simp [iblk]
  blk_ext [places t]

theorem read_cos (c : Dev nD) (t : Fin cfg0.N) (r : Fin 256) (k : Fin 128) (R : Fin 10496) (h : R.val = 256 * t.val + r.val) :
    iblk m c 2 t (ix2 r k) = cosTable (angle (m ((c : Thread nD τ).loc main_arg2))) (ix2 R k) := by
  rw [← V_cos]
  blk_simp [iblk]
  blk_ext [places t]

theorem read_sin (c : Dev nD) (t : Fin cfg0.N) (r : Fin 256) (k : Fin 128) (R : Fin 10496) (h : R.val = 256 * t.val + r.val) :
    iblk m c 3 t (ix2 r k) = sinTable (angle (m ((c : Thread nD τ).loc main_arg2))) (ix2 R k) := by
  rw [← V_sin]
  blk_simp [iblk]
  blk_ext [places t]

/-- The entry a point stores at block index `y` is the reference's entry where `y` sits in the array. -/
theorem entry (c : Dev nD) (t : Fin cfg0.N) (y : S256x640.Idx) (j : S10496x640.Idx)
    (h0 : (j 0 : ℕ) = 256 * t.val + y 0) (h1 : (j 1 : ℕ) = y 1) : outsAt0 m c t y
    = goal (m ((c : Thread nD τ).loc main_arg0)) (m ((c : Thread nD τ).loc main_arg1)) (m ((c : Thread nD τ).loc main_arg2)) j := by
  unfold Gen.outsAt0
  frame_out
  idx_vars j
  canon_tiles x h using View.cover_of_tiledBy _ ![256, 128] (by sl_kernel_rfl) y <;> idx_vars x
  · rw [goal_high _ _ _ j0 j1 x1 (by omega), pay2_apply, read_cos m c t x0 x1 j0 (by omega), read_sin m c t x0 x1 j0 (by omega)]
    pointwise
    rw [read_latent m c t x0 _ j0 (by omega), read_latent m c t x0 _ j0 (by omega)]
  · rw [goal_low _ _ _ j0 j1 x1 (by omega), pay1_apply, read_gain]
    pointwise
    simp only [fun e => read_latent m c t x0 e j0 (by omega)]
    rw [show j1 = ⟨x1.val, by omega⟩ from Fin.ext (by dsimp only; omega)]

theorem final (c : Dev nD) : (dats m 0 c).arrAt 4 cfg0.N
    = goal (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  refine entry m c t y _ ?_ ?_ <;> blk_simp [places t] <;> try omega

end Cert.Proof.KVPost

end
-- ==== Proof.KS.lean ====
/-
  The keys of the sample attention: for each of the 36864 latent rows and each of the 32 heads, 128 dot products with
  the head's weight, transposed. The grid walks 2 row blocks by 18 column blocks; every point's product is whole.

  A column block takes 512 of the transposed latents' 640 rows, so its window may be cut in form; no point cuts it.
-/
module

public import proofs.«01_k».proof.Proof.Gen.KSIdeal.Value
public import proofs.«01_k».proof.Proof.Gen.KSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.KS

open Cert.KSIdeal Cert.KSIdeal.Gen

/-- The reference's result as a function of the two arguments. -/
def goal (lat : FVec Ideal S36864x640 .bf16) (w : FVec Ideal S512x32x128 .f32) : FVec Ideal S4096x36864 .bf16 :=
  truncf .bf16 (shapeCast _ (Host.dotGeneral Cert.KSRefIdeal.dot_S512x32x128_S36864x512_S32x128x36864_0_1_12_0_n_n none w (extf .f32 (extractStridedSlice Cert.KSRefIdeal.S36864x512 ![0, 0] lat Cert.KSRefIdeal.Gen.slices_S36864x640_S36864x512_0_0) Cert.KSRefIdeal.Gen.bitsLt_bf16_f32)) Cert.KSRefIdeal.Gen.shapeCasts_S32x128x36864_S4096x36864) Cert.KSRefIdeal.Gen.bitsLt_bf16_f32

/-- Where the blocks of point `t` sit. -/
theorem places : ∀ t : Fin cfg0.N, win0_0.index t = ![t.val / 18, 0] ∧ win0_1.index t = ![0, t.val % 18]
    ∧ win0_2.index t = ![t.val / 18, t.val % 18] :=
  (by decide +kernel : ∀ t : Fin grid0.N, _)

theorem goal_apply (lat : FVec Ideal S36864x640 .bf16) (w : FVec Ideal S512x32x128 .f32) (C : Fin 4096) (K : Fin 36864) :
    goal lat w (ix2 C K) = ∑ d : Fin 512, (w (ix3 d ⟨C.val / 128, by omega⟩ ⟨C.val % 128, by omega⟩) * lat (ix2 K ⟨d.val, by omega⟩) : EReal) := by
  pointwise [goal]

/-- The weight as the host lays it out. -/
def weightT (w : FVec Ideal S512x32x128 .f32) : FVec Ideal S4096x512 .bf16 :=
  truncf .bf16 (shapeCast S4096x512 (transpose S32x128x512 [1, 2, 0] w transposes_S512x32x128_S32x128x512_1_2_0)
    shapeCasts_S32x128x512_S4096x512) bitsLt_bf16_f32

theorem weightT_apply (w : FVec Ideal S512x32x128 .f32) (C : Fin 4096) (d : Fin 512) :
    weightT w (ix2 C d) = w (ix3 d ⟨C.val / 128, by omega⟩ ⟨C.val % 128, by omega⟩) := by
  pointwise [weightT]

/-- The latents as the host lays them out. -/
def latentsT (lat : FVec Ideal S36864x640 .bf16) : FVec Ideal S640x36864 .bf16 :=
  transpose S640x36864 [1, 0] lat transposes_S36864x640_S640x36864_1_0

theorem latentsT_apply (lat : FVec Ideal S36864x640 .bf16) (d : Fin 640) (K : Fin 36864) :
    latentsT lat (ix2 d K) = lat (ix2 K d) := by
  pointwise [latentsT]

variable (m : (ℓ : Loc nD τ sig) → Buf (Elt Ideal) ℓ)

theorem V_weight (c : Dev nD) : V m c main_v2 = weightT (m ((c : Thread nD τ).loc main_arg1)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results
  rfl

theorem V_latents (c : Dev nD) : V m c main_v3 = latentsT (m ((c : Thread nD τ).loc main_arg0)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results
  rfl

/-! The blocks as the launch finds them. -/

theorem read_weight (c : Dev nD) (t : Fin cfg0.N) (r : Fin 2048) (d : Fin 512) (C : Fin 4096) (h : C.val = 2048 * (t.val / 18) + r.val) :
    iblk m c 0 t (ix2 r d) = m ((c : Thread nD τ).loc main_arg1) (ix3 d ⟨C.val / 128, by omega⟩ ⟨C.val % 128, by omega⟩) := by
  rw [← weightT_apply (m ((c : Thread nD τ).loc main_arg1)) C d, ← V_weight]
  blk_simp [iblk]
  blk_ext [places t]

theorem read_latents (c : Dev nD) (t : Fin cfg0.N) (d : Fin 512) (k : Fin 2048) (K : Fin 36864) (h : K.val = 2048 * (t.val % 18) + k.val) :
    X0_1 m c t (ix2 d k) = m ((c : Thread nD τ).loc main_arg0) (ix2 K ⟨d.val, by omega⟩) := by
  unfold X0_1 Pipeline.Window.fill
  rw [dif_pos (moved0_1 t _)]
  rw [← latentsT_apply (m ((c : Thread nD τ).loc main_arg0)) ⟨d.val, by omega⟩ K, ← V_latents]
  blk_simp [iblk]
  blk_ext [places t]

/-- The entry a point stores at block index `y` is the reference's entry where `y` sits in the array. -/
theorem entry (c : Dev nD) (t : Fin cfg0.N) (y : S2048x2048.Idx) (j : S4096x36864.Idx)
    (h0 : (j 0 : ℕ) = 2048 * (t.val / 18) + y 0) (h1 : (j 1 : ℕ) = 2048 * (t.val % 18) + y 1) :
    k0_pay1 (F := Ideal) (X0_1 m c t) (iblk m c 0 t) y
    = goal (m ((c : Thread nD τ).loc main_arg0)) (m ((c : Thread nD τ).loc main_arg1)) j := by
  idx_vars y
  idx_vars j
  rw [goal_apply]
  pointwise [k0_pay1]
  simp only [fun d => read_weight m c t y0 d j0 h0, fun d => read_latents m c t d y1 j1 h1]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  frame_out
  refine entry m c t y _ ?_ ?_ <;> blk_simp [places t] <;> try omega

end Cert.Proof.KS

end
-- ==== Proof.VS.lean ====
/-
  The values of the sample attention: for each of the 36864 latent rows and each of the 32 heads, 128 dot products with
  the head's weight. The grid walks 18 row blocks by 2 column blocks; every point's product is whole.

  A row block takes 512 of the latents' 640 columns, so its window may be cut in form; no point cuts it.
-/
module

public import proofs.«01_k».proof.Proof.Gen.VSIdeal.Value
public import proofs.«01_k».proof.Proof.Gen.VSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.VS

open Cert.VSIdeal Cert.VSIdeal.Gen

/-- The reference's result as a function of the two arguments. -/
def goal (lat : FVec Ideal S36864x640 .bf16) (w : FVec Ideal S512x32x128 .f32) : FVec Ideal S36864x4096 .bf16 :=
  truncf .bf16 (shapeCast _ (Host.dotGeneral Cert.VSRefIdeal.dot_S36864x512_S512x32x128_S36864x32x128_1_0_0_12_n_n none (extf .f32 (extractStridedSlice Cert.VSRefIdeal.S36864x512 ![0, 0] lat Cert.VSRefIdeal.Gen.slices_S36864x640_S36864x512_0_0) Cert.VSRefIdeal.Gen.bitsLt_bf16_f32) w) Cert.VSRefIdeal.Gen.shapeCasts_S36864x32x128_S36864x4096) Cert.VSRefIdeal.Gen.bitsLt_bf16_f32

/-- Where the blocks of point `t` sit. -/
theorem places : ∀ t : Fin cfg0.N, win0_0.index t = ![t.val / 2, 0] ∧ win0_1.index t = ![0, t.val % 2]
    ∧ win0_2.index t = ![t.val / 2, t.val % 2] :=
  (by decide +kernel : ∀ t : Fin grid0.N, _)

theorem goal_apply (lat : FVec Ideal S36864x640 .bf16) (w : FVec Ideal S512x32x128 .f32) (K : Fin 36864) (C : Fin 4096) :
    goal lat w (ix2 K C) = ∑ d : Fin 512, (lat (ix2 K ⟨d.val, by omega⟩) * w (ix3 d ⟨C.val / 128, by omega⟩ ⟨C.val % 128, by omega⟩) : EReal) := by
  pointwise [goal]

/-- The weight as the host lays it out. -/
def flat (w : FVec Ideal S512x32x128 .f32) : FVec Ideal S512x4096 .bf16 :=
  truncf .bf16 (shapeCast S512x4096 w shapeCasts_S512x32x128_S512x4096) bitsLt_bf16_f32

theorem flat_apply (w : FVec Ideal S512x32x128 .f32) (d : Fin 512) (C : Fin 4096) :
    flat w (ix2 d C) = w (ix3 d ⟨C.val / 128, by omega⟩ ⟨C.val % 128, by omega⟩) := by
  pointwise [flat]

variable (m : (ℓ : Loc nD τ sig) → Buf (Elt Ideal) ℓ)

theorem V_weight (c : Dev nD) : V m c main_v1 = flat (m ((c : Thread nD τ).loc main_arg1)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results
  rfl

/-! The blocks as the launch finds them. -/

theorem read_weight (c : Dev nD) (t : Fin cfg0.N) (d : Fin 512) (k : Fin 2048) (C : Fin 4096) (h : C.val = 2048 * (t.val % 2) + k.val) :
    iblk m c 1 t (ix2 d k) = m ((c : Thread nD τ).loc main_arg1) (ix3 d ⟨C.val / 128, by omega⟩ ⟨C.val % 128, by omega⟩) := by
  rw [← flat_apply (m ((c : Thread nD τ).loc main_arg1)) d C, ← V_weight]
  blk_simp [iblk]
  blk_ext [places t]

theorem read_latents (c : Dev nD) (t : Fin cfg0.N) (r : Fin 2048) (d : Fin 512) (K : Fin 36864) (h : K.val = 2048 * (t.val / 2) + r.val) :
    X0_0 m c t (ix2 r d) = m ((c : Thread nD τ).loc main_arg0) (ix2 K ⟨d.val, by omega⟩) := by
  unfold X0_0 Pipeline.Window.fill
  rw [dif_pos (moved0_0 t _)]
  blk_simp [iblk]
  entry_read
  blk_ext [places t]

/-- The entry a point stores at block index `y` is the reference's entry where `y` sits in the array. -/
theorem entry (c : Dev nD) (t : Fin cfg0.N) (y : S2048x2048.Idx) (j : S36864x4096.Idx)
    (h0 : (j 0 : ℕ) = 2048 * (t.val / 2) + y 0) (h1 : (j 1 : ℕ) = 2048 * (t.val % 2) + y 1) :
    k0_pay1 (F := Ideal) (iblk m c 1 t) (X0_0 m c t) y
    = goal (m ((c : Thread nD τ).loc main_arg0)) (m ((c : Thread nD τ).loc main_arg1)) j := by
  idx_vars y
  idx_vars j
  rw [goal_apply]
  pointwise [k0_pay1]
  simp only [fun d => read_weight m c t d y1 j1 h1, fun d => read_latents m c t y0 d j0 h0]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  frame_out
  refine entry m c t y _ ?_ ?_ <;> blk_simp [places t] <;> try omega

end Cert.Proof.VS

end
-- ==== Proof.Lanes.lean ====
/-
  A product over the 640 columns of the latents with a weight that only picks lanes from the last 128.
-/
module

public import Idealize.ShloMosaic.Lib.Pointwise

@[expose] public section

noncomputable section

namespace Cert.Proof.Lanes

/-- The 512 columns of a head's latents and the 128 beside them. -/
theorem split (f : Fin 640 → EReal) :
    ∑ d, f d = ∑ d : Fin 512, f ⟨d.val, by omega⟩ + ∑ l : Fin 128, f ⟨512 + l.val, by omega⟩ :=
  Fin.sum_univ_add (a := 512) (b := 128) f

/-- A sum that picks one lane, or none. -/
theorem one (g : Fin 128 → EReal) (a : Fin 128) (p : Prop) [Decidable p] :
    ∑ l : Fin 128, (if l = a ∧ p then (1 : EReal) else 0) * g l = if p then g a else 0 := by
  by_cases hp : p <;> simp [hp]

end Cert.Proof.Lanes

end
-- ==== Proof.KP.lean ====
/-
  The keys of the prompt attention: for each of the 32 heads, 128 dot products with the head's weight, then the 128
  rotary keys all heads share, without the one lane that holds the values' one.

  The kernel is handed the weight with columns of an identity beside each head's, so that one product yields both.
-/
module

public import proofs.«01_k».proof.Proof.Gen.KPIdeal.Value
public import proofs.«01_k».proof.Proof.Gen.KPRefIdeal.Run
public import Idealize.ShloMosaic.Lib.Pipeline.ValueKit
public import Idealize.ShloMosaic.Lib.Pointwise
public import proofs.«01_k».proof.Proof.Lanes

@[expose] public section

set_option maxRecDepth 16384

noncomputable section

open Idealize.ShloMosaic Idealize.ShloMosaic.TcCoe Idealize.SL.Sem
open Idealize.ShloMosaic.Pipeline (Dat)

namespace Cert.Proof.KP

open Cert.KPIdeal Cert.KPIdeal.Gen

/-- The reference's result as a function of the two arguments. -/
def goal (lat : FVec Ideal S9216x640 .bf16) (w : FVec Ideal S512x32x128 .f32) : FVec Ideal S8192x9216 .bf16 :=
  truncf .bf16 (shapeCast _ (concatenate Cert.KPRefIdeal.S32x256x9216 1 [⟨Cert.KPRefIdeal.S32x128x9216, (Host.dotGeneral Cert.KPRefIdeal.dot_S512x32x128_S9216x512_S32x128x9216_0_1_12_0_n_n none w (extf .f32 (extractStridedSlice Cert.KPRefIdeal.S9216x512 ![0, 0] lat Cert.KPRefIdeal.Gen.slices_S9216x640_S9216x512_0_0) Cert.KPRefIdeal.Gen.bitsLt_bf16_f32))⟩, ⟨Cert.KPRefIdeal.S32x128x9216, (broadcastInDim Cert.KPRefIdeal.S32x128x9216 ![0, 1, 2] Cert.KPRefIdeal.Gen.bcast_S1x128x9216_S32x128x9216_0_1_2 (broadcastInDim Cert.KPRefIdeal.S1x128x9216 ![1, 2] Cert.KPRefIdeal.Gen.bcast_S128x9216_S1x128x9216_1_2 (transpose Cert.KPRefIdeal.S128x9216 [1, 0] ((concatenate Cert.KPRefIdeal.S9216x128 1 [⟨Cert.KPRefIdeal.S9216x32, ((extf .f32 (extractStridedSlice Cert.KPRefIdeal.S9216x32 ![0, 512] lat Cert.KPRefIdeal.Gen.slices_S9216x640_S9216x32_0_512) Cert.KPRefIdeal.Gen.bitsLt_bf16_f32))⟩, ⟨Cert.KPRefIdeal.S9216x1, ((broadcastInDim Cert.KPRefIdeal.S9216x1 ![] Cert.KPRefIdeal.Gen.bcast_S_S9216x1 (constant Cert.KPRefIdeal.S_ .f32 0x00000000#32)))⟩, ⟨Cert.KPRefIdeal.S9216x95, ((extf .f32 (extractStridedSlice Cert.KPRefIdeal.S9216x95 ![0, 545] lat Cert.KPRefIdeal.Gen.slices_S9216x640_S9216x95_0_545) Cert.KPRefIdeal.Gen.bitsLt_bf16_f32))⟩] Cert.KPRefIdeal.Gen.concatenates_S9216x32_S9216x1_S9216x95_S9216x128_d1)) Cert.KPRefIdeal.Gen.transposes_S9216x128_S128x9216_1_0)))⟩] Cert.KPRefIdeal.Gen.concatenates_S32x128x9216_S32x128x9216_S32x256x9216_d1) Cert.KPRefIdeal.Gen.shapeCasts_S32x256x9216_S8192x9216) Cert.KPRefIdeal.Gen.bitsLt_bf16_f32

/-- Where the blocks of point `t` sit. -/
theorem places : ∀ t : Fin cfg0.N, win0_0.index t = ![t.val / 6, 0] ∧ win0_1.index t = ![0, t.val % 6]
    ∧ win0_2.index t = ![t.val / 6, t.val % 6] :=
  (by decide +kernel : ∀ t : Fin grid0.N, _)

/-- The identity, without lane 32. -/
def eye : FVec Ideal S128x128 .f32 :=
  select (andi
      (cmpi .eq (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0))))
      (broadcastInDim S128x128 ![0, 1] bcast_S128x1_S128x128_0_1 (cmpi .ne (broadcastInDim S128x1 ![0] bcast_S128_S128x1_0 (iotaInDim S128 32 0))
        (broadcastInDim S128x1 ![] bcast_S_S128x1 (constantI S_ 32 32#32)))))
    (broadcastInDim S128x128 ![] bcast_S_S128x128 (constant S_ .f32 0x3F800000#32))
    (broadcastInDim S128x128 ![] bcast_S_S128x128 (constant S_ .f32 0x00000000#32))

/-- The weight as the host lays it out: beside a head's 128 columns 128 of the identity. -/
def beside (w : FVec Ideal S512x32x128 .f32) : FVec Ideal S640x32x256 .f32 :=
  concatenate S640x32x256 0 [
    ⟨S512x32x256, concatenate S512x32x256 2 [⟨S512x32x128, w⟩,
      ⟨S512x32x128, broadcastInDim S512x32x128 ![] bcast_S_S512x32x128 (constant S_ .f32 0x00000000#32)⟩] concatenates_S512x32x128_S512x32x128_S512x32x256_d2⟩,
    ⟨S128x32x256, concatenate S128x32x256 2 [
      ⟨S128x32x128, broadcastInDim S128x32x128 ![] bcast_S_S128x32x128 (constant S_ .f32 0x00000000#32)⟩,
      ⟨S128x32x128, broadcastInDim S128x32x128 ![0, 1, 2] bcast_S128x1x128_S128x32x128_0_1_2 (broadcastInDim S128x1x128 ![0, 2] bcast_S128x128_S128x1x128_0_2 eye)⟩]
      concatenates_S128x32x128_S128x32x128_S128x32x256_d2⟩] concatenates_S512x32x256_S128x32x256_S640x32x256_d0

def laid (w : FVec Ideal S512x32x128 .f32) : FVec Ideal S8192x640 .bf16 :=
  transpose S8192x640 [1, 0] (truncf .bf16 (shapeCast S640x8192 (beside w) shapeCasts_S640x32x256_S640x8192) bitsLt_bf16_f32)
    transposes_S640x8192_S8192x640_1_0

theorem eye_lanes : ∀ a b : Fin 128, IntOp.andi (IntOp.cmpi .eq (BitVec.ofNat 32 a.val) (BitVec.ofNat 32 b.val))
    (IntOp.cmpi .ne (BitVec.ofNat 32 a.val) 32#32) = if a = b ∧ b.val ≠ 32 then 1#1 else 0#1 := by
  decide +kernel

theorem eye_apply (a b : Fin 128) : eye (ix2 a b) = if a = b ∧ b.val ≠ 32 then (1 : EReal) else 0 := by
  pointwise [eye]
  exact (congrArg (fun i => Scalar.select i (1 : EReal) 0) (eye_lanes a b)).trans (by split_ifs <;> rfl)

theorem beside_apply (w : FVec Ideal S512x32x128 .f32) (d : Fin 640) (h : Fin 32) (e : Fin 256) : beside w (ix3 d h e)
    = if hd : d.val < 512 then if he : e.val < 128 then w (ix3 ⟨d.val, hd⟩ h ⟨e.val, he⟩) else (0 : EReal)
      else if he : e.val < 128 then (0 : EReal) else eye (ix2 ⟨d.val - 512, by omega⟩ ⟨e.val - 128, by omega⟩) := by
  pointwise [beside]

theorem laid_apply (w : FVec Ideal S512x32x128 .f32) (C : Fin 8192) (d : Fin 640) :
    laid w (ix2 C d) = beside w (ix3 d ⟨C.val / 256, by omega⟩ ⟨C.val % 256, by omega⟩) := by
  pointwise [laid]

/-- The product over the 640 columns is a head's keys in its first 128 lanes, a rotary key in the others. -/
theorem product (lat : FVec Ideal S9216x640 .bf16) (w : FVec Ideal S512x32x128 .f32) (h : Fin 32) (e : Fin 256) (K : Fin 9216) :
    ∑ d : Fin 640, (beside w (ix3 d h e) * lat (ix2 K d) : EReal)
    = if he : e.val < 128 then ∑ d : Fin 512, (w (ix3 d h ⟨e.val, he⟩) * lat (ix2 K ⟨d.val, by omega⟩) : EReal)
      else if e.val - 128 ≠ 32 then lat (ix2 K ⟨512 + (e.val - 128), by omega⟩) else (0 : EReal) := by
  rw [Lanes.split]
  simp only [beside_apply, Fin.is_lt, dif_pos, Nat.not_lt.2 (Nat.le_add_right _ _), dif_neg, not_false_eq_true, Nat.add_sub_cancel_left]
  by_cases he : e.val < 128
  · simp [he]
  · simp only [he, dif_neg, not_false_eq_true, eye_apply, zero_mul, Finset.sum_const_zero, zero_add]
    exact Lanes.one (fun l => lat (ix2 K ⟨512 + l.val, by omega⟩)) ⟨e.val - 128, by omega⟩ _

/-- Two spellings of the lanes beside a head's keys. -/
theorem lanes (f : Fin 640 → EReal) (e : ℕ) (he : e < 256) (x : e < 128 → EReal) :
    (if h : e < 128 then x h
      else if h : e - 128 < 32 then f ⟨512 + (e - 128), by omega⟩
      else if h : e - 128 - 32 < 1 then 0 else f ⟨545 + (e - 128 - 32 - 1), by omega⟩)
    = if h : e < 128 then x h else if e - 128 ≠ 32 then f ⟨512 + (e - 128), by omega⟩ else 0 := by
  have at_lane : ∀ {a b : ℕ} (ha : a < 640) (hb : b < 640), a = b → f ⟨a, ha⟩ = f ⟨b, hb⟩ := by
    intro a b ha hb h
    subst h
    rfl
  split_ifs <;> first | rfl | (exfalso; omega) | exact at_lane _ _ (by omega)

theorem goal_apply (lat : FVec Ideal S9216x640 .bf16) (w : FVec Ideal S512x32x128 .f32) (C : Fin 8192) (K : Fin 9216) :
    goal lat w (ix2 C K) = ∑ d : Fin 640, (laid w (ix2 C d) * lat (ix2 K d) : EReal) := by
  simp only [laid_apply]
  rw [product]
  pointwise [goal]
  exact lanes (fun k => lat (ix2 K k)) (C.val % 256) (Nat.mod_lt _ (by decide)) _

/-- The latents as the host lays them out. -/
def latentsT (lat : FVec Ideal S9216x640 .bf16) : FVec Ideal S640x9216 .bf16 :=
  transpose S640x9216 [1, 0] lat transposes_S9216x640_S640x9216_1_0

theorem latentsT_apply (lat : FVec Ideal S9216x640 .bf16) (d : Fin 640) (K : Fin 9216) :
    latentsT lat (ix2 d K) = lat (ix2 K d) := by
  pointwise [latentsT]

variable (m : (ℓ : Loc nD τ sig) → Buf (Elt Ideal) ℓ)

theorem V_weight (c : Dev nD) : V m c main_v22 = laid (m ((c : Thread nD τ).loc main_arg1)) := by
  unfold V
  simp only [hostOps0, hostOps0_1, hostOps0_2, List.flatten_cons, List.flatten_nil, List.append_nil, List.cons_append, List.nil_append,
    StableHlo.TRef.nullary, StableHlo.TRef.binary, StableHlo.TRef.unary, StableHlo.TRef.ternary, StableHlo.TRef.toBuf, StableHlo.TRef.ofBuf, cast_eq]
  after_results
  rfl

theorem V_latents (c : Dev nD) : V m c main_v23 = latentsT (m ((c : Thread nD τ).loc main_arg0)) := by
  unfold V
  simp only [hostOps0, hostOps0_1, hostOps0_2, List.flatten_cons, List.flatten_nil, List.append_nil, List.cons_append, List.nil_append,
    StableHlo.TRef.nullary, StableHlo.TRef.binary, StableHlo.TRef.unary, StableHlo.TRef.ternary, StableHlo.TRef.toBuf, StableHlo.TRef.ofBuf, cast_eq]
  after_results
  rfl

/-! The blocks as the launch finds them. -/

theorem read_weight (c : Dev nD) (t : Fin cfg0.N) (r : Fin 2048) (d : Fin 640) (C : Fin 8192) (h : C.val = 2048 * (t.val / 6) + r.val) :
    iblk m c 0 t (ix2 r d) = laid (m ((c : Thread nD τ).loc main_arg1)) (ix2 C d) := by
  rw [← V_weight]
  blk_simp [iblk]
  blk_ext [places t]

theorem read_latents (c : Dev nD) (t : Fin cfg0.N) (d : Fin 640) (k : Fin 1536) (K : Fin 9216) (h : K.val = 1536 * (t.val % 6) + k.val) :
    iblk m c 1 t (ix2 d k) = m ((c : Thread nD τ).loc main_arg0) (ix2 K d) := by
  rw [← latentsT_apply (m ((c : Thread nD τ).loc main_arg0)) d K, ← V_latents]
  blk_simp [iblk]
  blk_ext [places t]

/-- The entry a point stores at block index `y` is the reference's entry where `y` sits in the array. -/
theorem entry (c : Dev nD) (t : Fin cfg0.N) (y : S2048x1536.Idx) (j : S8192x9216.Idx)
    (h0 : (j 0 : ℕ) = 2048 * (t.val / 6) + y 0) (h1 : (j 1 : ℕ) = 1536 * (t.val % 6) + y 1) :
    k0_pay1 (F := Ideal) (iblk m c 1 t) (iblk m c 0 t) y
    = goal (m ((c : Thread nD τ).loc main_arg0)) (m ((c : Thread nD τ).loc main_arg1)) j := by
  idx_vars y
  idx_vars j
  rw [goal_apply]
  pointwise [k0_pay1]
  simp only [fun d => read_weight m c t y0 d j0 h0, fun d => read_latents m c t d y1 j1 h1]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  refine entry m c t y _ ?_ ?_ <;> blk_simp [places t] <;> try omega

end Cert.Proof.KP

end
-- ==== Proof.VP.lean ====
/-
  The values of the prompt attention: for each of the 32 heads, 128 dot products with the head's weight, then the
  latents' one in the first of 128 lanes that are otherwise zero.

  The kernel is handed the weight with columns beside each head's that pick the one, so that one product yields both.
-/
module

public import proofs.«01_k».proof.Proof.Gen.VPIdeal.Value
public import proofs.«01_k».proof.Proof.Gen.VPRefIdeal.Run
public import Idealize.ShloMosaic.Lib.Pipeline.ValueKit
public import Idealize.ShloMosaic.Lib.Pointwise
public import proofs.«01_k».proof.Proof.Lanes

@[expose] public section

set_option maxRecDepth 16384

noncomputable section

open Idealize.ShloMosaic Idealize.ShloMosaic.TcCoe Idealize.SL.Sem
open Idealize.ShloMosaic.Pipeline (Dat)

namespace Cert.Proof.VP

open Cert.VPIdeal Cert.VPIdeal.Gen

/-- The reference's result as a function of the two arguments. -/
def goal (lat : FVec Ideal S9216x640 .bf16) (w : FVec Ideal S512x32x128 .f32) : FVec Ideal S9216x8192 .bf16 :=
  truncf .bf16 (shapeCast _ ((concatenate Cert.VPRefIdeal.S9216x32x256 2 [⟨Cert.VPRefIdeal.S9216x32x128, ((Host.dotGeneral Cert.VPRefIdeal.dot_S9216x512_S512x32x128_S9216x32x128_1_0_0_12_n_n none (extf .f32 (extractStridedSlice Cert.VPRefIdeal.S9216x512 ![0, 0] lat Cert.VPRefIdeal.Gen.slices_S9216x640_S9216x512_0_0) Cert.VPRefIdeal.Gen.bitsLt_bf16_f32) w))⟩, ⟨Cert.VPRefIdeal.S9216x32x1, ((broadcastInDim Cert.VPRefIdeal.S9216x32x1 ![0, 1, 2] Cert.VPRefIdeal.Gen.bcast_S9216x1x1_S9216x32x1_0_1_2 (broadcastInDim Cert.VPRefIdeal.S9216x1x1 ![0] Cert.VPRefIdeal.Gen.bcast_S9216_S9216x1x1_0 (extf .f32 (shapeCast _ (extractStridedSlice Cert.VPRefIdeal.S9216x1 ![0, 544] lat Cert.VPRefIdeal.Gen.slices_S9216x640_S9216x1_0_544) Cert.VPRefIdeal.Gen.shapeCasts_S9216x1_S9216) Cert.VPRefIdeal.Gen.bitsLt_bf16_f32))))⟩, ⟨Cert.VPRefIdeal.S9216x32x127, ((broadcastInDim Cert.VPRefIdeal.S9216x32x127 ![] Cert.VPRefIdeal.Gen.bcast_S_S9216x32x127 (constant Cert.VPRefIdeal.S_ .f32 0x00000000#32)))⟩] Cert.VPRefIdeal.Gen.concatenates_S9216x32x128_S9216x32x1_S9216x32x127_S9216x32x256_d2)) Cert.VPRefIdeal.Gen.shapeCasts_S9216x32x256_S9216x8192) Cert.VPRefIdeal.Gen.bitsLt_bf16_f32

/-- Where the blocks of point `t` sit. -/
theorem places : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The columns that pick lane 32 into the first. -/
def pick : FVec Ideal S128x128 .f32 :=
  select (andi
      (broadcastInDim S128x128 ![0, 1] bcast_S128x1_S128x128_0_1 (cmpi .eq (broadcastInDim S128x1 ![0] bcast_S128_S128x1_0 (iotaInDim S128 32 0))
        (broadcastInDim S128x1 ![] bcast_S_S128x1 (constantI S_ 32 32#32))))
      (broadcastInDim S128x128 ![0, 1] bcast_S1x128_S128x128_0_1 (cmpi .eq (broadcastInDim S1x128 ![1] bcast_S128_S1x128_1 (iotaInDim S128 32 0))
        (broadcastInDim S1x128 ![] bcast_S_S1x128 (constantI S_ 32 0#32)))))
    (broadcastInDim S128x128 ![] bcast_S_S128x128 (constant S_ .f32 0x3F800000#32))
    (broadcastInDim S128x128 ![] bcast_S_S128x128 (constant S_ .f32 0x00000000#32))

/-- The weight as the host lays it out: beside a head's 128 columns 128 that pick the one. -/
def beside (w : FVec Ideal S512x32x128 .f32) : FVec Ideal S640x32x256 .f32 :=
  concatenate S640x32x256 0 [
    ⟨S512x32x256, concatenate S512x32x256 2 [⟨S512x32x128, w⟩,
      ⟨S512x32x128, broadcastInDim S512x32x128 ![] bcast_S_S512x32x128 (constant S_ .f32 0x00000000#32)⟩] concatenates_S512x32x128_S512x32x128_S512x32x256_d2⟩,
    ⟨S128x32x256, concatenate S128x32x256 2 [
      ⟨S128x32x128, broadcastInDim S128x32x128 ![] bcast_S_S128x32x128 (constant S_ .f32 0x00000000#32)⟩,
      ⟨S128x32x128, broadcastInDim S128x32x128 ![0, 1, 2] bcast_S128x1x128_S128x32x128_0_1_2 (broadcastInDim S128x1x128 ![0, 2] bcast_S128x128_S128x1x128_0_2 pick)⟩]
      concatenates_S128x32x128_S128x32x128_S128x32x256_d2⟩] concatenates_S512x32x256_S128x32x256_S640x32x256_d0

def laid (w : FVec Ideal S512x32x128 .f32) : FVec Ideal S640x8192 .bf16 :=
  truncf .bf16 (shapeCast S640x8192 (beside w) shapeCasts_S640x32x256_S640x8192) bitsLt_bf16_f32

theorem pick_lanes : ∀ a b : Fin 128, IntOp.andi (IntOp.cmpi .eq (BitVec.ofNat 32 a.val) 32#32)
    (IntOp.cmpi .eq (BitVec.ofNat 32 b.val) 0#32) = if a = 32 ∧ b.val = 0 then 1#1 else 0#1 := by
  decide +kernel

theorem pick_apply (a b : Fin 128) : pick (ix2 a b) = if a = 32 ∧ b.val = 0 then (1 : EReal) else 0 := by
  pointwise [pick]
  exact (congrArg (fun i => Scalar.select i (1 : EReal) 0) (pick_lanes a b)).trans (by split_ifs <;> rfl)

theorem beside_apply (w : FVec Ideal S512x32x128 .f32) (d : Fin 640) (h : Fin 32) (e : Fin 256) : beside w (ix3 d h e)
    = if hd : d.val < 512 then if he : e.val < 128 then w (ix3 ⟨d.val, hd⟩ h ⟨e.val, he⟩) else (0 : EReal)
      else if he : e.val < 128 then (0 : EReal) else pick (ix2 ⟨d.val - 512, by omega⟩ ⟨e.val - 128, by omega⟩) := by
  pointwise [beside]

theorem laid_apply (w : FVec Ideal S512x32x128 .f32) (d : Fin 640) (C : Fin 8192) :
    laid w (ix2 d C) = beside w (ix3 d ⟨C.val / 256, by omega⟩ ⟨C.val % 256, by omega⟩) := by
  pointwise [laid]

/-- The product over the 640 columns is a head's values in its first 128 lanes, the one in the next and zeros after it. -/
theorem product (lat : FVec Ideal S9216x640 .bf16) (w : FVec Ideal S512x32x128 .f32) (h : Fin 32) (e : Fin 256) (K : Fin 9216) :
    ∑ d : Fin 640, (lat (ix2 K d) * beside w (ix3 d h e) : EReal)
    = if he : e.val < 128 then ∑ d : Fin 512, (lat (ix2 K ⟨d.val, by omega⟩) * w (ix3 d h ⟨e.val, he⟩) : EReal)
      else if e.val - 128 = 0 then lat (ix2 K 544) else (0 : EReal) := by
  rw [Lanes.split]
  simp only [beside_apply, Fin.is_lt, dif_pos, Nat.not_lt.2 (Nat.le_add_right _ _), dif_neg, not_false_eq_true, Nat.add_sub_cancel_left]
  by_cases he : e.val < 128
  · simp [he]
  · simp only [he, dif_neg, not_false_eq_true, pick_apply, mul_zero, zero_mul, Finset.sum_const_zero, zero_add, mul_comm (lat _)]
    exact Lanes.one (fun l => lat (ix2 K ⟨512 + l.val, by omega⟩)) 32 (e.val - 128 = 0)

theorem goal_apply (lat : FVec Ideal S9216x640 .bf16) (w : FVec Ideal S512x32x128 .f32) (K : Fin 9216) (C : Fin 8192) :
    goal lat w (ix2 K C) = ∑ d : Fin 640, (lat (ix2 K d) * laid w (ix2 d C) : EReal) := by
  simp only [laid_apply]
  rw [product]
  pointwise [goal]
  split_ifs <;> first | rfl | (exfalso; omega)

variable (m : (ℓ : Loc nD τ sig) → Buf (Elt Ideal) ℓ)

theorem V_weight (c : Dev nD) : V m c main_v20 = laid (m ((c : Thread nD τ).loc main_arg1)) := by
  unfold V
  simp only [hostOps0, hostOps0_1, hostOps0_2, List.flatten_cons, List.flatten_nil, List.append_nil, List.cons_append, List.nil_append,
    StableHlo.TRef.nullary, StableHlo.TRef.binary, StableHlo.TRef.unary, StableHlo.TRef.ternary, StableHlo.TRef.toBuf, StableHlo.TRef.ofBuf, cast_eq]
  after_results
  rfl

/-! The blocks as the launch finds them. -/

theorem read_weight (c : Dev nD) (t : Fin cfg0.N) (d : Fin 640) (k : Fin 2048) (C : Fin 8192) (h : C.val = 2048 * (t.val % 4) + k.val) :
    iblk m c 1 t (ix2 d k) = laid (m ((c : Thread nD τ).loc main_arg1)) (ix2 d C) := by
  rw [← V_weight]
  blk_simp [iblk]
  blk_ext [places t]

theorem read_latents (c : Dev nD) (t : Fin cfg0.N) (r : Fin 1536) (d : Fin 640) (K : Fin 9216) (h : K.val = 1536 * (t.val / 4) + r.val) :
    iblk m c 0 t (ix2 r d) = m ((c : Thread nD τ).loc main_arg0) (ix2 K d) := by
  blk_simp [iblk]
  entry_read
  blk_ext [places t]

/-- The entry a point stores at block index `y` is the reference's entry where `y` sits in the array. -/
theorem entry (c : Dev nD) (t : Fin cfg0.N) (y : S1536x2048.Idx) (j : S9216x8192.Idx)
    (h0 : (j 0 : ℕ) = 1536 * (t.val / 4) + y 0) (h1 : (j 1 : ℕ) = 2048 * (t.val % 4) + y 1) :
    k0_pay1 (F := Ideal) (iblk m c 1 t) (iblk m c 0 t) y
    = goal (m ((c : Thread nD τ).loc main_arg0)) (m ((c : Thread nD τ).loc main_arg1)) j := by
  idx_vars y
  idx_vars j
  rw [goal_apply]
  pointwise [k0_pay1]
  simp only [fun d => read_weight m c t d y1 j1 h1, fun d => read_latents m c t y0 d j0 h0]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  refine entry m c t y _ ?_ ?_ <;> blk_simp [places t] <;> try omega

end Cert.Proof.VP

end
-- ==== Proof.Gates.lean ====
/-
  The gated DeltaNet's gates: the last 64 columns of the input projection, 64 columns of zeros after them.

  The kernel is handed those columns of the weight, padded; every point multiplies a block of 256 rows by all of them.
-/
module

public import proofs.«01_k».proof.Proof.Gen.GatesIdeal.Value
public import proofs.«01_k».proof.Proof.Gen.GatesRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Gates

open Cert.GatesIdeal Cert.GatesIdeal.Gen

/-- The reference's result as a function of the two arguments. -/
def goal (x : FVec Ideal S10496x4096 .bf16) (w : FVec Ideal S2x4096x16448 .f32) : FVec Ideal S10496x128 .f32 :=
  concatenate Cert.GatesRefIdeal.S10496x128 1 [⟨Cert.GatesRefIdeal.S10496x64, (extractStridedSlice Cert.GatesRefIdeal.S10496x64 ![0, 16384] (Host.dotGeneral Cert.GatesRefIdeal.dot_S10496x4096_S4096x16448_S10496x16448_1_0_0_1_n_n none (extf .f32 x Cert.GatesRefIdeal.Gen.bitsLt_bf16_f32) (shapeCast _ (extractStridedSlice Cert.GatesRefIdeal.S1x4096x16448 ![0, 0, 0] w Cert.GatesRefIdeal.Gen.slices_S2x4096x16448_S1x4096x16448_0_0_0) Cert.GatesRefIdeal.Gen.shapeCasts_S1x4096x16448_S4096x16448)) Cert.GatesRefIdeal.Gen.slices_S10496x16448_S10496x64_0_16384)⟩, ⟨Cert.GatesRefIdeal.S10496x64, (broadcastInDim Cert.GatesRefIdeal.S10496x64 ![] Cert.GatesRefIdeal.Gen.bcast_S_S10496x64 (constant Cert.GatesRefIdeal.S_ .f32 0x00000000#32))⟩] Cert.GatesRefIdeal.Gen.concatenates_S10496x64_S10496x64_S10496x128_d1

/-- Where the blocks of point `t` sit. -/
theorem places : ∀ t : Fin cfg0.N, win0_0.index t = ![t.val, 0] ∧ win0_1.index t = ![0, 0] ∧ win0_2.index t = ![t.val, 0] :=
  (by decide +kernel : ∀ t : Fin grid0.N, _)

/-- The weight's columns as the host lays them out: the 32 of `a`, the 32 of `b`, then zeros. -/
def gate (w : FVec Ideal S2x4096x16448 .f32) : FVec Ideal S4096x64 .f32 :=
  shapeCast S4096x64 (extractStridedSlice S1x4096x64 ![0, 0, 16384] w slices_S2x4096x16448_S1x4096x64_0_0_16384) shapeCasts_S1x4096x64_S4096x64

def padded (w : FVec Ideal S2x4096x16448 .f32) : FVec Ideal S4096x128 .bf16 :=
  truncf .bf16 (shapeCast S4096x128 (concatenate S4096x1x128 2 [
    ⟨S4096x1x32, shapeCast S4096x1x32 (extractStridedSlice S4096x32 ![0, 0] (gate w) slices_S4096x64_S4096x32_0_0) shapeCasts_S4096x32_S4096x1x32⟩,
    ⟨S4096x1x32, shapeCast S4096x1x32 (extractStridedSlice S4096x32 ![0, 32] (gate w) slices_S4096x64_S4096x32_0_32) shapeCasts_S4096x32_S4096x1x32⟩,
    ⟨S4096x1x64, broadcastInDim S4096x1x64 ![] bcast_S_S4096x1x64 (constant S_ .f32 0x00000000#32)⟩]
    concatenates_S4096x1x32_S4096x1x32_S4096x1x64_S4096x1x128_d2) shapeCasts_S4096x1x128_S4096x128) bitsLt_bf16_f32

/-- Two spellings of the laid out columns. -/
theorem columns (f : Fin 64 → EReal) (e : ℕ) :
    (if h : e < 32 then f ⟨e, by omega⟩ else if h : e - 32 < 32 then f ⟨32 + (e - 32), by omega⟩ else 0)
    = if h : e < 64 then f ⟨e, h⟩ else 0 := by
  have at_column : ∀ {a b : ℕ} (ha : a < 64) (hb : b < 64), a = b → f ⟨a, ha⟩ = f ⟨b, hb⟩ := by
    intro a b ha hb h
    subst h
    rfl
  split_ifs <;> first | rfl | (exfalso; omega) | exact at_column _ _ (by omega)

theorem padded_apply (w : FVec Ideal S2x4096x16448 .f32) (d : Fin 4096) (e : Fin 128) : padded w (ix2 d e)
    = if h : e.val < 64 then w (ix3 0 d ⟨16384 + e.val, by omega⟩) else (0 : EReal) := by
  pointwise [padded, gate]
  exact columns (fun k => w (ix3 0 d ⟨16384 + k.val, by omega⟩)) e.val

/-- The reference's entry at column `e` is the same sum over the laid out columns. -/
theorem goal_apply (x : FVec Ideal S10496x4096 .bf16) (w : FVec Ideal S2x4096x16448 .f32) (R : Fin 10496) (e : Fin 128) :
    goal x w (ix2 R e) = ∑ d : Fin 4096, (x (ix2 R d) * padded w (ix2 d e) : EReal) := by
  simp only [padded_apply]
  pointwise [goal]
  split_ifs <;> first | rfl | simp

variable (m : (ℓ : Loc nD τ sig) → Buf (Elt Ideal) ℓ)

/-- What the launch finds is the weight so laid out. -/
theorem V_weight (c : Dev nD) : V m c main_v9 = padded (m ((c : Thread nD τ).loc main_arg1)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results
  rfl

theorem weight (c : Dev nD) (t : Fin cfg0.N) (d : Fin 4096) (e : Fin 128) : iblk m c 1 t (ix2 d e)
    = padded (m ((c : Thread nD τ).loc main_arg1)) (ix2 d e) := by
  rw [← V_weight]
  blk_simp [iblk]
  blk_ext [places t]

/-- The input's block as the launch finds it. -/
theorem input (c : Dev nD) (t : Fin cfg0.N) (r : Fin 256) (d : Fin 4096) (R : Fin 10496) (h : R.val = 256 * t.val + r.val) :
    iblk m c 0 t (ix2 r d) = m ((c : Thread nD τ).loc main_arg0) (ix2 R d) := by
  blk_simp [iblk]
  entry_read
  blk_ext [places t]

/-- The entry a point stores at block index `y` is the reference's entry where `y` sits in the array. -/
theorem entry (c : Dev nD) (t : Fin cfg0.N) (y : S256x128.Idx) (j : S10496x128.Idx)
    (h0 : (j 0 : ℕ) = 256 * t.val + y 0) (h1 : (j 1 : ℕ) = y 1) :
    k0_pay1 (F := Ideal) (iblk m c 1 t) (iblk m c 0 t) y
    = goal (m ((c : Thread nD τ).loc main_arg0)) (m ((c : Thread nD τ).loc main_arg1)) j := by
  idx_vars y
  idx_vars j
  obtain rfl : j1 = y1 := Fin.ext h1
  rw [goal_apply]
  pointwise [k0_pay1]
  simp only [weight, fun d => input m c t y0 d j0 h0]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  refine entry m c t y _ ?_ ?_ <;> blk_simp [places t] <;> try omega

end Cert.Proof.Gates

end
-- ==== Proof.Norm.lean ====
/-
  The residual and layer norm after a sub-layer: with `z = alpha * x + h`,
  `main_v2_0 = (z - mean z) * rsqrt (var z + eps) * gain + bias`, and `main_v2_1` the same rounded to bf16.

  The grid walks 41 blocks of 256 whole rows, so each point has all that a row's mean and variance need.
-/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Norm

open Cert.NormIdeal Cert.NormIdeal.Gen

/-- The residual sum `z = alpha * x + h`. -/
def residual (x : FVec Ideal S10496x4096 .f32) (h : FVec Ideal S10496x4096 .bf16) : FVec Ideal S10496x4096 .f32 :=
  addf (mulf (broadcastInDim Cert.NormRefIdeal.S10496x4096 ![] Cert.NormRefIdeal.Gen.bcast_S_S10496x4096 (constant Cert.NormRefIdeal.S_ .f32 0x3FD744FD#32)) x) (extf .f32 h Cert.NormRefIdeal.Gen.bitsLt_bf16_f32)

/-- Each row of `z` less its mean. -/
def centred (x : FVec Ideal S10496x4096 .f32) (h : FVec Ideal S10496x4096 .bf16) : FVec Ideal S10496x4096 .f32 :=
  subf (residual x h) (broadcastInDim Cert.NormRefIdeal.S10496x4096 ![0, 1] Cert.NormRefIdeal.Gen.bcast_S10496x1_S10496x4096_0_1 (Host.divf (broadcastInDim Cert.NormRefIdeal.S10496x1 ![0] Cert.NormRefIdeal.Gen.bcast_S10496_S10496x1_0 (Host.reduceAdd (residual x h) (constant Cert.NormRefIdeal.S_ .f32 0x00000000#32) Cert.NormRefIdeal.Gen.reducesTo_S10496x4096_S10496_d1 Cert.NormRefIdeal.Gen.h_S_)) (broadcastInDim Cert.NormRefIdeal.S10496x1 ![] Cert.NormRefIdeal.Gen.bcast_S_S10496x1 (constant Cert.NormRefIdeal.S_ .f32 0x45800000#32))))

/-- Each row's reciprocal standard deviation. -/
def scale (x : FVec Ideal S10496x4096 .f32) (h : FVec Ideal S10496x4096 .bf16) : FVec Ideal Cert.NormRefIdeal.S10496x1 .f32 :=
  Host.rsqrt (addf (Host.divf (broadcastInDim Cert.NormRefIdeal.S10496x1 ![0] Cert.NormRefIdeal.Gen.bcast_S10496_S10496x1_0 (Host.reduceAdd (mulf (centred x h) (centred x h)) (constant Cert.NormRefIdeal.S_ .f32 0x00000000#32) Cert.NormRefIdeal.Gen.reducesTo_S10496x4096_S10496_d1 Cert.NormRefIdeal.Gen.h_S_)) (broadcastInDim Cert.NormRefIdeal.S10496x1 ![] Cert.NormRefIdeal.Gen.bcast_S_S10496x1 (constant Cert.NormRefIdeal.S_ .f32 0x45800000#32))) (broadcastInDim Cert.NormRefIdeal.S10496x1 ![] Cert.NormRefIdeal.Gen.bcast_S_S10496x1 (constant Cert.NormRefIdeal.S_ .f32 0x358637BD#32)))

/-- The reference's first result as a function of the four arguments. -/
def goal (x : FVec Ideal S10496x4096 .f32) (h : FVec Ideal S10496x4096 .bf16) (gain bias : FVec Ideal S4096 .f32) : FVec Ideal S10496x4096 .f32 :=
  addf (mulf (mulf (centred x h) (broadcastInDim Cert.NormRefIdeal.S10496x4096 ![0, 1] Cert.NormRefIdeal.Gen.bcast_S10496x1_S10496x4096_0_1 (scale x h))) (broadcastInDim Cert.NormRefIdeal.S10496x4096 ![0, 1] Cert.NormRefIdeal.Gen.bcast_S1x4096_S10496x4096_0_1 (broadcastInDim Cert.NormRefIdeal.S1x4096 ![1] Cert.NormRefIdeal.Gen.bcast_S4096_S1x4096_1 gain))) (broadcastInDim Cert.NormRefIdeal.S10496x4096 ![0, 1] Cert.NormRefIdeal.Gen.bcast_S1x4096_S10496x4096_0_1 (broadcastInDim Cert.NormRefIdeal.S1x4096 ![1] Cert.NormRefIdeal.Gen.bcast_S4096_S1x4096_1 bias))

/-- Where the blocks of point `t` sit. -/
theorem places : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

/-- The entry a point computes at row `i 0` of its block is the reference's entry where that row sits in the array. -/
theorem entry (c : Dev nD) (t : Fin cfg0.N) (y : S256x4096.Idx) (j : S10496x4096.Idx)
    (h0 : (j 0 : ℕ) = 256 * t.val + y 0) (h1 : (j 1 : ℕ) = y 1) :
    k0_pay1 (F := Ideal) (iblk m c 0 t) (iblk m c 1 t) (iblk m c 2 t) (iblk m c 3 t) y
    = goal (m ((c : Thread nD τ).loc main_arg0)) (m ((c : Thread nD τ).loc main_arg1)) (m ((c : Thread nD τ).loc main_arg2))
      (m ((c : Thread nD τ).loc main_arg3)) j := by
  pointwise [k0_pay1, goal, scale, centred, residual]
  blk_point [iblk, V, places t]

theorem final4 (c : Dev nD) : (dats m 0 c).arrAt 4 cfg0.N
    = goal (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  frame_out
  refine entry m c t y _ ?_ ?_ <;> blk_simp [places t] <;> try omega

theorem final5 (c : Dev nD) : (dats m 0 c).arrAt 5 cfg0.N
    = truncf .bf16 (goal (m ((c : Thread nD τ).loc main_arg0)) (m ((c : Thread nD τ).loc main_arg1))
      (m ((c : Thread nD τ).loc main_arg2)) (m ((c : Thread nD τ).loc main_arg3))) Cert.NormRefIdeal.Gen.bitsLt_bf16_f32 := by
  refine (dats m 0 c).arrAt_eq_of_covers 5 _ (by decide +kernel) fun t _ y => ?_
  blk_simp
  rw [after0_5]
  frame_out
  refine entry m c t y _ ?_ ?_ <;> blk_simp [places t] <;> try omega

end Cert.Proof.Norm

end
-- ==== Proof.Claims.lean ====
/-
  The claims one by one: every run ends with its arguments kept and its semaphores at zero, and each kernel's results
  are its reference's.
-/
module

public import proofs.«01_k».proof.Defs
public import proofs.«01_k».proof.Proof.Attn
public import proofs.«01_k».proof.Proof.Up
public import proofs.«01_k».proof.Proof.Down
public import proofs.«01_k».proof.Proof.WIn
public import proofs.«01_k».proof.Proof.WO
public import proofs.«01_k».proof.Proof.DQ
public import proofs.«01_k».proof.Proof.UQ
public import proofs.«01_k».proof.Proof.DKV
public import proofs.«01_k».proof.Proof.KVPost
public import proofs.«01_k».proof.Proof.KS
public import proofs.«01_k».proof.Proof.VS
public import proofs.«01_k».proof.Proof.KP
public import proofs.«01_k».proof.Proof.VP
public import proofs.«01_k».proof.Proof.Gates
public import proofs.«01_k».proof.Proof.Norm
public import proofs.«01_k».proof.Proof.Gen.Kernel.Frame
public import proofs.«01_k».proof.Proof.Gen.KernelIdeal.Frame
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.WIn.Frame
public import proofs.«01_k».proof.Proof.Gen.WInIdeal.Frame
public import proofs.«01_k».proof.Proof.Gen.WO.Frame
public import proofs.«01_k».proof.Proof.Gen.WOIdeal.Frame
public import proofs.«01_k».proof.Proof.Gen.DQ.Frame
public import proofs.«01_k».proof.Proof.Gen.DQIdeal.Frame
public import proofs.«01_k».proof.Proof.Gen.UQ.Frame
public import proofs.«01_k».proof.Proof.Gen.UQIdeal.Frame
public import proofs.«01_k».proof.Proof.Gen.DKV.Frame
public import proofs.«01_k».proof.Proof.Gen.DKVIdeal.Frame
public import proofs.«01_k».proof.Proof.Gen.KVPost.Frame
public import proofs.«01_k».proof.Proof.Gen.KVPostIdeal.Frame
public import proofs.«01_k».proof.Proof.Gen.KS.Frame
public import proofs.«01_k».proof.Proof.Gen.KSIdeal.Frame
public import proofs.«01_k».proof.Proof.Gen.VS.Frame
public import proofs.«01_k».proof.Proof.Gen.VSIdeal.Frame
public import proofs.«01_k».proof.Proof.Gen.KP.Frame
public import proofs.«01_k».proof.Proof.Gen.KPIdeal.Frame
public import proofs.«01_k».proof.Proof.Gen.VP.Frame
public import proofs.«01_k».proof.Proof.Gen.VPIdeal.Frame
public import proofs.«01_k».proof.Proof.Gen.Gates.Frame
public import proofs.«01_k».proof.Proof.Gen.GatesIdeal.Frame
public import proofs.«01_k».proof.Proof.Gen.Norm.Frame
public import proofs.«01_k».proof.Proof.Gen.NormIdeal.Frame
public import proofs.«01_k».proof.Proof.Gen.Pre_finite
public import Idealize.ShloMosaic.Adequacy
public import Idealize.ShloMosaic.Init

@[expose] public section

set_option maxRecDepth 16384

noncomputable section

open Idealize.ShloMosaic Idealize.ShloMosaic.TcCoe Idealize.SL.Sem

namespace Cert.Proof.Claims

/-! ## The frames -/

theorem frame_Kernel : Cert.quiescent_Kernel := fun m ρ _ => Cert.Kernel.Gen.frame m ρ
theorem frame_KernelIdeal : Cert.quiescent_KernelIdeal := fun m ρ _ => Cert.KernelIdeal.Gen.frame m ρ
theorem frame_KernelIdeal_pre : Cert.quiescent_KernelIdeal_pre_finite := fun m ρ _ => Cert.KernelIdeal.Gen.frame m ρ
theorem frame_Reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
theorem frame_Reference_pre : Cert.quiescent_ReferenceIdeal_pre_finite := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_Up : Cert.quiescent_Up := fun m ρ _ => Cert.Up.Gen.frame m ρ
theorem frame_UpIdeal : Cert.quiescent_UpIdeal := fun m ρ _ => Cert.UpIdeal.Gen.frame m ρ
theorem frame_UpRef : Cert.quiescent_UpRefIdeal := fun m ρ _ =>
  (θ_run Cert.UpRefIdeal.defs _ _).mono
    (fun r h => ⟨fun c => (h c).2, Idealize.ShloMosaic.sem_eq_zero_of_no_sems (by decide) r.2⟩)
    (Cert.UpRefIdeal.Value.run (F := Ideal) m ρ)

theorem frame_Down : Cert.quiescent_Down := fun m ρ _ => Cert.Down.Gen.frame m ρ
theorem frame_DownIdeal : Cert.quiescent_DownIdeal := fun m ρ _ => Cert.DownIdeal.Gen.frame m ρ
theorem frame_DownRef : Cert.quiescent_DownRefIdeal := fun m ρ _ =>
  (θ_run Cert.DownRefIdeal.defs _ _).mono
    (fun r h => ⟨fun c => (h c).2, Idealize.ShloMosaic.sem_eq_zero_of_no_sems (by decide) r.2⟩)
    (Cert.DownRefIdeal.Value.run (F := Ideal) m ρ)

theorem frame_WIn : Cert.quiescent_WIn := fun m ρ _ => Cert.WIn.Gen.frame m ρ
theorem frame_WInIdeal : Cert.quiescent_WInIdeal := fun m ρ _ => Cert.WInIdeal.Gen.frame m ρ
theorem frame_WInRef : Cert.quiescent_WInRefIdeal := fun m ρ _ =>
  (θ_run Cert.WInRefIdeal.defs _ _).mono
    (fun r h => ⟨fun c => (h c).2, Idealize.ShloMosaic.sem_eq_zero_of_no_sems (by decide) r.2⟩)
    (Cert.WInRefIdeal.Value.run (F := Ideal) m ρ)

theorem frame_WO : Cert.quiescent_WO := fun m ρ _ => Cert.WO.Gen.frame m ρ
theorem frame_WOIdeal : Cert.quiescent_WOIdeal := fun m ρ _ => Cert.WOIdeal.Gen.frame m ρ
theorem frame_WORef : Cert.quiescent_WORefIdeal := fun m ρ _ =>
  (θ_run Cert.WORefIdeal.defs _ _).mono
    (fun r h => ⟨fun c => (h c).2, Idealize.ShloMosaic.sem_eq_zero_of_no_sems (by decide) r.2⟩)
    (Cert.WORefIdeal.Value.run (F := Ideal) m ρ)

theorem frame_DQ : Cert.quiescent_DQ := fun m ρ _ => Cert.DQ.Gen.frame m ρ
theorem frame_DQIdeal : Cert.quiescent_DQIdeal := fun m ρ _ => Cert.DQIdeal.Gen.frame m ρ
theorem frame_DQRef : Cert.quiescent_DQRefIdeal := fun m ρ _ =>
  (θ_run Cert.DQRefIdeal.defs _ _).mono
    (fun r h => ⟨fun c => (h c).2, Idealize.ShloMosaic.sem_eq_zero_of_no_sems (by decide) r.2⟩)
    (Cert.DQRefIdeal.Value.run (F := Ideal) m ρ)

theorem frame_UQ : Cert.quiescent_UQ := fun m ρ _ => Cert.UQ.Gen.frame m ρ
theorem frame_UQIdeal : Cert.quiescent_UQIdeal := fun m ρ _ => Cert.UQIdeal.Gen.frame m ρ
theorem frame_UQRef : Cert.quiescent_UQRefIdeal := fun m ρ _ =>
  (θ_run Cert.UQRefIdeal.defs _ _).mono
    (fun r h => ⟨fun c => (h c).2, Idealize.ShloMosaic.sem_eq_zero_of_no_sems (by decide) r.2⟩)
    (Cert.UQRefIdeal.Value.run (F := Ideal) m ρ)

theorem frame_DKV : Cert.quiescent_DKV := fun m ρ _ => Cert.DKV.Gen.frame m ρ
theorem frame_DKVIdeal : Cert.quiescent_DKVIdeal := fun m ρ _ => Cert.DKVIdeal.Gen.frame m ρ
theorem frame_DKVRef : Cert.quiescent_DKVRefIdeal := fun m ρ _ =>
  (θ_run Cert.DKVRefIdeal.defs _ _).mono
    (fun r h => ⟨fun c => (h c).2, Idealize.ShloMosaic.sem_eq_zero_of_no_sems (by decide) r.2⟩)
    (Cert.DKVRefIdeal.Value.run (F := Ideal) m ρ)

theorem frame_KVPost : Cert.quiescent_KVPost := fun m ρ _ => Cert.KVPost.Gen.frame m ρ
theorem frame_KVPostIdeal : Cert.quiescent_KVPostIdeal := fun m ρ _ => Cert.KVPostIdeal.Gen.frame m ρ
theorem frame_KVPostRef : Cert.quiescent_KVPostRefIdeal := fun m ρ _ =>
  (θ_run Cert.KVPostRefIdeal.defs _ _).mono
    (fun r h => ⟨fun c => (h c).2, Idealize.ShloMosaic.sem_eq_zero_of_no_sems (by decide) r.2⟩)
    (Cert.KVPostRefIdeal.Value.run (F := Ideal) m ρ)

theorem frame_KS : Cert.quiescent_KS := fun m ρ _ => Cert.KS.Gen.frame m ρ
theorem frame_KSIdeal : Cert.quiescent_KSIdeal := fun m ρ _ => Cert.KSIdeal.Gen.frame m ρ
theorem frame_KSRef : Cert.quiescent_KSRefIdeal := fun m ρ _ =>
  (θ_run Cert.KSRefIdeal.defs _ _).mono
    (fun r h => ⟨fun c => (h c).2, Idealize.ShloMosaic.sem_eq_zero_of_no_sems (by decide) r.2⟩)
    (Cert.KSRefIdeal.Value.run (F := Ideal) m ρ)

theorem frame_VS : Cert.quiescent_VS := fun m ρ _ => Cert.VS.Gen.frame m ρ
theorem frame_VSIdeal : Cert.quiescent_VSIdeal := fun m ρ _ => Cert.VSIdeal.Gen.frame m ρ
theorem frame_VSRef : Cert.quiescent_VSRefIdeal := fun m ρ _ =>
  (θ_run Cert.VSRefIdeal.defs _ _).mono
    (fun r h => ⟨fun c => (h c).2, Idealize.ShloMosaic.sem_eq_zero_of_no_sems (by decide) r.2⟩)
    (Cert.VSRefIdeal.Value.run (F := Ideal) m ρ)

theorem frame_KP : Cert.quiescent_KP := fun m ρ _ => Cert.KP.Gen.frame m ρ
theorem frame_KPIdeal : Cert.quiescent_KPIdeal := fun m ρ _ => Cert.KPIdeal.Gen.frame m ρ
theorem frame_KPRef : Cert.quiescent_KPRefIdeal := fun m ρ _ =>
  (θ_run Cert.KPRefIdeal.defs _ _).mono
    (fun r h => ⟨fun c => (h c).2, Idealize.ShloMosaic.sem_eq_zero_of_no_sems (by decide) r.2⟩)
    (Cert.KPRefIdeal.Value.run (F := Ideal) m ρ)

theorem frame_VP : Cert.quiescent_VP := fun m ρ _ => Cert.VP.Gen.frame m ρ
theorem frame_VPIdeal : Cert.quiescent_VPIdeal := fun m ρ _ => Cert.VPIdeal.Gen.frame m ρ
theorem frame_VPRef : Cert.quiescent_VPRefIdeal := fun m ρ _ =>
  (θ_run Cert.VPRefIdeal.defs _ _).mono
    (fun r h => ⟨fun c => (h c).2, Idealize.ShloMosaic.sem_eq_zero_of_no_sems (by decide) r.2⟩)
    (Cert.VPRefIdeal.Value.run (F := Ideal) m ρ)

theorem frame_Gates : Cert.quiescent_Gates := fun m ρ _ => Cert.Gates.Gen.frame m ρ
theorem frame_GatesIdeal : Cert.quiescent_GatesIdeal := fun m ρ _ => Cert.GatesIdeal.Gen.frame m ρ
theorem frame_GatesRef : Cert.quiescent_GatesRefIdeal := fun m ρ _ =>
  (θ_run Cert.GatesRefIdeal.defs _ _).mono
    (fun r h => ⟨fun c => (h c).2, Idealize.ShloMosaic.sem_eq_zero_of_no_sems (by decide) r.2⟩)
    (Cert.GatesRefIdeal.Value.run (F := Ideal) m ρ)

theorem frame_Norm : Cert.quiescent_Norm := fun m ρ _ => Cert.Norm.Gen.frame m ρ
theorem frame_NormIdeal : Cert.quiescent_NormIdeal := fun m ρ _ => Cert.NormIdeal.Gen.frame m ρ
theorem frame_NormRef : Cert.quiescent_NormRefIdeal := fun m ρ _ =>
  (θ_run Cert.NormRefIdeal.defs _ _).mono
    (fun r h => ⟨fun c => (h c).2.2, Idealize.ShloMosaic.sem_eq_zero_of_no_sems (by decide) r.2⟩)
    (Cert.NormRefIdeal.Value.run (F := Ideal) m ρ)

/-! ## The values -/

/-- The sample attention, at finite queries and keys. -/
theorem attention : Cert.algebraic_KernelIdeal_ReferenceIdeal_pre_finite := by
  intro m ρ m' ρ' hpre hagree
  refine ⟨fun c => AttnRef.goal (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)), ?_, ?_⟩
  · exact (θ_run Cert.KernelIdeal.defs _ _).mono
      (fun _ h c => ⟨(h c).1.trans (Attn.final_eq m c (hpre c)), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    rw [AttnRef.result, h0, h1, h2, h3, h4]

/-- The up-projection and squared ReLU. -/
theorem value_Up : Cert.algebraic_UpIdeal_UpRefIdeal := by
  intro m ρ m' ρ' _ hagree
  refine ⟨fun c => Up.goal (m ((c.tc : Thread _ _).loc Cert.UpIdeal.main_arg0)) (m ((c.tc : Thread _ _).loc Cert.UpIdeal.main_arg1)), ?_, ?_⟩
  · exact (θ_run Cert.UpIdeal.defs _ _).mono (fun _ h c => ⟨(h c).1.trans (Up.final m c), (h c).2⟩)
      (Cert.UpIdeal.Value.run_blocks m ρ)
  · refine (θ_run Cert.UpRefIdeal.defs _ _).mono (fun _ h c => ⟨(h c).1.trans ?_, (h c).2⟩)
      (Cert.UpRefIdeal.Value.run (F := Ideal) m' ρ')
    rw [(hagree c).1, (hagree c).2]
    rfl

/-- The down-projection. -/
theorem value_Down : Cert.algebraic_DownIdeal_DownRefIdeal := by
  intro m ρ m' ρ' _ hagree
  refine ⟨fun c => Down.goal (m ((c.tc : Thread _ _).loc Cert.DownIdeal.main_arg0)) (m ((c.tc : Thread _ _).loc Cert.DownIdeal.main_arg1)), ?_, ?_⟩
  · exact (θ_run Cert.DownIdeal.defs _ _).mono (fun _ h c => ⟨(h c).1.trans (Down.final m c), (h c).2⟩)
      (Cert.DownIdeal.Value.run_blocks m ρ)
  · refine (θ_run Cert.DownRefIdeal.defs _ _).mono (fun _ h c => ⟨(h c).1.trans ?_, (h c).2⟩)
      (Cert.DownRefIdeal.Value.run (F := Ideal) m' ρ')
    rw [(hagree c).1, (hagree c).2]
    rfl

/-- The input projection. -/
theorem value_WIn : Cert.algebraic_WInIdeal_WInRefIdeal := by
  intro m ρ m' ρ' _ hagree
  refine ⟨fun c => WIn.goal (m ((c.tc : Thread _ _).loc Cert.WInIdeal.main_arg0)) (m ((c.tc : Thread _ _).loc Cert.WInIdeal.main_arg1)), ?_, ?_⟩
  · exact (θ_run Cert.WInIdeal.defs _ _).mono (fun _ h c => ⟨(h c).1.trans (WIn.final m c), (h c).2⟩)
      (Cert.WInIdeal.Value.run_blocks m ρ)
  · refine (θ_run Cert.WInRefIdeal.defs _ _).mono (fun _ h c => ⟨(h c).1.trans ?_, (h c).2⟩)
      (Cert.WInRefIdeal.Value.run (F := Ideal) m' ρ')
    rw [(hagree c).1, (hagree c).2]
    rfl

/-- The output projection. -/
theorem value_WO : Cert.algebraic_WOIdeal_WORefIdeal := by
  intro m ρ m' ρ' _ hagree
  refine ⟨fun c => WO.goal (m ((c.tc : Thread _ _).loc Cert.WOIdeal.main_arg0)) (m ((c.tc : Thread _ _).loc Cert.WOIdeal.main_arg1)), ?_, ?_⟩
  · exact (θ_run Cert.WOIdeal.defs _ _).mono (fun _ h c => ⟨(h c).1.trans (WO.final m c), (h c).2⟩)
      (Cert.WOIdeal.Value.run_blocks m ρ)
  · refine (θ_run Cert.WORefIdeal.defs _ _).mono (fun _ h c => ⟨(h c).1.trans ?_, (h c).2⟩)
      (Cert.WORefIdeal.Value.run (F := Ideal) m' ρ')
    rw [(hagree c).1, (hagree c).2]
    rfl

/-- The queries' down-projection and its root mean square norm. -/
theorem value_DQ : Cert.algebraic_DQIdeal_DQRefIdeal := by
  intro m ρ m' ρ' _ hagree
  refine ⟨fun c => DQ.goal (m ((c.tc : Thread _ _).loc Cert.DQIdeal.main_arg0)) (m ((c.tc : Thread _ _).loc Cert.DQIdeal.main_arg1)) (m ((c.tc : Thread _ _).loc Cert.DQIdeal.main_arg2)), ?_, ?_⟩
  · exact (θ_run Cert.DQIdeal.defs _ _).mono (fun _ h c => ⟨(h c).1.trans (DQ.final m c), (h c).2⟩)
      (Cert.DQIdeal.Value.run_blocks m ρ)
  · refine (θ_run Cert.DQRefIdeal.defs _ _).mono (fun _ h c => ⟨(h c).1.trans ?_, (h c).2⟩)
      (Cert.DQRefIdeal.Value.run (F := Ideal) m' ρ')
    rw [(hagree c).1, (hagree c).2.1, (hagree c).2.2]
    rfl

/-- The queries' up-projection, the rotary columns turned and all scaled. -/
theorem value_UQ : Cert.algebraic_UQIdeal_UQRefIdeal := by
  intro m ρ m' ρ' _ hagree
  refine ⟨fun c => UQ.goal (m ((c.tc : Thread _ _).loc Cert.UQIdeal.main_arg0)) (m ((c.tc : Thread _ _).loc Cert.UQIdeal.main_arg1)) (m ((c.tc : Thread _ _).loc Cert.UQIdeal.main_arg2)), ?_, ?_⟩
  · exact UQ.run m ρ
  · refine (θ_run Cert.UQRefIdeal.defs _ _).mono (fun _ h c => ⟨(h c).1.trans ?_, (h c).2⟩)
      (Cert.UQRefIdeal.Value.run (F := Ideal) m' ρ')
    rw [show Cert.UQRefIdeal.Value.res_main_v40 m' c = UQ.goal (m' ((c.tc : Thread _ _).loc Cert.UQRefIdeal.main_arg0))
      (m' ((c.tc : Thread _ _).loc Cert.UQRefIdeal.main_arg1)) (m' ((c.tc : Thread _ _).loc Cert.UQRefIdeal.main_arg2)) from rfl,
      (hagree c).1, (hagree c).2.1, (hagree c).2.2]

/-- The down-projection to the latent, laid out. -/
theorem value_DKV : Cert.algebraic_DKVIdeal_DKVRefIdeal := by
  intro m ρ m' ρ' _ hagree
  refine ⟨fun c => DKV.goal (m ((c.tc : Thread _ _).loc Cert.DKVIdeal.main_arg0)) (m ((c.tc : Thread _ _).loc Cert.DKVIdeal.main_arg1)), ?_, ?_⟩
  · exact (θ_run Cert.DKVIdeal.defs _ _).mono (fun _ h c => ⟨(h c).1.trans (DKV.final m c), (h c).2⟩)
      (Cert.DKVIdeal.Value.run_blocks m ρ)
  · refine (θ_run Cert.DKVRefIdeal.defs _ _).mono (fun _ h c => ⟨(h c).1.trans ?_, (h c).2⟩)
      (Cert.DKVRefIdeal.Value.run (F := Ideal) m' ρ')
    rw [(hagree c).1, (hagree c).2]
    rfl

/-- The latent's norm and the turned rotary columns. -/
theorem value_KVPost : Cert.algebraic_KVPostIdeal_KVPostRefIdeal := by
  intro m ρ m' ρ' _ hagree
  refine ⟨fun c => KVPost.goal (m ((c.tc : Thread _ _).loc Cert.KVPostIdeal.main_arg0)) (m ((c.tc : Thread _ _).loc Cert.KVPostIdeal.main_arg1)) (m ((c.tc : Thread _ _).loc Cert.KVPostIdeal.main_arg2)), ?_, ?_⟩
  · exact (θ_run Cert.KVPostIdeal.defs _ _).mono (fun _ h c => ⟨(h c).1.trans (KVPost.final m c), (h c).2⟩)
      (Cert.KVPostIdeal.Value.run_blocks m ρ)
  · refine (θ_run Cert.KVPostRefIdeal.defs _ _).mono (fun _ h c => ⟨(h c).1.trans ?_, (h c).2⟩)
      (Cert.KVPostRefIdeal.Value.run (F := Ideal) m' ρ')
    rw [show Cert.KVPostRefIdeal.Value.res_main_v45 m' c = KVPost.goal (m' ((c.tc : Thread _ _).loc Cert.KVPostRefIdeal.main_arg0))
      (m' ((c.tc : Thread _ _).loc Cert.KVPostRefIdeal.main_arg1)) (m' ((c.tc : Thread _ _).loc Cert.KVPostRefIdeal.main_arg2)) from rfl,
      (hagree c).1, (hagree c).2.1, (hagree c).2.2]

/-- The keys of the sample attention. -/
theorem value_KS : Cert.algebraic_KSIdeal_KSRefIdeal := by
  intro m ρ m' ρ' _ hagree
  refine ⟨fun c => KS.goal (m ((c.tc : Thread _ _).loc Cert.KSIdeal.main_arg0)) (m ((c.tc : Thread _ _).loc Cert.KSIdeal.main_arg1)), ?_, ?_⟩
  · exact (θ_run Cert.KSIdeal.defs _ _).mono (fun _ h c => ⟨(h c).1.trans (KS.final m c), (h c).2⟩)
      (Cert.KSIdeal.Value.run_blocks m ρ)
  · refine (θ_run Cert.KSRefIdeal.defs _ _).mono (fun _ h c => ⟨(h c).1.trans ?_, (h c).2⟩)
      (Cert.KSRefIdeal.Value.run (F := Ideal) m' ρ')
    rw [(hagree c).1, (hagree c).2]
    rfl

/-- The values of the sample attention. -/
theorem value_VS : Cert.algebraic_VSIdeal_VSRefIdeal := by
  intro m ρ m' ρ' _ hagree
  refine ⟨fun c => VS.goal (m ((c.tc : Thread _ _).loc Cert.VSIdeal.main_arg0)) (m ((c.tc : Thread _ _).loc Cert.VSIdeal.main_arg1)), ?_, ?_⟩
  · exact (θ_run Cert.VSIdeal.defs _ _).mono (fun _ h c => ⟨(h c).1.trans (VS.final m c), (h c).2⟩)
      (Cert.VSIdeal.Value.run_blocks m ρ)
  · refine (θ_run Cert.VSRefIdeal.defs _ _).mono (fun _ h c => ⟨(h c).1.trans ?_, (h c).2⟩)
      (Cert.VSRefIdeal.Value.run (F := Ideal) m' ρ')
    rw [(hagree c).1, (hagree c).2]
    rfl

/-- The keys of the prompt attention, rotary keys beside them. -/
theorem value_KP : Cert.algebraic_KPIdeal_KPRefIdeal := by
  intro m ρ m' ρ' _ hagree
  refine ⟨fun c => KP.goal (m ((c.tc : Thread _ _).loc Cert.KPIdeal.main_arg0)) (m ((c.tc : Thread _ _).loc Cert.KPIdeal.main_arg1)), ?_, ?_⟩
  · exact (θ_run Cert.KPIdeal.defs _ _).mono (fun _ h c => ⟨(h c).1.trans (KP.final m c), (h c).2⟩)
      (Cert.KPIdeal.Value.run_blocks m ρ)
  · refine (θ_run Cert.KPRefIdeal.defs _ _).mono (fun _ h c => ⟨(h c).1.trans ?_, (h c).2⟩)
      (Cert.KPRefIdeal.Value.run (F := Ideal) m' ρ')
    rw [(hagree c).1, (hagree c).2]
    rfl

/-- The values of the prompt attention, the one beside them. -/
theorem value_VP : Cert.algebraic_VPIdeal_VPRefIdeal := by
  intro m ρ m' ρ' _ hagree
  refine ⟨fun c => VP.goal (m ((c.tc : Thread _ _).loc Cert.VPIdeal.main_arg0)) (m ((c.tc : Thread _ _).loc Cert.VPIdeal.main_arg1)), ?_, ?_⟩
  · exact (θ_run Cert.VPIdeal.defs _ _).mono (fun _ h c => ⟨(h c).1.trans (VP.final m c), (h c).2⟩)
      (Cert.VPIdeal.Value.run_blocks m ρ)
  · refine (θ_run Cert.VPRefIdeal.defs _ _).mono (fun _ h c => ⟨(h c).1.trans ?_, (h c).2⟩)
      (Cert.VPRefIdeal.Value.run (F := Ideal) m' ρ')
    rw [(hagree c).1, (hagree c).2]
    rfl

/-- The gated DeltaNet's gates. -/
theorem value_Gates : Cert.algebraic_GatesIdeal_GatesRefIdeal := by
  intro m ρ m' ρ' _ hagree
  refine ⟨fun c => Gates.goal (m ((c.tc : Thread _ _).loc Cert.GatesIdeal.main_arg0)) (m ((c.tc : Thread _ _).loc Cert.GatesIdeal.main_arg1)), ?_, ?_⟩
  · exact (θ_run Cert.GatesIdeal.defs _ _).mono (fun _ h c => ⟨(h c).1.trans (Gates.final m c), (h c).2⟩)
      (Cert.GatesIdeal.Value.run_blocks m ρ)
  · refine (θ_run Cert.GatesRefIdeal.defs _ _).mono (fun _ h c => ⟨(h c).1.trans ?_, (h c).2⟩)
      (Cert.GatesRefIdeal.Value.run (F := Ideal) m' ρ')
    rw [(hagree c).1, (hagree c).2]
    rfl

/-- The residual and its norm, both results. -/
theorem value_Norm : Cert.algebraic_NormIdeal_NormRefIdeal := by
  intro m ρ m' ρ' _ hagree
  refine ⟨fun c => Norm.goal (m ((c.tc : Thread _ _).loc Cert.NormIdeal.main_arg0)) (m ((c.tc : Thread _ _).loc Cert.NormIdeal.main_arg1)) (m ((c.tc : Thread _ _).loc Cert.NormIdeal.main_arg2)) (m ((c.tc : Thread _ _).loc Cert.NormIdeal.main_arg3)), fun c => truncf .bf16 (Norm.goal (m ((c.tc : Thread _ _).loc Cert.NormIdeal.main_arg0)) (m ((c.tc : Thread _ _).loc Cert.NormIdeal.main_arg1)) (m ((c.tc : Thread _ _).loc Cert.NormIdeal.main_arg2)) (m ((c.tc : Thread _ _).loc Cert.NormIdeal.main_arg3))) Cert.NormRefIdeal.Gen.bitsLt_bf16_f32, ?_, ?_⟩
  · exact (θ_run Cert.NormIdeal.defs _ _).mono
      (fun _ h c => ⟨(h c).1.trans (Norm.final4 m c), (h c).2.1.trans (Norm.final5 m c), (h c).2.2⟩)
      (Cert.NormIdeal.Value.run_blocks m ρ)
  · refine (θ_run Cert.NormRefIdeal.defs _ _).mono (fun _ h c => ⟨(h c).1.trans ?_, (h c).2.1.trans ?_, (h c).2.2⟩)
      (Cert.NormRefIdeal.Value.run (F := Ideal) m' ρ')
    · rw [(hagree c).1, (hagree c).2.1, (hagree c).2.2.1, (hagree c).2.2.2]
      rfl
    · rw [(hagree c).1, (hagree c).2.1, (hagree c).2.2.1, (hagree c).2.2.2]
      rfl

end Cert.Proof.Claims

end
-- ==== Proof.lean ====
/-
  The certificate: the sample attention and fourteen more calls of the layer end with their arguments kept and their
  semaphores at zero, and compute what their references do. The claims are proved one by one in `Proof/Claims.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInRefIdeal
public import proofs.«01_k».proof.Proof.Gen.WO
public import proofs.«01_k».proof.Proof.Gen.WO.Skeleton
public import proofs.«01_k».proof.Proof.Gen.WO.Launch
public import proofs.«01_k».proof.Proof.Gen.WO.Points
public import proofs.«01_k».proof.Proof.Gen.WO.Frame
public import proofs.«01_k».proof.Proof.Gen.WOIdeal
public import proofs.«01_k».proof.Proof.Gen.WOIdeal.Skeleton
public import proofs.«01_k».proof.Proof.Gen.WOIdeal.Launch
public import proofs.«01_k».proof.Proof.Gen.WOIdeal.Points
public import proofs.«01_k».proof.Proof.Gen.WOIdeal.Frame
public import proofs.«01_k».proof.Proof.Gen.WORefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Pre_finite
public import proofs.«01_k».proof.Proof.Gen.KernelIdeal.Value
public import proofs.«01_k».proof.Proof.Gen.UpIdeal.Value
public import proofs.«01_k».proof.Proof.Gen.DownIdeal.Value
public import proofs.«01_k».proof.Proof.Gen.WInIdeal.Value
public import proofs.«01_k».proof.Proof.Gen.WOIdeal.Value
public import proofs.«01_k».proof.Proof.Gen.NormIdeal.Value
public import proofs.«01_k».proof.Proof.Gen.ReferenceIdeal.Run
public import proofs.«01_k».proof.Proof.Gen.UpRefIdeal.Run
public import proofs.«01_k».proof.Proof.Gen.DownRefIdeal.Run
public import proofs.«01_k».proof.Proof.Gen.WInRefIdeal.Run
public import proofs.«01_k».proof.Proof.Gen.WORefIdeal.Run
public import proofs.«01_k».proof.Proof.Gen.NormRefIdeal.Run
public import proofs.«01_k».proof.Proof.Gen.DQ
public import proofs.«01_k».proof.Proof.Gen.DQ.Skeleton
public import proofs.«01_k».proof.Proof.Gen.DQ.Launch
public import proofs.«01_k».proof.Proof.Gen.DQ.Points
public import proofs.«01_k».proof.Proof.Gen.DQ.Frame
public import proofs.«01_k».proof.Proof.Gen.DQIdeal
public import proofs.«01_k».proof.Proof.Gen.DQIdeal.Skeleton
public import proofs.«01_k».proof.Proof.Gen.DQIdeal.Launch
public import proofs.«01_k».proof.Proof.Gen.DQIdeal.Points
public import proofs.«01_k».proof.Proof.Gen.DQIdeal.Frame
public import proofs.«01_k».proof.Proof.Gen.DQRefIdeal
public import proofs.«01_k».proof.Proof.Gen.DQRefIdeal.Run
public import proofs.«01_k».proof.Proof.Gen.DQIdeal.Value
public import proofs.«01_k».proof.Proof.Gen.UQ
public import proofs.«01_k».proof.Proof.Gen.UQ.Skeleton
public import proofs.«01_k».proof.Proof.Gen.UQ.Launch
public import proofs.«01_k».proof.Proof.Gen.UQ.Points
public import proofs.«01_k».proof.Proof.Gen.UQ.Frame
public import proofs.«01_k».proof.Proof.Gen.UQIdeal
public import proofs.«01_k».proof.Proof.Gen.UQIdeal.Skeleton
public import proofs.«01_k».proof.Proof.Gen.UQIdeal.Launch
public import proofs.«01_k».proof.Proof.Gen.UQIdeal.Points
public import proofs.«01_k».proof.Proof.Gen.UQIdeal.Frame
public import proofs.«01_k».proof.Proof.Gen.UQRefIdeal
public import proofs.«01_k».proof.Proof.Gen.UQRefIdeal.Run
public import proofs.«01_k».proof.Proof.Gen.DKV
public import proofs.«01_k».proof.Proof.Gen.DKV.Skeleton
public import proofs.«01_k».proof.Proof.Gen.DKV.Launch
public import proofs.«01_k».proof.Proof.Gen.DKV.Points
public import proofs.«01_k».proof.Proof.Gen.DKV.Frame
public import proofs.«01_k».proof.Proof.Gen.DKVIdeal
public import proofs.«01_k».proof.Proof.Gen.DKVIdeal.Skeleton
public import proofs.«01_k».proof.Proof.Gen.DKVIdeal.Launch
public import proofs.«01_k».proof.Proof.Gen.DKVIdeal.Points
public import proofs.«01_k».proof.Proof.Gen.DKVIdeal.Frame
public import proofs.«01_k».proof.Proof.Gen.DKVRefIdeal
public import proofs.«01_k».proof.Proof.Gen.DKVRefIdeal.Run
public import proofs.«01_k».proof.Proof.Gen.DKVIdeal.Value
public import proofs.«01_k».proof.Proof.Gen.KVPost
public import proofs.«01_k».proof.Proof.Gen.KVPost.Skeleton
public import proofs.«01_k».proof.Proof.Gen.KVPost.Launch
public import proofs.«01_k».proof.Proof.Gen.KVPost.Points
public import proofs.«01_k».proof.Proof.Gen.KVPost.Frame
public import proofs.«01_k».proof.Proof.Gen.KVPostIdeal
public import proofs.«01_k».proof.Proof.Gen.KVPostIdeal.Skeleton
public import proofs.«01_k».proof.Proof.Gen.KVPostIdeal.Launch
public import proofs.«01_k».proof.Proof.Gen.KVPostIdeal.Points
public import proofs.«01_k».proof.Proof.Gen.KVPostIdeal.Frame
public import proofs.«01_k».proof.Proof.Gen.KVPostRefIdeal
public import proofs.«01_k».proof.Proof.Gen.KVPostRefIdeal.Run
public import proofs.«01_k».proof.Proof.Gen.KVPostIdeal.Value
public import proofs.«01_k».proof.Proof.Gen.KS
public import proofs.«01_k».proof.Proof.Gen.KS.Skeleton
public import proofs.«01_k».proof.Proof.Gen.KS.Launch
public import proofs.«01_k».proof.Proof.Gen.KS.Points
public import proofs.«01_k».proof.Proof.Gen.KS.Frame
public import proofs.«01_k».proof.Proof.Gen.KSIdeal
public import proofs.«01_k».proof.Proof.Gen.KSIdeal.Skeleton
public import proofs.«01_k».proof.Proof.Gen.KSIdeal.Launch
public import proofs.«01_k».proof.Proof.Gen.KSIdeal.Points
public import proofs.«01_k».proof.Proof.Gen.KSIdeal.Frame
public import proofs.«01_k».proof.Proof.Gen.KSIdeal.Value
public import proofs.«01_k».proof.Proof.Gen.KSRefIdeal
public import proofs.«01_k».proof.Proof.Gen.KSRefIdeal.Run
public import proofs.«01_k».proof.Proof.Gen.VS
public import proofs.«01_k».proof.Proof.Gen.VS.Skeleton
public import proofs.«01_k».proof.Proof.Gen.VS.Launch
public import proofs.«01_k».proof.Proof.Gen.VS.Points
public import proofs.«01_k».proof.Proof.Gen.VS.Frame
public import proofs.«01_k».proof.Proof.Gen.VSIdeal
public import proofs.«01_k».proof.Proof.Gen.VSIdeal.Skeleton
public import proofs.«01_k».proof.Proof.Gen.VSIdeal.Launch
public import proofs.«01_k».proof.Proof.Gen.VSIdeal.Points
public import proofs.«01_k».proof.Proof.Gen.VSIdeal.Frame
public import proofs.«01_k».proof.Proof.Gen.VSIdeal.Value
public import proofs.«01_k».proof.Proof.Gen.VSRefIdeal
public import proofs.«01_k».proof.Proof.Gen.VSRefIdeal.Run
public import proofs.«01_k».proof.Proof.Gen.KP
public import proofs.«01_k».proof.Proof.Gen.KP.Skeleton
public import proofs.«01_k».proof.Proof.Gen.KP.Launch
public import proofs.«01_k».proof.Proof.Gen.KP.Points
public import proofs.«01_k».proof.Proof.Gen.KP.Frame
public import proofs.«01_k».proof.Proof.Gen.KPIdeal
public import proofs.«01_k».proof.Proof.Gen.KPIdeal.Skeleton
public import proofs.«01_k».proof.Proof.Gen.KPIdeal.Launch
public import proofs.«01_k».proof.Proof.Gen.KPIdeal.Points
public import proofs.«01_k».proof.Proof.Gen.KPIdeal.Frame
public import proofs.«01_k».proof.Proof.Gen.KPIdeal.Value
public import proofs.«01_k».proof.Proof.Gen.KPRefIdeal
public import proofs.«01_k».proof.Proof.Gen.KPRefIdeal.Run
public import proofs.«01_k».proof.Proof.Gen.VP
public import proofs.«01_k».proof.Proof.Gen.VP.Skeleton
public import proofs.«01_k».proof.Proof.Gen.VP.Launch
public import proofs.«01_k».proof.Proof.Gen.VP.Points
public import proofs.«01_k».proof.Proof.Gen.VP.Frame
public import proofs.«01_k».proof.Proof.Gen.VPIdeal
public import proofs.«01_k».proof.Proof.Gen.VPIdeal.Skeleton
public import proofs.«01_k».proof.Proof.Gen.VPIdeal.Launch
public import proofs.«01_k».proof.Proof.Gen.VPIdeal.Points
public import proofs.«01_k».proof.Proof.Gen.VPIdeal.Frame
public import proofs.«01_k».proof.Proof.Gen.VPIdeal.Value
public import proofs.«01_k».proof.Proof.Gen.VPRefIdeal
public import proofs.«01_k».proof.Proof.Gen.VPRefIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Up.Gen.facts, Cert.UpIdeal.Gen.facts, Cert.UpRefIdeal.Gen.facts, Cert.Down.Gen.facts, Cert.DownIdeal.Gen.facts, Cert.DownRefIdeal.Gen.facts, Cert.WIn.Gen.facts, Cert.WInIdeal.Gen.facts, Cert.WInRefIdeal.Gen.facts, Cert.WO.Gen.facts, Cert.WOIdeal.Gen.facts, Cert.WORefIdeal.Gen.facts, Cert.DQ.Gen.facts, Cert.DQIdeal.Gen.facts, Cert.DQRefIdeal.Gen.facts, Cert.UQ.Gen.facts, Cert.UQIdeal.Gen.facts, Cert.UQRefIdeal.Gen.facts, Cert.DKV.Gen.facts, Cert.DKVIdeal.Gen.facts, Cert.DKVRefIdeal.Gen.facts, Cert.KVPost.Gen.facts, Cert.KVPostIdeal.Gen.facts, Cert.KVPostRefIdeal.Gen.facts, Cert.KS.Gen.facts, Cert.KSIdeal.Gen.facts, Cert.KSRefIdeal.Gen.facts, Cert.VS.Gen.facts, Cert.VSIdeal.Gen.facts, Cert.VSRefIdeal.Gen.facts, Cert.KP.Gen.facts, Cert.KPIdeal.Gen.facts, Cert.KPRefIdeal.Gen.facts, Cert.VP.Gen.facts, Cert.VPIdeal.Gen.facts, Cert.VPRefIdeal.Gen.facts, Cert.Gates.Gen.facts, Cert.GatesIdeal.Gen.facts, Cert.GatesRefIdeal.Gen.facts, Cert.Norm.Gen.facts, Cert.NormIdeal.Gen.facts, Cert.NormRefIdeal.Gen.facts, Cert.Pre_finite.Gen.facts,
  open Claims in
    ⟨frame_Kernel, frame_KernelIdeal, frame_KernelIdeal_pre, frame_Reference, frame_Reference_pre, frame_Up, frame_UpIdeal, frame_UpRef, frame_Down, frame_DownIdeal, frame_DownRef, frame_WIn, frame_WInIdeal, frame_WInRef, frame_WO, frame_WOIdeal, frame_WORef, frame_DQ, frame_DQIdeal, frame_DQRef, frame_UQ, frame_UQIdeal, frame_UQRef, frame_DKV, frame_DKVIdeal, frame_DKVRef, frame_KVPost, frame_KVPostIdeal, frame_KVPostRef, frame_KS, frame_KSIdeal, frame_KSRef, frame_VS, frame_VSIdeal, frame_VSRef, frame_KP, frame_KPIdeal, frame_KPRef, frame_VP, frame_VPIdeal, frame_VPRef, frame_Gates, frame_GatesIdeal, frame_GatesRef, frame_Norm, frame_NormIdeal, frame_NormRef,
    IdealRules.named_const.statement _ _ _ _ _ rfl, attention, trivial, value_Up, trivial, value_Down, trivial, value_WIn, trivial, value_WO, trivial, value_DQ, trivial, value_UQ, trivial, value_DKV, trivial, value_KVPost, trivial, value_KS, trivial, value_VS, trivial, value_KP, trivial, value_VP, trivial, value_Gates, trivial, value_Norm⟩⟩

end Cert.Proof

end
